-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_drawn [hPre_inputs_drawn : Cert.Pre_inputs_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).1 = (fun _ => 1#1)
    ∧ (Cert.Pre_inputs_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.1 = (fun _ => 1#1)
    ∧ (Cert.Pre_inputs_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.1 = (fun _ => 1#1)
    ∧ (Cert.Pre_inputs_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.1 = (fun _ => 1#1)
    ∧ (Cert.Pre_inputs_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.1 = (fun _ => 1#1)
    ∧ (Cert.Pre_inputs_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.1 = (fun _ => 1#1)
    ∧ (Cert.Pre_inputs_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.1 = (fun _ => 1#1)
    ∧ (Cert.Pre_inputs_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.2.1 = (fun _ => 1#1)
    ∧ (Cert.Pre_inputs_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.2.2.1 = (fun _ => 1#1)
    ∧ (Cert.Pre_inputs_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.2.2.2.1 = (fun _ => 1#1)
    ∧ (Cert.Pre_inputs_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.2.2.2.2.1 = (fun _ => 1#1)
    ∧ (Cert.Pre_inputs_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))).2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_drawn [hPre_inputs_drawn : Cert.Pre_inputs_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).1 = (fun _ => 1#1)
    ∧ (Cert.Pre_inputs_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.1 = (fun _ => 1#1)
    ∧ (Cert.Pre_inputs_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.1 = (fun _ => 1#1)
    ∧ (Cert.Pre_inputs_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.1 = (fun _ => 1#1)
    ∧ (Cert.Pre_inputs_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.1 = (fun _ => 1#1)
    ∧ (Cert.Pre_inputs_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.1 = (fun _ => 1#1)
    ∧ (Cert.Pre_inputs_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.1 = (fun _ => 1#1)
    ∧ (Cert.Pre_inputs_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.2.1 = (fun _ => 1#1)
    ∧ (Cert.Pre_inputs_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.2.2.1 = (fun _ => 1#1)
    ∧ (Cert.Pre_inputs_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.2.2.2.1 = (fun _ => 1#1)
    ∧ (Cert.Pre_inputs_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.2.2.2.2.1 = (fun _ => 1#1)
    ∧ (Cert.Pre_inputs_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))).2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ r.2.sem = fun _ => 0)

def quiescent_KernelIdeal_pre_inputs_drawn [hKernelIdeal : Cert.KernelIdeal.Facts] [hPre_inputs_drawn : Cert.Pre_inputs_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))
      ∧ r.2.sem = fun _ => 0)

def quiescent_ReferenceIdeal_pre_inputs_drawn [hReferenceIdeal : Cert.ReferenceIdeal.Facts] [hPre_inputs_drawn : Cert.Pre_inputs_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_inputs_drawn [hKernelIdeal : Cert.KernelIdeal.Facts] [hReferenceIdeal : Cert.ReferenceIdeal.Facts] [hPre_inputs_drawn : Cert.Pre_inputs_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_inputs_drawn : Cert.Pre_inputs_drawn.Facts),
    quiescent_Kernel (hKernel := hKernel)
    ∧ quiescent_KernelIdeal (hKernelIdeal := hKernelIdeal)
    ∧ quiescent_KernelIdeal_pre_inputs_drawn (hKernelIdeal := hKernelIdeal) (hPre_inputs_drawn := hPre_inputs_drawn)
    ∧ quiescent_ReferenceIdeal (hReferenceIdeal := hReferenceIdeal)
    ∧ quiescent_ReferenceIdeal_pre_inputs_drawn (hReferenceIdeal := hReferenceIdeal) (hPre_inputs_drawn := hPre_inputs_drawn)
    ∧ preserves_Kernel_KernelIdeal
    ∧ algebraic_KernelIdeal_ReferenceIdeal_pre_inputs_drawn (hKernelIdeal := hKernelIdeal) (hReferenceIdeal := hReferenceIdeal) (hPre_inputs_drawn := hPre_inputs_drawn)
-- ==== Pre_inputs_drawn.lean ====
abbrev S64x200 : Shape := ⟨2, ![64, 200]⟩
abbrev S4000x4000 : Shape := ⟨2, ![4000, 4000]⟩
abbrev S4000x128 : Shape := ⟨2, ![4000, 128]⟩
abbrev S128x128 : Shape := ⟨2, ![128, 128]⟩
abbrev S128 : Shape := ⟨1, ![128]⟩
abbrev S201x128 : Shape := ⟨2, ![201, 128]⟩
abbrev S401x128 : Shape := ⟨2, ![401, 128]⟩
abbrev S50x128 : Shape := ⟨2, ![50, 128]⟩
abbrev S256x1 : Shape := ⟨2, ![256, 1]⟩
abbrev S1 : Shape := ⟨1, ![1]⟩
abbrev S256x128 : Shape := ⟨2, ![256, 128]⟩
abbrev S128x200 : Shape := ⟨2, ![128, 200]⟩
abbrev S200 : Shape := ⟨1, ![200]⟩
abbrev S_ : Shape := ⟨0, ![]⟩

class Facts : Prop where
  bcast_S_S64x200 : S_.BroadcastsInDim S64x200 (![] : Fin 0 → Fin S64x200.rank)
  bcast_S_S4000x4000 : S_.BroadcastsInDim S4000x4000 (![] : Fin 0 → Fin S4000x4000.rank)
  bcast_S_S4000x128 : S_.BroadcastsInDim S4000x128 (![] : Fin 0 → Fin S4000x128.rank)
  bcast_S_S128x128 : S_.BroadcastsInDim S128x128 (![] : Fin 0 → Fin S128x128.rank)
  bcast_S_S128 : S_.BroadcastsInDim S128 (![] : Fin 0 → Fin S128.rank)
  bcast_S_S201x128 : S_.BroadcastsInDim S201x128 (![] : Fin 0 → Fin S201x128.rank)
  bcast_S_S50x128 : S_.BroadcastsInDim S50x128 (![] : Fin 0 → Fin S50x128.rank)

variable [Facts]

def fn_part2 {F : FTy → Type} [FloatOps F] (main_arg11 : FVec F S50x128 .f32) (main_arg12 : FVec F S50x128 .f32) (main_v4 : IVec S64x200 1) (main_v9 : IVec S64x200 1) (main_v14 : IVec S64x200 1) (main_v17 : IVec S4000x4000 1) (main_v20 : IVec S4000x128 1) (main_v23 : IVec S128x128 1) (main_v26 : IVec S128 1) (main_v29 : IVec S128x128 1) (main_v32 : IVec S128 1) (main_v33 : FVec F S201x128 .f32) (main_v34 : FVec F S201x128 .f32) : IVec S64x200 1 × IVec S64x200 1 × IVec S64x200 1 × IVec S4000x4000 1 × IVec S4000x128 1 × IVec S128x128 1 × IVec S128 1 × IVec S128x128 1 × IVec S128 1 × IVec S201x128 1 × IVec S50x128 1 × IVec S50x128 1 :=
  let main_v35 : IVec S201x128 1 := cmpf .olt main_v33 main_v34
  let main_v36 : FVec F S50x128 .f32 := Host.absf main_arg11
  let main_cst_11 : FVec F S_ .f32 := constant S_ .f32 0x7F800000#32
  let main_v37 : FVec F S50x128 .f32 := broadcastInDim S50x128 ![] bcast_S_S50x128 main_cst_11
  let main_v38 : IVec S50x128 1 := cmpf .olt main_v36 main_v37
  let main_v39 : FVec F S50x128 .f32 := Host.absf main_arg12
  let main_cst_12 : FVec F S_ .f32 := constant S_ .f32 0x7F800000#32
  let main_v40 : FVec F S50x128 .f32 := broadcastInDim S50x128 ![] bcast_S_S50x128 main_cst_12
  let main_v41 : IVec S50x128 1 := cmpf .olt main_v39 main_v40
  (main_v4, main_v9, main_v14, main_v17, main_v20, main_v23, main_v26, main_v29, main_v32, main_v35, main_v38, main_v41)

def fn_part1 {F : FTy → Type} [FloatOps F] (main_arg4 : FVec F S4000x128 .f32) (main_arg5 : FVec F S128x128 .f32) (main_arg6 : FVec F S128 .f32) (main_arg7 : FVec F S128x128 .f32) (main_arg8 : FVec F S128 .f32) (main_arg9 : FVec F S201x128 .f32) (main_arg11 : FVec F S50x128 .f32) (main_arg12 : FVec F S50x128 .f32) (main_v4 : IVec S64x200 1) (main_v9 : IVec S64x200 1) (main_v14 : IVec S64x200 1) (main_v15 : FVec F S4000x4000 .f32) (main_v16 : FVec F S4000x4000 .f32) : IVec S64x200 1 × IVec S64x200 1 × IVec S64x200 1 × IVec S4000x4000 1 × IVec S4000x128 1 × IVec S128x128 1 × IVec S128 1 × IVec S128x128 1 × IVec S128 1 × IVec S201x128 1 × IVec S50x128 1 × IVec S50x128 1 :=
  let main_v17 : IVec S4000x4000 1 := cmpf .olt main_v15 main_v16
  let main_v18 : FVec F S4000x128 .f32 := Host.absf main_arg4
  let main_cst_5 : FVec F S_ .f32 := constant S_ .f32 0x7F800000#32
  let main_v19 : FVec F S4000x128 .f32 := broadcastInDim S4000x128 ![] bcast_S_S4000x128 main_cst_5
  let main_v20 : IVec S4000x128 1 := cmpf .olt main_v18 main_v19
  let main_v21 : FVec F S128x128 .f32 := Host.absf main_arg5
  let main_cst_6 : FVec F S_ .f32 := constant S_ .f32 0x7F800000#32
  let main_v22 : FVec F S128x128 .f32 := broadcastInDim S128x128 ![] bcast_S_S128x128 main_cst_6
  let main_v23 : IVec S128x128 1 := cmpf .olt main_v21 main_v22
  let main_v24 : FVec F S128 .f32 := Host.absf main_arg6
  let main_cst_7 : FVec F S_ .f32 := constant S_ .f32 0x7F800000#32
  let main_v25 : FVec F S128 .f32 := broadcastInDim S128 ![] bcast_S_S128 main_cst_7
  let main_v26 : IVec S128 1 := cmpf .olt main_v24 main_v25
  let main_v27 : FVec F S128x128 .f32 := Host.absf main_arg7
  let main_cst_8 : FVec F S_ .f32 := constant S_ .f32 0x7F800000#32
  let main_v28 : FVec F S128x128 .f32 := broadcastInDim S128x128 ![] bcast_S_S128x128 main_cst_8
  let main_v29 : IVec S128x128 1 := cmpf .olt main_v27 main_v28
  let main_v30 : FVec F S128 .f32 := Host.absf main_arg8
  let main_cst_9 : FVec F S_ .f32 := constant S_ .f32 0x7F800000#32
  let main_v31 : FVec F S128 .f32 := broadcastInDim S128 ![] bcast_S_S128 main_cst_9
  let main_v32 : IVec S128 1 := cmpf .olt main_v30 main_v31
  let main_v33 : FVec F S201x128 .f32 := Host.absf main_arg9
  let main_cst_10 : FVec F S_ .f32 := constant S_ .f32 0x7F800000#32
  let main_v34 : FVec F S201x128 .f32 := broadcastInDim S201x128 ![] bcast_S_S201x128 main_cst_10
  fn_part2 (F := F) main_arg11 main_arg12 main_v4 main_v9 main_v14 main_v17 main_v20 main_v23 main_v26 main_v29 main_v32 main_v33 main_v34

def fn {F : FTy → Type} [FloatOps F] (main_arg0 : IVec S64x200 32) (main_arg1 : IVec S64x200 32) (main_arg2 : IVec S64x200 32) (main_arg3 : FVec F S4000x4000 .f32) (main_arg4 : FVec F S4000x128 .f32) (main_arg5 : FVec F S128x128 .f32) (main_arg6 : FVec F S128 .f32) (main_arg7 : FVec F S128x128 .f32) (main_arg8 : FVec F S128 .f32) (main_arg9 : FVec F S201x128 .f32) (main_arg10 : FVec F S401x128 .f32) (main_arg11 : FVec F S50x128 .f32) (main_arg12 : FVec F S50x128 .f32) (main_arg13 : FVec F S256x1 .f32) (main_arg14 : FVec F S1 .f32) (main_arg15 : FVec F S256x1 .f32) (main_arg16 : FVec F S1 .f32) (main_arg17 : FVec F S128x128 .f32) (main_arg18 : FVec F S128 .f32) (main_arg19 : FVec F S128x128 .f32) (main_arg20 : FVec F S128 .f32) (main_arg21 : FVec F S256x128 .f32) (main_arg22 : FVec F S128 .f32) (main_arg23 : FVec F S128x200 .f32) (main_arg24 : FVec F S200 .f32) : IVec S64x200 1 × IVec S64x200 1 × IVec S64x200 1 × IVec S4000x4000 1 × IVec S4000x128 1 × IVec S128x128 1 × IVec S128 1 × IVec S128x128 1 × IVec S128 1 × IVec S201x128 1 × IVec S50x128 1 × IVec S50x128 1 :=
  let main_c : IVec S_ 32 := constantI S_ 32 1#32
  let main_v0 : IVec S64x200 32 := broadcastInDim S64x200 ![] bcast_S_S64x200 main_c
  let main_v1 : IVec S64x200 1 := cmpi .sge main_arg0 main_v0
  let main_c_0 : IVec S_ 32 := constantI S_ 32 4000#32
  let main_v2 : IVec S64x200 32 := broadcastInDim S64x200 ![] bcast_S_S64x200 main_c_0
  let main_v3 : IVec S64x200 1 := cmpi .sle main_arg0 main_v2
  let main_v4 : IVec S64x200 1 := andi main_v1 main_v3
  let main_c_1 : IVec S_ 32 := constantI S_ 32 0#32
  let main_v5 : IVec S64x200 32 := broadcastInDim S64x200 ![] bcast_S_S64x200 main_c_1
  let main_v6 : IVec S64x200 1 := cmpi .sge main_arg1 main_v5
  let main_c_2 : IVec S_ 32 := constantI S_ 32 200#32
  let main_v7 : IVec S64x200 32 := broadcastInDim S64x200 ![] bcast_S_S64x200 main_c_2
  let main_v8 : IVec S64x200 1 := cmpi .slt main_arg1 main_v7
  let main_v9 : IVec S64x200 1 := andi main_v6 main_v8
  let main_c_3 : IVec S_ 32 := constantI S_ 32 0#32
  let main_v10 : IVec S64x200 32 := broadcastInDim S64x200 ![] bcast_S_S64x200 main_c_3
  let main_v11 : IVec S64x200 1 := cmpi .sge main_arg2 main_v10
  let main_c_4 : IVec S_ 32 := constantI S_ 32 3#32
  let main_v12 : IVec S64x200 32 := broadcastInDim S64x200 ![] bcast_S_S64x200 main_c_4
  let main_v13 : IVec S64x200 1 := cmpi .slt main_arg2 main_v12
  let main_v14 : IVec S64x200 1 := andi main_v11 main_v13
  let main_v15 : FVec F S4000x4000 .f32 := Host.absf main_arg3
  let main_cst : FVec F S_ .f32 := constant S_ .f32 0x7F800000#32
  let main_v16 : FVec F S4000x4000 .f32 := broadcastInDim S4000x4000 ![] bcast_S_S4000x4000 main_cst
  fn_part1 (F := F) main_arg4 main_arg5 main_arg6 main_arg7 main_arg8 main_arg9 main_arg11 main_arg12 main_v4 main_v9 main_v14 main_v15 main_v16
-- ==== Kernel.lean ====
abbrev S64x200 : Shape := ⟨2, ![64, 200]⟩
abbrev S4000x4000 : Shape := ⟨2, ![4000, 4000]⟩
abbrev S4000x128 : Shape := ⟨2, ![4000, 128]⟩
abbrev S128x128 : Shape := ⟨2, ![128, 128]⟩
abbrev S128 : Shape := ⟨1, ![128]⟩
abbrev S201x128 : Shape := ⟨2, ![201, 128]⟩
abbrev S401x128 : Shape := ⟨2, ![401, 128]⟩
abbrev S50x128 : Shape := ⟨2, ![50, 128]⟩
abbrev S256x1 : Shape := ⟨2, ![256, 1]⟩
abbrev S1 : Shape := ⟨1, ![1]⟩
abbrev S256x128 : Shape := ⟨2, ![256, 128]⟩
abbrev S128x200 : Shape := ⟨2, ![128, 200]⟩
abbrev S200 : Shape := ⟨1, ![200]⟩
abbrev S1x128 : Shape := ⟨2, ![1, 128]⟩
abbrev S400x4000 : Shape := ⟨2, ![400, 4000]⟩
abbrev S400x128 : Shape := ⟨2, ![400, 128]⟩
abbrev S200x64 : Shape := ⟨2, ![200, 64]⟩
abbrev S200x2x32 : Shape := ⟨3, ![200, 2, 32]⟩
abbrev S2x200x32 : Shape := ⟨3, ![2, 200, 32]⟩
abbrev S2x6400x1 : Shape := ⟨3, ![2, 6400, 1]⟩
abbrev S_ : Shape := ⟨0, ![]⟩
abbrev S2x6432x1 : Shape := ⟨3, ![2, 6432, 1]⟩
abbrev S208x128 : Shape := ⟨2, ![208, 128]⟩
abbrev S408x128 : Shape := ⟨2, ![408, 128]⟩
abbrev S64x128 : Shape := ⟨2, ![64, 128]⟩
abbrev S128x64 : Shape := ⟨2, ![128, 64]⟩
abbrev S1x1 : Shape := ⟨2, ![1, 1]⟩
abbrev S1x200 : Shape := ⟨2, ![1, 200]⟩
abbrev S1x6432x1 : Shape := ⟨3, ![1, 6432, 1]⟩
abbrev S1x6400x1 : Shape := ⟨3, ![1, 6400, 1]⟩
abbrev S6400x128 : Shape := ⟨2, ![6400, 128]⟩
abbrev S6400x64 : Shape := ⟨2, ![6400, 64]⟩
abbrev S32x64x128 : Shape := ⟨3, ![32, 64, 128]⟩
abbrev S128x1 : Shape := ⟨2, ![128, 1]⟩
abbrev S1x800x1 : Shape := ⟨3, ![1, 800, 1]⟩
abbrev S800x1 : Shape := ⟨2, ![800, 1]⟩
abbrev S400x1 : Shape := ⟨2, ![400, 1]⟩
abbrev S800x128 : Shape := ⟨2, ![800, 128]⟩
abbrev S800x208 : Shape := ⟨2, ![800, 208]⟩
abbrev S800x408 : Shape := ⟨2, ![800, 408]⟩
abbrev S800x64 : Shape := ⟨2, ![800, 64]⟩
abbrev S800 : Shape := ⟨1, ![800]⟩
abbrev S1x64x128 : Shape := ⟨3, ![1, 64, 128]⟩
abbrev S32x64 : Shape := ⟨2, ![32, 64]⟩
abbrev S32x128 : Shape := ⟨2, ![32, 128]⟩
abbrev S32x64x1 : Shape := ⟨3, ![32, 64, 1]⟩
abbrev S32x1x128 : Shape := ⟨3, ![32, 1, 128]⟩
abbrev S800x200 : Shape := ⟨2, ![800, 200]⟩
abbrev S64x199 : Shape := ⟨2, ![64, 199]⟩

abbrev nBuf : Space → Nat
  | .hbm => 75
  | .vmem => 45
  | .smem => 0
  | _ => 0

abbrev bufTy : (tb : Table) → Fin (tcTables nBuf tb) → BufTy
  | .hbm, ⟨0, _⟩ => ⟨S64x200, .i32⟩
  | .hbm, ⟨1, _⟩ => ⟨S64x200, .i32⟩
  | .hbm, ⟨2, _⟩ => ⟨S64x200, .i32⟩
  | .hbm, ⟨3, _⟩ => ⟨S4000x4000, .f32⟩
  | .hbm, ⟨4, _⟩ => ⟨S4000x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S201x128, .f32⟩
  | .hbm, ⟨10, _⟩ => ⟨S401x128, .f32⟩
  | .hbm, ⟨11, _⟩ => ⟨S50x128, .f32⟩
  | .hbm, ⟨12, _⟩ => ⟨S50x128, .f32⟩
  | .hbm, ⟨13, _⟩ => ⟨S256x1, .f32⟩
  | .hbm, ⟨14, _⟩ => ⟨S1, .f32⟩
  | .hbm, ⟨15, _⟩ => ⟨S256x1, .f32⟩
  | .hbm, ⟨16, _⟩ => ⟨S1, .f32⟩
  | .hbm, ⟨17, _⟩ => ⟨S128x128, .f32⟩
  | .hbm, ⟨18, _⟩ => ⟨S128, .f32⟩
  | .hbm, ⟨19, _⟩ => ⟨S128x128, .f32⟩
  | .hbm, ⟨20, _⟩ => ⟨S128, .f32⟩
  | .hbm, ⟨21, _⟩ => ⟨S256x128, .f32⟩
  | .hbm, ⟨22, _⟩ => ⟨S128, .f32⟩
  | .hbm, ⟨23, _⟩ => ⟨S128x200, .f32⟩
  | .hbm, ⟨24, _⟩ => ⟨S200, .f32⟩
  | .hbm, ⟨25, _⟩ => ⟨S1x128, .f32⟩
  | .hbm, ⟨26, _⟩ => ⟨S4000x128, .f32⟩
  | .hbm, ⟨27, _⟩ => ⟨S1x128, .f32⟩
  | .hbm, ⟨28, _⟩ => ⟨S4000x128, .f32⟩
  | .hbm, ⟨29, _⟩ => ⟨S200x64, .i32⟩
  | .hbm, ⟨30, _⟩ => ⟨S200x2x32, .i32⟩
  | .hbm, ⟨31, _⟩ => ⟨S2x200x32, .i32⟩
  | .hbm, ⟨32, _⟩ => ⟨S2x6400x1, .i32⟩
  | .hbm, ⟨33, _⟩ => ⟨S_, .i32⟩
  | .hbm, ⟨34, _⟩ => ⟨S_, .i32⟩
  | .hbm, ⟨35, _⟩ => ⟨S2x6432x1, .i32⟩
  | .hbm, ⟨36, _⟩ => ⟨S200x64, .i32⟩
  | .hbm, ⟨37, _⟩ => ⟨S200x2x32, .i32⟩
  | .hbm, ⟨38, _⟩ => ⟨S2x200x32, .i32⟩
  | .hbm, ⟨39, _⟩ => ⟨S2x6400x1, .i32⟩
  | .hbm, ⟨40, _⟩ => ⟨S_, .i32⟩
  | .hbm, ⟨41, _⟩ => ⟨S_, .i32⟩
  | .hbm, ⟨42, _⟩ => ⟨S2x6400x1, .i32⟩
  | .hbm, ⟨43, _⟩ => ⟨S200x64, .i32⟩
  | .hbm, ⟨44, _⟩ => ⟨S200x2x32, .i32⟩
  | .hbm, ⟨45, _⟩ => ⟨S2x200x32, .i32⟩
  | .hbm, ⟨46, _⟩ => ⟨S2x6400x1, .i32⟩
  | .hbm, ⟨47, _⟩ => ⟨S_, .i32⟩
  | .hbm, ⟨48, _⟩ => ⟨S_, .i32⟩
  | .hbm, ⟨49, _⟩ => ⟨S2x6400x1, .i32⟩
  | .hbm, ⟨50, _⟩ => ⟨S_, .i32⟩
  | .hbm, ⟨51, _⟩ => ⟨S_, .f32⟩
  | .hbm, ⟨52, _⟩ => ⟨S208x128, .f32⟩
  | .hbm, ⟨53, _⟩ => ⟨S_, .i32⟩
  | .hbm, ⟨54, _⟩ => ⟨S_, .f32⟩
  | .hbm, ⟨55, _⟩ => ⟨S408x128, .f32⟩
  | .hbm, ⟨56, _⟩ => ⟨S_, .i32⟩
  | .hbm, ⟨57, _⟩ => ⟨S_, .f32⟩
  | .hbm, ⟨58, _⟩ => ⟨S64x128, .f32⟩
  | .hbm, ⟨59, _⟩ => ⟨S128x64, .f32⟩
  | .hbm, ⟨60, _⟩ => ⟨S_, .i32⟩
  | .hbm, ⟨61, _⟩ => ⟨S_, .f32⟩
  | .hbm, ⟨62, _⟩ => ⟨S64x128, .f32⟩
  | .hbm, ⟨63, _⟩ => ⟨S1x1, .f32⟩
  | .hbm, ⟨64, _⟩ => ⟨S1x1, .f32⟩
  | .hbm, ⟨65, _⟩ => ⟨S1x128, .f32⟩
  | .hbm, ⟨66, _⟩ => ⟨S1x128, .f32⟩
  | .hbm, ⟨67, _⟩ => ⟨S1x128, .f32⟩
  | .hbm, ⟨68, _⟩ => ⟨S1x200, .f32⟩
  | .hbm, ⟨69, _⟩ => ⟨S2x6400x1, .f32⟩
  | .hbm, ⟨70, _⟩ => ⟨S2x200x32, .f32⟩
  | .hbm, ⟨71, _⟩ => ⟨S200x2x32, .f32⟩
  | .hbm, ⟨72, _⟩ => ⟨S200x64, .f32⟩
  | .hbm, ⟨73, _⟩ => ⟨S64x200, .f32⟩
  | .hbm, ⟨74, _⟩ => ⟨S64x199, .f32⟩
  | .local _ .vmem, ⟨0, _⟩ => ⟨S400x4000, .f32⟩
  | .local _ .vmem, ⟨1, _⟩ => ⟨S400x4000, .f32⟩
  | .local _ .vmem, ⟨2, _⟩ => ⟨S4000x128, .f32⟩
  | .local _ .vmem, ⟨3, _⟩ => ⟨S128x128, .f32⟩
  | .local _ .vmem, ⟨4, _⟩ => ⟨S1x128, .f32⟩
  | .local _ .vmem, ⟨5, _⟩ => ⟨S400x128, .f32⟩
  | .local _ .vmem, ⟨6, _⟩ => ⟨S400x128, .f32⟩
  | .local _ .vmem, ⟨7, _⟩ => ⟨S400x4000, .f32⟩
  | .local _ .vmem, ⟨8, _⟩ => ⟨S400x4000, .f32⟩
  | .local _ .vmem, ⟨9, _⟩ => ⟨S4000x128, .f32⟩
  | .local _ .vmem, ⟨10, _⟩ => ⟨S128x128, .f32⟩
  | .local _ .vmem, ⟨11, _⟩ => ⟨S1x128, .f32⟩
  | .local _ .vmem, ⟨12, _⟩ => ⟨S400x128, .f32⟩
  | .local _ .vmem, ⟨13, _⟩ => ⟨S400x128, .f32⟩
  | .local _ .vmem, ⟨14, _⟩ => ⟨S1x6432x1, .i32⟩
  | .local _ .vmem, ⟨15, _⟩ => ⟨S1x6432x1, .i32⟩
  | .local _ .vmem, ⟨16, _⟩ => ⟨S1x6400x1, .i32⟩
  | .local _ .vmem, ⟨17, _⟩ => ⟨S1x6400x1, .i32⟩
  | .local _ .vmem, ⟨18, _⟩ => ⟨S1x6400x1, .i32⟩
  | .local _ .vmem, ⟨19, _⟩ => ⟨S1x6400x1, .i32⟩
  | .local _ .vmem, ⟨20, _⟩ => ⟨S4000x128, .f32⟩
  | .local _ .vmem, ⟨21, _⟩ => ⟨S208x128, .f32⟩
  | .local _ .vmem, ⟨22, _⟩ => ⟨S408x128, .f32⟩
  | .local _ .vmem, ⟨23, _⟩ => ⟨S128x64, .f32⟩
  | .local _ .vmem, ⟨24, _⟩ => ⟨S64x128, .f32⟩
  | .local _ .vmem, ⟨25, _⟩ => ⟨S256x1, .f32⟩
  | .local _ .vmem, ⟨26, _⟩ => ⟨S1x1, .f32⟩
  | .local _ .vmem, ⟨27, _⟩ => ⟨S256x1, .f32⟩
  | .local _ .vmem, ⟨28, _⟩ => ⟨S1x1, .f32⟩
  | .local _ .vmem, ⟨29, _⟩ => ⟨S128x128, .f32⟩
  | .local _ .vmem, ⟨30, _⟩ => ⟨S1x128, .f32⟩
  | .local _ .vmem, ⟨31, _⟩ => ⟨S128x128, .f32⟩
  | .local _ .vmem, ⟨32, _⟩ => ⟨S1x128, .f32⟩
  | .local _ .vmem, ⟨33, _⟩ => ⟨S256x128, .f32⟩
  | .local _ .vmem, ⟨34, _⟩ => ⟨S1x128, .f32⟩
  | .local _ .vmem, ⟨35, _⟩ => ⟨S128x200, .f32⟩
  | .local _ .vmem, ⟨36, _⟩ => ⟨S1x200, .f32⟩
  | .local _ .vmem, ⟨37, _⟩ => ⟨S1x6400x1, .f32⟩
  | .local _ .vmem, ⟨38, _⟩ => ⟨S1x6400x1, .f32⟩
  | .local _ .vmem, ⟨39, _⟩ => ⟨S6400x128, .f32⟩
  | .local _ .vmem, ⟨40, _⟩ => ⟨S6400x64, .f32⟩
  | .local _ .vmem, ⟨41, _⟩ => ⟨S6400x128, .f32⟩
  | .local _ .vmem, ⟨42, _⟩ => ⟨S6400x128, .f32⟩
  | .local _ .vmem, ⟨43, _⟩ => ⟨S6400x128, .f32⟩
  | .local _ .vmem, ⟨44, _⟩ => ⟨S32x64x128, .f32⟩
  | _, _ => ⟨S64x200, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_c : Ref sig .tc := ⟨.hbm, 33, rfl⟩
abbrev main_call0_v0 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_c_0 : Ref sig .tc := ⟨.hbm, 40, rfl⟩
abbrev main_call1_v0 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_c_1 : Ref sig .tc := ⟨.hbm, 47, rfl⟩
abbrev main_call2_v0 : Ref sig .tc := ⟨.hbm, 48, rfl⟩
abbrev main_v18 : Ref sig .tc := ⟨.hbm, 49, rfl⟩
abbrev main_c_2 : Ref sig .tc := ⟨.hbm, 50, rfl⟩
abbrev main_call3_v0 : Ref sig .tc := ⟨.hbm, 51, rfl⟩
abbrev main_v19 : Ref sig .tc := ⟨.hbm, 52, rfl⟩
abbrev main_c_3 : Ref sig .tc := ⟨.hbm, 53, rfl⟩
abbrev main_call4_v0 : Ref sig .tc := ⟨.hbm, 54, rfl⟩
abbrev main_v20 : Ref sig .tc := ⟨.hbm, 55, rfl⟩
abbrev main_c_4 : Ref sig .tc := ⟨.hbm, 56, rfl⟩
abbrev main_call5_v0 : Ref sig .tc := ⟨.hbm, 57, rfl⟩
abbrev main_v21 : Ref sig .tc := ⟨.hbm, 58, rfl⟩
abbrev main_v22 : Ref sig .tc := ⟨.hbm, 59, rfl⟩
abbrev main_c_5 : Ref sig .tc := ⟨.hbm, 60, rfl⟩
abbrev main_call6_v0 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg8_0 : Ref sig .tc := ⟨.vmem, 25, rfl⟩
abbrev cc2_stg9_0 : Ref sig .tc := ⟨.vmem, 26, rfl⟩
abbrev cc2_stg10_0 : Ref sig .tc := ⟨.vmem, 27, rfl⟩
abbrev cc2_stg11_0 : Ref sig .tc := ⟨.vmem, 28, rfl⟩
abbrev cc2_stg12_0 : Ref sig .tc := ⟨.vmem, 29, rfl⟩
abbrev cc2_stg13_0 : Ref sig .tc := ⟨.vmem, 30, rfl⟩
abbrev cc2_stg14_0 : Ref sig .tc := ⟨.vmem, 31, rfl⟩
abbrev cc2_stg15_0 : Ref sig .tc := ⟨.vmem, 32, rfl⟩
abbrev cc2_stg16_0 : Ref sig .tc := ⟨.vmem, 33, rfl⟩
abbrev cc2_stg17_0 : Ref sig .tc := ⟨.vmem, 34, rfl⟩
abbrev cc2_stg18_0 : Ref sig .tc := ⟨.vmem, 35, rfl⟩
abbrev cc2_stg19_0 : Ref sig .tc := ⟨.vmem, 36, rfl⟩
abbrev cc2_stg20_0 : Ref sig .tc := ⟨.vmem, 37, rfl⟩
abbrev cc2_stg20_1 : Ref sig .tc := ⟨.vmem, 38, rfl⟩
abbrev cc2_scratch0 : Ref sig .tc := ⟨.vmem, 39, rfl⟩
abbrev cc2_scratch1 : Ref sig .tc := ⟨.vmem, 40, rfl⟩
abbrev cc2_scratch2 : Ref sig .tc := ⟨.vmem, 41, rfl⟩
abbrev cc2_scratch3 : Ref sig .tc := ⟨.vmem, 42, rfl⟩
abbrev cc2_scratch4 : Ref sig .tc := ⟨.vmem, 43, rfl⟩
abbrev cc2_scratch5 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem7_0 : DmaSem sig := 24
abbrev cc2_sem8_0 : DmaSem sig := 25
abbrev cc2_sem9_0 : DmaSem sig := 26
abbrev cc2_sem10_0 : DmaSem sig := 27
abbrev cc2_sem11_0 : DmaSem sig := 28
abbrev cc2_sem12_0 : DmaSem sig := 29
abbrev cc2_sem13_0 : DmaSem sig := 30
abbrev cc2_sem14_0 : DmaSem sig := 31
abbrev cc2_sem15_0 : DmaSem sig := 32
abbrev cc2_sem16_0 : DmaSem sig := 33
abbrev cc2_sem17_0 : DmaSem sig := 34
abbrev cc2_sem18_0 : DmaSem sig := 35
abbrev cc2_sem19_0 : DmaSem sig := 36
abbrev cc2_sem20_0 : DmaSem sig := 37
abbrev cc2_sem20_1 : DmaSem sig := 38

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x4000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x4000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![2], ![false]⟩

@[reducible] def k2_t1_loop : Scf.Loop 32 :=
  let c0_i32 : BitVec 32 := 0#32
  let c50_i32_547 : BitVec 32 := 50#32
  let v1030 : BitVec 32 := Scalar.addi c0_i32 c50_i32_547
  let c1_i32_548 : BitVec 32 := 1#32
  ⟨c0_i32, v1030, c1_i32_548⟩
def k2_off1 (k2_t1 : Fin k2_t1_loop.trips) (c0_i32_710 : BitVec 32) : Fin 2 → Nat :=
  let c4_i32 : BitVec 32 := 4#32
  let c0_i32 : BitVec 32 := 0#32
  let c1_i32_548 : BitVec 32 := 1#32
  let arg28 : BitVec 32 := Scf.iv c0_i32 c1_i32_548 k2_t1
  let v1263 : BitVec 32 := Scalar.muli c4_i32 arg28
  let v1264 : BitVec 32 := Scalar.addi v1263 c0_i32_710
  let c32_i32 : BitVec 32 := 32#32
  let v1265 : BitVec 32 := Scalar.muli v1264 c32_i32
  let v1266 : Index := Scalar.indexCast v1265
  let c0_711 : Index := 0#32
  ![v1266.toNat, 0]
def k2_off2 (k2_t1 : Fin k2_t1_loop.trips) (c0_i32_710 : BitVec 32) : Fin 2 → Nat :=
  let c4_i32 : BitVec 32 := 4#32
  let c0_i32 : BitVec 32 := 0#32
  let c1_i32_548 : BitVec 32 := 1#32
  let arg28 : BitVec 32 := Scf.iv c0_i32 c1_i32_548 k2_t1
  let v1263 : BitVec 32 := Scalar.muli c4_i32 arg28
  let v1264 : BitVec 32 := Scalar.addi v1263 c0_i32_710
  let c32_i32_712 : BitVec 32 := 32#32
  let v1268 : BitVec 32 := Scalar.muli v1264 c32_i32_712
  let v1269 : Index := Scalar.indexCast v1268
  let c0_713 : Index := 0#32
  ![v1269.toNat, 0]
def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_16 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_17 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_18 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_19 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_20 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x6432x1 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x6400x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x6400x1 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S4000x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S208x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S408x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S256x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S256x1 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x1 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S128x128 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S1x128 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S128x128 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 1 → Memref sig .tc .vmem S1x128 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false]

abbrev stage2_16 : Fin 1 → Memref sig .tc .vmem S256x128 .f32 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))
abbrev reads2_16 : Fin grid2.rank → Bool := ![false]

abbrev stage2_17 : Fin 1 → Memref sig .tc .vmem S1x128 .f32 := fun | 0 => Memref.whole cc2_stg17_0 | ⟨_ + 1, h⟩ => absurd h (Nat.not_lt.2 (Nat.le_add_left _ _))
abbrev sem2_17 : Fin 1 → DmaSem sig := fun | 0 => cc2_sem17_0 | ⟨_ + 1, h⟩ => absurd h (Nat.not_lt.2 (Nat.le_add_left _ _))
abbrev reads2_17 : Fin grid2.rank → Bool := ![false]

abbrev stage2_18 : Fin 1 → Memref sig .tc .vmem S128x200 .f32 := fun | 0 => Memref.whole cc2_stg18_0 | ⟨_ + 1, h⟩ => absurd h (Nat.not_lt.2 (Nat.le_add_left _ _))
abbrev sem2_18 : Fin 1 → DmaSem sig := fun | 0 => cc2_sem18_0 | ⟨_ + 1, h⟩ => absurd h (Nat.not_lt.2 (Nat.le_add_left _ _))
abbrev reads2_18 : Fin grid2.rank → Bool := ![false]

abbrev stage2_19 : Fin 1 → Memref sig .tc .vmem S1x200 .f32 := fun | 0 => Memref.whole cc2_stg19_0 | ⟨_ + 1, h⟩ => absurd h (Nat.not_lt.2 (Nat.le_add_left _ _))
abbrev sem2_19 : Fin 1 → DmaSem sig := fun | 0 => cc2_sem19_0 | ⟨_ + 1, h⟩ => absurd h (Nat.not_lt.2 (Nat.le_add_left _ _))
abbrev reads2_19 : Fin grid2.rank → Bool := ![false]

abbrev stage2_20 : Fin 2 → Memref sig .tc .vmem S1x6400x1 .f32 := fun | 0 => Memref.whole cc2_stg20_0 | 1 => Memref.whole cc2_stg20_1 | ⟨_ + 2, h⟩ => absurd h (Nat.not_lt.2 (Nat.le_add_left _ _))
abbrev sem2_20 : Fin 2 → DmaSem sig := fun | 0 => cc2_sem20_0 | 1 => cc2_sem20_1 | ⟨_ + 2, h⟩ => absurd h (Nat.not_lt.2 (Nat.le_add_left _ _))
abbrev reads2_20 : Fin grid2.rank → Bool := ![true]
-- ==== KernelIdeal.lean ====
variable {F : FTy → Type} [FloatOps F] [Named F]
def κ : String → Option EReal := fun
  | "mask" => some ⊥
  | _ => none
-- ==== ReferenceIdeal.lean ====
abbrev S64x200 : Shape := ⟨2, ![64, 200]⟩
abbrev S4000x4000 : Shape := ⟨2, ![4000, 4000]⟩
abbrev S4000x128 : Shape := ⟨2, ![4000, 128]⟩
abbrev S128x128 : Shape := ⟨2, ![128, 128]⟩
abbrev S128 : Shape := ⟨1, ![128]⟩
abbrev S201x128 : Shape := ⟨2, ![201, 128]⟩
abbrev S401x128 : Shape := ⟨2, ![401, 128]⟩
abbrev S50x128 : Shape := ⟨2, ![50, 128]⟩
abbrev S256x1 : Shape := ⟨2, ![256, 1]⟩
abbrev S1 : Shape := ⟨1, ![1]⟩
abbrev S256x128 : Shape := ⟨2, ![256, 128]⟩
abbrev S128x200 : Shape := ⟨2, ![128, 200]⟩
abbrev S200 : Shape := ⟨1, ![200]⟩
abbrev S1x128 : Shape := ⟨2, ![1, 128]⟩
abbrev S_ : Shape := ⟨0, ![]⟩
abbrev S64x200x1 : Shape := ⟨3, ![64, 200, 1]⟩
abbrev S64x200x128 : Shape := ⟨3, ![64, 200, 128]⟩
abbrev S64x200x256 : Shape := ⟨3, ![64, 200, 256]⟩
abbrev S1x1x1 : Shape := ⟨3, ![1, 1, 1]⟩
abbrev S128x50 : Shape := ⟨2, ![128, 50]⟩
abbrev S64x200x50 : Shape := ⟨3, ![64, 200, 50]⟩
abbrev S1x1x128 : Shape := ⟨3, ![1, 1, 128]⟩
abbrev S1x50x128 : Shape := ⟨3, ![1, 50, 128]⟩
abbrev S64x50x128 : Shape := ⟨3, ![64, 50, 128]⟩
abbrev S200x64x50 : Shape := ⟨3, ![200, 64, 50]⟩
abbrev S200x64x128 : Shape := ⟨3, ![200, 64, 128]⟩
abbrev S200x64x50x128 : Shape := ⟨4, ![200, 64, 50, 128]⟩
abbrev S1x64x50 : Shape := ⟨3, ![1, 64, 50]⟩
abbrev S64x50 : Shape := ⟨2, ![64, 50]⟩
abbrev S1x64x128 : Shape := ⟨3, ![1, 64, 128]⟩
abbrev S64x128 : Shape := ⟨2, ![64, 128]⟩
abbrev S64x50x1 : Shape := ⟨3, ![64, 50, 1]⟩
abbrev S64x1x128 : Shape := ⟨3, ![64, 1, 128]⟩
abbrev S1x64x50x128 : Shape := ⟨4, ![1, 64, 50, 128]⟩
abbrev S64x200x200 : Shape := ⟨3, ![64, 200, 200]⟩
abbrev S1x1x200 : Shape := ⟨3, ![1, 1, 200]⟩
abbrev S64x199x200 : Shape := ⟨3, ![64, 199, 200]⟩
abbrev S64x199 : Shape := ⟨2, ![64, 199]⟩
abbrev S64x199x1 : Shape := ⟨3, ![64, 199, 1]⟩
abbrev S64x199x1x1 : Shape := ⟨4, ![64, 199, 1, 1]⟩
abbrev S1x1x1x1 : Shape := ⟨4, ![1, 1, 1, 1]⟩

abbrev nBuf : Space → Nat
  | .hbm => 264
  | .vmem => 0
  | .smem => 0
  | _ => 0

abbrev hbmTy0_0 (i : Nat) : BufTy := match i % 128 with
  | 0 => ⟨S64x200, .i32⟩
  | 1 => ⟨S64x200, .i32⟩
  | 2 => ⟨S64x200, .i32⟩
  | 3 => ⟨S4000x4000, .f32⟩
  | 4 => ⟨S4000x128, .f32⟩
  | 5 => ⟨S128x128, .f32⟩
  | 6 => ⟨S128, .f32⟩
  | 7 => ⟨S128x128, .f32⟩
  | 8 => ⟨S128, .f32⟩
  | 9 => ⟨S201x128, .f32⟩
  | 10 => ⟨S401x128, .f32⟩
  | 11 => ⟨S50x128, .f32⟩
  | 12 => ⟨S50x128, .f32⟩
  | 13 => ⟨S256x1, .f32⟩
  | 14 => ⟨S1, .f32⟩
  | 15 => ⟨S256x1, .f32⟩
  | 16 => ⟨S1, .f32⟩
  | 17 => ⟨S128x128, .f32⟩
  | 18 => ⟨S128, .f32⟩
  | 19 => ⟨S128x128, .f32⟩
  | 20 => ⟨S128, .f32⟩
  | 21 => ⟨S256x128, .f32⟩
  | 22 => ⟨S128, .f32⟩
  | 23 => ⟨S128x200, .f32⟩
  | 24 => ⟨S200, .f32⟩
  | 25 => ⟨S4000x128, .f32⟩
  | 26 => ⟨S1x128, .f32⟩
  | 27 => ⟨S4000x128, .f32⟩
  | 28 => ⟨S4000x128, .f32⟩
  | 29 => ⟨S4000x128, .f32⟩
  | 30 => ⟨S_, .f32⟩
  | 31 => ⟨S4000x128, .f32⟩
  | 32 => ⟨S4000x128, .f32⟩
  | 33 => ⟨S4000x128, .f32⟩
  | 34 => ⟨S1x128, .f32⟩
  | 35 => ⟨S4000x128, .f32⟩
  | 36 => ⟨S4000x128, .f32⟩
  | 37 => ⟨S4000x128, .f32⟩
  | 38 => ⟨S_, .i32⟩
  | 39 => ⟨S64x200, .i32⟩
  | 40 => ⟨S64x200, .i32⟩
  | 41 => ⟨S_, .i32⟩
  | 42 => ⟨S64x200, .i32⟩
  | 43 => ⟨S64x200, .i1⟩
  | 44 => ⟨S_, .i32⟩
  | 45 => ⟨S64x200, .i32⟩
  | 46 => ⟨S64x200, .i32⟩
  | 47 => ⟨S64x200, .i32⟩
  | 48 => ⟨S64x200x1, .i32⟩
  | 49 => ⟨S64x200x128, .f32⟩
  | 50 => ⟨S_, .i32⟩
  | 51 => ⟨S64x200, .i32⟩
  | 52 => ⟨S64x200, .i1⟩
  | 53 => ⟨S_, .i32⟩
  | 54 => ⟨S_, .i32⟩
  | 55 => ⟨S64x200, .i32⟩
  | 56 => ⟨S64x200, .i32⟩
  | 57 => ⟨S_, .i32⟩
  | 58 => ⟨S64x200, .i32⟩
  | 59 => ⟨S64x200, .i32⟩
  | 60 => ⟨S64x200, .i32⟩
  | 61 => ⟨S_, .i32⟩
  | 62 => ⟨S64x200, .i32⟩
  | 63 => ⟨S64x200, .i1⟩
  | 64 => ⟨S_, .i32⟩
  | 65 => ⟨S64x200, .i32⟩
  | 66 => ⟨S64x200, .i32⟩
  | 67 => ⟨S64x200, .i32⟩
  | 68 => ⟨S64x200x1, .i32⟩
  | 69 => ⟨S64x200x128, .f32⟩
  | 70 => ⟨S64x200x256, .f32⟩
  | 71 => ⟨S64x200x1, .f32⟩
  | 72 => ⟨S1x1x1, .f32⟩
  | 73 => ⟨S64x200x1, .f32⟩
  | 74 => ⟨S64x200x1, .f32⟩
  | 75 => ⟨S64x200x1, .f32⟩
  | 76 => ⟨S64x200x1, .f32⟩
  | 77 => ⟨S_, .f32⟩
  | 78 => ⟨S64x200x1, .f32⟩
  | 79 => ⟨S64x200x1, .f32⟩
  | 80 => ⟨S_, .f32⟩
  | 81 => ⟨S64x200x1, .f32⟩
  | 82 => ⟨S64x200x1, .f32⟩
  | 83 => ⟨S64x200x128, .f32⟩
  | 84 => ⟨S64x200x128, .f32⟩
  | 85 => ⟨S_, .f32⟩
  | 86 => ⟨S64x200x1, .f32⟩
  | 87 => ⟨S64x200x1, .f32⟩
  | 88 => ⟨S64x200x128, .f32⟩
  | 89 => ⟨S64x200x128, .f32⟩
  | 90 => ⟨S64x200x128, .f32⟩
  | 91 => ⟨S_, .i32⟩
  | 92 => ⟨S64x200, .i32⟩
  | 93 => ⟨S64x200, .i1⟩
  | 94 => ⟨S_, .i32⟩
  | 95 => ⟨S64x200, .i32⟩
  | 96 => ⟨S64x200, .i32⟩
  | 97 => ⟨S64x200, .i32⟩
  | 98 => ⟨S64x200x1, .i32⟩
  | 99 => ⟨S64x200x128, .f32⟩
  | 100 => ⟨S64x200x256, .f32⟩
  | 101 => ⟨S64x200x1, .f32⟩
  | 102 => ⟨S1x1x1, .f32⟩
  | 103 => ⟨S64x200x1, .f32⟩
  | 104 => ⟨S64x200x1, .f32⟩
  | 105 => ⟨S64x200x1, .f32⟩
  | 106 => ⟨S64x200x1, .f32⟩
  | 107 => ⟨S_, .f32⟩
  | 108 => ⟨S64x200x1, .f32⟩
  | 109 => ⟨S64x200x1, .f32⟩
  | 110 => ⟨S_, .f32⟩
  | 111 => ⟨S64x200x1, .f32⟩
  | 112 => ⟨S64x200x1, .f32⟩
  | 113 => ⟨S64x200x128, .f32⟩
  | 114 => ⟨S64x200x128, .f32⟩
  | 115 => ⟨S_, .f32⟩
  | 116 => ⟨S64x200x1, .f32⟩
  | 117 => ⟨S64x200x1, .f32⟩
  | 118 => ⟨S64x200x128, .f32⟩
  | 119 => ⟨S64x200x128, .f32⟩
  | 120 => ⟨S64x200x128, .f32⟩
  | 121 => ⟨S128x50, .f32⟩
  | 122 => ⟨S64x200x50, .f32⟩
  | 123 => ⟨S_, .f32⟩
  | 124 => ⟨S64x200, .f32⟩
  | 125 => ⟨S_, .f32⟩
  | 126 => ⟨S64x200, .f32⟩
  | 127 => ⟨S64x200, .f32⟩
  | _ => ⟨S64x200, .i32⟩

abbrev hbmTy0_1 (i : Nat) : BufTy := match i % 128 with
  | 0 => ⟨S64x200x1, .f32⟩
  | 1 => ⟨S64x200x50, .f32⟩
  | 2 => ⟨S64x200x50, .f32⟩
  | 3 => ⟨S64x200x50, .f32⟩
  | 4 => ⟨S_, .f32⟩
  | 5 => ⟨S64x200, .f32⟩
  | 6 => ⟨S64x200x1, .f32⟩
  | 7 => ⟨S64x200x50, .f32⟩
  | 8 => ⟨S64x200x50, .f32⟩
  | 9 => ⟨S64x200x128, .f32⟩
  | 10 => ⟨S1x1x128, .f32⟩
  | 11 => ⟨S64x200x128, .f32⟩
  | 12 => ⟨S64x200x128, .f32⟩
  | 13 => ⟨S64x200x128, .f32⟩
  | 14 => ⟨S64x200x128, .f32⟩
  | 15 => ⟨S_, .f32⟩
  | 16 => ⟨S64x200x128, .f32⟩
  | 17 => ⟨S64x200x128, .f32⟩
  | 18 => ⟨S_, .f32⟩
  | 19 => ⟨S64x200x128, .f32⟩
  | 20 => ⟨S64x200x128, .f32⟩
  | 21 => ⟨S64x200x128, .f32⟩
  | 22 => ⟨S1x1x128, .f32⟩
  | 23 => ⟨S64x200x128, .f32⟩
  | 24 => ⟨S64x200x128, .f32⟩
  | 25 => ⟨S64x200x128, .f32⟩
  | 26 => ⟨S1x50x128, .f32⟩
  | 27 => ⟨S64x50x128, .f32⟩
  | 28 => ⟨S200x64x50, .f32⟩
  | 29 => ⟨S200x64x128, .f32⟩
  | 30 => ⟨S200x64x128, .f32⟩
  | 31 => ⟨S_, .f32⟩
  | 32 => ⟨S200x64x50x128, .f32⟩
  | 33 => ⟨S_, .i32⟩
  | 34 => ⟨S200x64x50, .f32⟩
  | 35 => ⟨S200x64x128, .f32⟩
  | 36 => ⟨S200x64x128, .f32⟩
  | 37 => ⟨S_, .i32⟩
  | 38 => ⟨S64x50x128, .f32⟩
  | 39 => ⟨S200x64x50x128, .f32⟩
  | 40 => ⟨S_, .i32⟩
  | 41 => ⟨S_, .i1⟩
  | 42 => ⟨S_, .i32⟩
  | 43 => ⟨S_, .i32⟩
  | 44 => ⟨S1x64x50, .f32⟩
  | 45 => ⟨S64x50, .f32⟩
  | 46 => ⟨S_, .i32⟩
  | 47 => ⟨S_, .i32⟩
  | 48 => ⟨S1x64x128, .f32⟩
  | 49 => ⟨S64x128, .f32⟩
  | 50 => ⟨S_, .i32⟩
  | 51 => ⟨S_, .i32⟩
  | 52 => ⟨S1x64x128, .f32⟩
  | 53 => ⟨S64x128, .f32⟩
  | 54 => ⟨S64x50x1, .f32⟩
  | 55 => ⟨S64x1x128, .f32⟩
  | 56 => ⟨S64x50x128, .f32⟩
  | 57 => ⟨S64x50x128, .f32⟩
  | 58 => ⟨S64x50x128, .f32⟩
  | 59 => ⟨S_, .f32⟩
  | 60 => ⟨S64x50x128, .f32⟩
  | 61 => ⟨S64x50x128, .f32⟩
  | 62 => ⟨S64x50x128, .f32⟩
  | 63 => ⟨S64x50x1, .f32⟩
  | 64 => ⟨S64x1x128, .f32⟩
  | 65 => ⟨S64x50x128, .f32⟩
  | 66 => ⟨S64x50x128, .f32⟩
  | 67 => ⟨S64x50x128, .f32⟩
  | 68 => ⟨S64x50x128, .f32⟩
  | 69 => ⟨S1x64x50x128, .f32⟩
  | 70 => ⟨S_, .i32⟩
  | 71 => ⟨S_, .i32⟩
  | 72 => ⟨S_, .i32⟩
  | 73 => ⟨S200x64x50x128, .f32⟩
  | 74 => ⟨S_, .i32⟩
  | 75 => ⟨S_, .i32⟩
  | 76 => ⟨S64x200x128, .f32⟩
  | 77 => ⟨S64x200x256, .f32⟩
  | 78 => ⟨S64x200x128, .f32⟩
  | 79 => ⟨S1x1x128, .f32⟩
  | 80 => ⟨S64x200x128, .f32⟩
  | 81 => ⟨S64x200x128, .f32⟩
  | 82 => ⟨S64x200x128, .f32⟩
  | 83 => ⟨S64x200x200, .f32⟩
  | 84 => ⟨S1x1x200, .f32⟩
  | 85 => ⟨S64x200x200, .f32⟩
  | 86 => ⟨S64x200x200, .f32⟩
  | 87 => ⟨S64x200x200, .f32⟩
  | 88 => ⟨S64x200x200, .f32⟩
  | 89 => ⟨S_, .f32⟩
  | 90 => ⟨S64x200x200, .f32⟩
  | 91 => ⟨S64x200x200, .f32⟩
  | 92 => ⟨S_, .f32⟩
  | 93 => ⟨S64x200x200, .f32⟩
  | 94 => ⟨S64x200x200, .f32⟩
  | 95 => ⟨S64x199x200, .f32⟩
  | 96 => ⟨S64x199, .i32⟩
  | 97 => ⟨S_, .i32⟩
  | 98 => ⟨S_, .i32⟩
  | 99 => ⟨S_, .i32⟩
  | 100 => ⟨S64x199, .i32⟩
  | 101 => ⟨S64x199, .i32⟩
  | 102 => ⟨S_, .i32⟩
  | 103 => ⟨S64x199, .i32⟩
  | 104 => ⟨S64x199, .i32⟩
  | 105 => ⟨S64x199x1, .i32⟩
  | 106 => ⟨S_, .i32⟩
  | 107 => ⟨S64x199x1, .i32⟩
  | 108 => ⟨S64x199x1, .i1⟩
  | 109 => ⟨S_, .i32⟩
  | 110 => ⟨S64x199x1, .i32⟩
  | 111 => ⟨S64x199x1, .i32⟩
  | 112 => ⟨S64x199x1, .i32⟩
  | 113 => ⟨S64x199x1x1, .i32⟩
  | 114 => ⟨S1, .i32⟩
  | 115 => ⟨S_, .i32⟩
  | 116 => ⟨S64x199x1x1, .i32⟩
  | 117 => ⟨S64x199x1x1, .i1⟩
  | 118 => ⟨S1x1x1x1, .i32⟩
  | 119 => ⟨S64x199x1x1, .i32⟩
  | 120 => ⟨S64x199x1x1, .i1⟩
  | 121 => ⟨S64x199x1x1, .i1⟩
  | 122 => ⟨S_, .i1⟩
  | 123 => ⟨S64x199x1, .i1⟩
  | 124 => ⟨S64x199x1, .f32⟩
  | 125 => ⟨S_, .f32⟩
  | 126 => ⟨S64x199x1, .f32⟩
  | 127 => ⟨S64x199x1, .f32⟩
  | _ => ⟨S64x200, .i32⟩

abbrev hbmTy0_2 (i : Nat) : BufTy := match i % 128 with
  | 0 => ⟨S64x199, .f32⟩
  | 1 => ⟨S_, .i32⟩
  | 2 => ⟨S64x199, .i32⟩
  | 3 => ⟨S64x199, .i1⟩
  | 4 => ⟨S_, .f32⟩
  | 5 => ⟨S_, .f32⟩
  | 6 => ⟨S64x199, .f32⟩
  | 7 => ⟨S64x199, .f32⟩
  | _ => ⟨S64x200, .i32⟩

abbrev hbmTy (i : Nat) : BufTy := match i / 128 with
  | 0 => hbmTy0_0 i
  | 1 => hbmTy0_1 i
  | 2 => hbmTy0_2 i
  | _ => ⟨S64x200, .i32⟩

abbrev bufTy : (tb : Table) → Fin (tcTables nBuf tb) → BufTy
  | .hbm, ⟨i, _⟩ => hbmTy i
  | _, _ => ⟨S64x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_call0_cst : Ref sig .tc := ⟨.hbm, 30, rfl⟩
abbrev main_call0_v0 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_c : Ref sig .tc := ⟨.hbm, 38, rfl⟩
abbrev main_v11 : Ref sig .tc := ⟨.hbm, 39, rfl⟩
abbrev main_v12 : Ref sig .tc := ⟨.hbm, 40, rfl⟩
abbrev main_c_0 : Ref sig .tc := ⟨.hbm, 41, rfl⟩
abbrev main_v13 : Ref sig .tc := ⟨.hbm, 42, rfl⟩
abbrev main_v14 : Ref sig .tc := ⟨.hbm, 43, rfl⟩
abbrev main_c_1 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_c_2 : Ref sig .tc := ⟨.hbm, 50, rfl⟩
abbrev main_v20 : Ref sig .tc := ⟨.hbm, 51, rfl⟩
abbrev main_v21 : Ref sig .tc := ⟨.hbm, 52, rfl⟩
abbrev main_c_3 : Ref sig .tc := ⟨.hbm, 53, rfl⟩
abbrev main_call1_v0 : Ref sig .tc := ⟨.hbm, 54, rfl⟩
abbrev main_call1_v1 : Ref sig .tc := ⟨.hbm, 55, rfl⟩
abbrev main_v22 : Ref sig .tc := ⟨.hbm, 56, rfl⟩
abbrev main_c_4 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_c_5 : Ref sig .tc := ⟨.hbm, 61, rfl⟩
abbrev main_v26 : Ref sig .tc := ⟨.hbm, 62, rfl⟩
abbrev main_v27 : Ref sig .tc := ⟨.hbm, 63, rfl⟩
abbrev main_c_6 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_cst : Ref sig .tc := ⟨.hbm, 77, rfl⟩
abbrev main_v40 : Ref sig .tc := ⟨.hbm, 78, rfl⟩
abbrev main_v41 : Ref sig .tc := ⟨.hbm, 79, rfl⟩
abbrev main_cst_7 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_cst_8 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_c_9 : Ref sig .tc := ⟨.hbm, 91, rfl⟩
abbrev main_v51 : Ref sig .tc := ⟨.hbm, 92, rfl⟩
abbrev main_v52 : Ref sig .tc := ⟨.hbm, 93, rfl⟩
abbrev main_c_10 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_cst_11 : Ref sig .tc := ⟨.hbm, 107, rfl⟩
abbrev main_v65 : Ref sig .tc := ⟨.hbm, 108, rfl⟩
abbrev main_v66 : Ref sig .tc := ⟨.hbm, 109, rfl⟩
abbrev main_cst_12 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_cst_13 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_cst_14 : Ref sig .tc := ⟨.hbm, 123, rfl⟩
abbrev main_v78 : Ref sig .tc := ⟨.hbm, 124, rfl⟩
abbrev main_cst_15 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_cst_16 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_cst_17 : Ref sig .tc := ⟨.hbm, 143, rfl⟩
abbrev main_v95 : Ref sig .tc := ⟨.hbm, 144, rfl⟩
abbrev main_v96 : Ref sig .tc := ⟨.hbm, 145, rfl⟩
abbrev main_cst_18 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_cst_19 : Ref sig .tc := ⟨.hbm, 159, rfl⟩
abbrev main_v109 : Ref sig .tc := ⟨.hbm, 160, rfl⟩
abbrev main_c_20 : Ref sig .tc := ⟨.hbm, 161, rfl⟩
abbrev main_v110_0 : Ref sig .tc := ⟨.hbm, 162, rfl⟩
abbrev main_v110_1 : Ref sig .tc := ⟨.hbm, 163, rfl⟩
abbrev main_v110_2 : Ref sig .tc := ⟨.hbm, 164, rfl⟩
abbrev main_v110_3 : Ref sig .tc := ⟨.hbm, 165, rfl⟩
abbrev main_v110_4 : Ref sig .tc := ⟨.hbm, 166, rfl⟩
abbrev main_v110_5 : Ref sig .tc := ⟨.hbm, 167, rfl⟩
abbrev main_while0c_c_32 : Ref sig .tc := ⟨.hbm, 168, rfl⟩
abbrev main_while0c_v137 : Ref sig .tc := ⟨.hbm, 169, rfl⟩
abbrev main_while0b_call2_c : Ref sig .tc := ⟨.hbm, 170, rfl⟩
abbrev main_while0b_call2_c_0 : Ref sig .tc := ⟨.hbm, 171, rfl⟩
abbrev main_while0b_call2_v0 : Ref sig .tc := ⟨.hbm, 172, rfl⟩
abbrev main_while0b_v137 : Ref sig .tc := ⟨.hbm, 173, rfl⟩
abbrev main_while0b_call3_c : Ref sig .tc := ⟨.hbm, 174, rfl⟩
abbrev main_while0b_call3_c_0 : Ref sig .tc := ⟨.hbm, 175, rfl⟩
abbrev main_while0b_call3_v0 : Ref sig .tc := ⟨.hbm, 176, rfl⟩
abbrev main_while0b_v138 : Ref sig .tc := ⟨.hbm, 177, rfl⟩
abbrev main_while0b_call4_c : Ref sig .tc := ⟨.hbm, 178, rfl⟩
abbrev main_while0b_call4_c_0 : Ref sig .tc := ⟨.hbm, 179, rfl⟩
abbrev main_while0b_call4_v0 : Ref sig .tc := ⟨.hbm, 180, rfl⟩
abbrev main_while0b_v139 : Ref sig .tc := ⟨.hbm, 181, rfl⟩
abbrev main_while0b_v140 : Ref sig .tc := ⟨.hbm, 182, rfl⟩
abbrev main_while0b_v141 : Ref sig .tc := ⟨.hbm, 183, rfl⟩
abbrev main_while0b_v142 : Ref sig .tc := ⟨.hbm, 184, rfl⟩
abbrev main_while0b_v143 : Ref sig .tc := ⟨.hbm, 185, rfl⟩
abbrev main_while0b_v144 : Ref sig .tc := ⟨.hbm, 186, rfl⟩
abbrev main_while0b_cst_32 : Ref sig .tc := ⟨.hbm, 187, rfl⟩
abbrev main_while0b_v145 : Ref sig .tc := ⟨.hbm, 188, rfl⟩
abbrev main_while0b_v146 : Ref sig .tc := ⟨.hbm, 189, rfl⟩
abbrev main_while0b_v147 : Ref sig .tc := ⟨.hbm, 190, rfl⟩
abbrev main_while0b_v148 : Ref sig .tc := ⟨.hbm, 191, rfl⟩
abbrev main_while0b_v149 : Ref sig .tc := ⟨.hbm, 192, rfl⟩
abbrev main_while0b_v150 : Ref sig .tc := ⟨.hbm, 193, rfl⟩
abbrev main_while0b_v151 : Ref sig .tc := ⟨.hbm, 194, rfl⟩
abbrev main_while0b_v152 : Ref sig .tc := ⟨.hbm, 195, rfl⟩
abbrev main_while0b_v153 : Ref sig .tc := ⟨.hbm, 196, rfl⟩
abbrev main_while0b_call5_v0 : Ref sig .tc := ⟨.hbm, 197, rfl⟩
abbrev main_while0b_call5_c : Ref sig .tc := ⟨.hbm, 198, rfl⟩
abbrev main_while0b_call5_c_0 : Ref sig .tc := ⟨.hbm, 199, rfl⟩
abbrev main_while0b_call5_c_1 : Ref sig .tc := ⟨.hbm, 200, rfl⟩
abbrev main_while0b_v154 : Ref sig .tc := ⟨.hbm, 201, rfl⟩
abbrev main_while0b_c_33 : Ref sig .tc := ⟨.hbm, 202, rfl⟩
abbrev main_while0b_v155 : Ref sig .tc := ⟨.hbm, 203, rfl⟩
abbrev main_v111 : Ref sig .tc := ⟨.hbm, 204, rfl⟩
abbrev main_v112 : Ref sig .tc := ⟨.hbm, 205, rfl⟩
abbrev main_v113 : Ref sig .tc := ⟨.hbm, 206, rfl⟩
abbrev main_v114 : Ref sig .tc := ⟨.hbm, 207, rfl⟩
abbrev main_v115 : Ref sig .tc := ⟨.hbm, 208, rfl⟩
abbrev main_v116 : Ref sig .tc := ⟨.hbm, 209, rfl⟩
abbrev main_v117 : Ref sig .tc := ⟨.hbm, 210, rfl⟩
abbrev main_v118 : Ref sig .tc := ⟨.hbm, 211, rfl⟩
abbrev main_v119 : Ref sig .tc := ⟨.hbm, 212, rfl⟩
abbrev main_v120 : Ref sig .tc := ⟨.hbm, 213, rfl⟩
abbrev main_v121 : Ref sig .tc := ⟨.hbm, 214, rfl⟩
abbrev main_v122 : Ref sig .tc := ⟨.hbm, 215, rfl⟩
abbrev main_v123 : Ref sig .tc := ⟨.hbm, 216, rfl⟩
abbrev main_cst_21 : Ref sig .tc := ⟨.hbm, 217, rfl⟩
abbrev main_v124 : Ref sig .tc := ⟨.hbm, 218, rfl⟩
abbrev main_v125 : Ref sig .tc := ⟨.hbm, 219, rfl⟩
abbrev main_cst_22 : Ref sig .tc := ⟨.hbm, 220, rfl⟩
abbrev main_v126 : Ref sig .tc := ⟨.hbm, 221, rfl⟩
abbrev main_v127 : Ref sig .tc := ⟨.hbm, 222, rfl⟩
abbrev main_v128 : Ref sig .tc := ⟨.hbm, 223, rfl⟩
abbrev main_v129 : Ref sig .tc := ⟨.hbm, 224, rfl⟩
abbrev main_c_23 : Ref sig .tc := ⟨.hbm, 225, rfl⟩
abbrev main_c_24 : Ref sig .tc := ⟨.hbm, 226, rfl⟩
abbrev main_call6_v0 : Ref sig .tc := ⟨.hbm, 227, rfl⟩
abbrev main_call6_v1 : Ref sig .tc := ⟨.hbm, 228, rfl⟩
abbrev main_call6_v2 : Ref sig .tc := ⟨.hbm, 229, rfl⟩
abbrev main_call6_v3 : Ref sig .tc := ⟨.hbm, 230, rfl⟩
abbrev main_call6_v4 : Ref sig .tc := ⟨.hbm, 231, rfl⟩
abbrev main_v130 : Ref sig .tc := ⟨.hbm, 232, rfl⟩
abbrev main_v131 : Ref sig .tc := ⟨.hbm, 233, rfl⟩
abbrev main_call7_c : Ref sig .tc := ⟨.hbm, 234, rfl⟩
abbrev main_call7_v0 : Ref sig .tc := ⟨.hbm, 235, rfl⟩
abbrev main_call7_v1 : Ref sig .tc := ⟨.hbm, 236, rfl⟩
abbrev main_call7_c_0 : Ref sig .tc := ⟨.hbm, 237, rfl⟩
abbrev main_call7_v2 : Ref sig .tc := ⟨.hbm, 238, rfl⟩
abbrev main_call7_v3 : Ref sig .tc := ⟨.hbm, 239, rfl⟩
abbrev main_call7_v4 : Ref sig .tc := ⟨.hbm, 240, rfl⟩
abbrev main_call7_v5 : Ref sig .tc := ⟨.hbm, 241, rfl⟩
abbrev main_call7_c_1 : Ref sig .tc := ⟨.hbm, 242, rfl⟩
abbrev main_call7_c_2 : Ref sig .tc := ⟨.hbm, 243, rfl⟩
abbrev main_call7_v6 : Ref sig .tc := ⟨.hbm, 244, rfl⟩
abbrev main_call7_v7 : Ref sig .tc := ⟨.hbm, 245, rfl⟩
abbrev main_call7_v8 : Ref sig .tc := ⟨.hbm, 246, rfl⟩
abbrev main_call7_v9 : Ref sig .tc := ⟨.hbm, 247, rfl⟩
abbrev main_call7_v10 : Ref sig .tc := ⟨.hbm, 248, rfl⟩
abbrev main_call7_v11 : Ref sig .tc := ⟨.hbm, 249, rfl⟩
abbrev main_call7_c_3 : Ref sig .tc := ⟨.hbm, 250, rfl⟩
abbrev main_call7_v12 : Ref sig .tc := ⟨.hbm, 251, rfl⟩
abbrev main_call7_v13 : Ref sig .tc := ⟨.hbm, 252, rfl⟩
abbrev main_call7_cst : Ref sig .tc := ⟨.hbm, 253, rfl⟩
abbrev main_call7_v14 : Ref sig .tc := ⟨.hbm, 254, rfl⟩
abbrev main_v132 : Ref sig .tc := ⟨.hbm, 255, rfl⟩
abbrev main_v133 : Ref sig .tc := ⟨.hbm, 256, rfl⟩
abbrev main_c_25 : Ref sig .tc := ⟨.hbm, 257, rfl⟩
abbrev main_v134 : Ref sig .tc := ⟨.hbm, 258, rfl⟩
abbrev main_v135 : Ref sig .tc := ⟨.hbm, 259, rfl⟩
abbrev main_cst_26 : Ref sig .tc := ⟨.hbm, 260, rfl⟩
abbrev main_call8_v0 : Ref sig .tc := ⟨.hbm, 261, rfl⟩
abbrev main_call8_v1 : Ref sig .tc := ⟨.hbm, 262, rfl⟩
abbrev main_v136 : Ref sig .tc := ⟨.hbm, 263, rfl⟩

abbrev nD : Nat := 1
abbrev τ : Topo := Topo.v7x

variable {F : FTy → Type} [FloatOps F]

abbrev main_while0_count : Scf.Loop 32 := ⟨0#32, 200#32, 1#32⟩
-- ==== Proof.KernelIdeal.Layers.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Tactic

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-! # The first graph layer -/

/-- The block of 400 rows a point of the first graph layer computes, from its window of the graph's rows, the features, the
    weights and the bias. -/
def layer0 (x0 : Vec F S400x4000 .f32) (x1 : Vec F S4000x128 .f32) (x2 : Vec F S128x128 .f32) (x3 : Vec F S1x128 .f32) : Vec F S400x128 .f32 :=
  View.canon [⟨Rect.unit (s := S400x128) ![0, 0] S400x128.size inb_S400x128_S400x128_0_0,
    k0_pay1 (View.ld x1 (Rect.unit ![0, 0] S4000x128.size inb_S4000x128_S4000x128_0_0))
      (View.ld x2 (Rect.unit ![0, 0] S128x128.size inb_S128x128_S128x128_0_0))
      (View.ld x3 (Rect.unit ![0, 0] S1x128.size inb_S1x128_S1x128_0_0))
      (View.ld x0 (Rect.unit ![0, 0] S400x4000.size inb_S400x4000_S400x4000_0_0))⟩]

set_option maxHeartbeats 1000000 in
/-- The body of the first graph layer on whole buffers: the inputs stay, the output holds `layer0` of them. -/
theorem run0 (c : Dev nD) (E : Set ℕ) (i : grid0.Coords) (arg1 : Memref sig .tc .vmem S400x4000 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S400x128 .f32) (harg5 : arg5.IsWhole)
    (x0 : Vec F S400x4000 .f32) (x1 : Vec F S4000x128 .f32) (x2 : Vec F S128x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (layer0 x0 x1 x2 x3)) -∗ K ⟨⟩))
      ⊢ wp frame (wpE (defs₀ (F := F)) Variants.none c none) E (cc0__hgnn_body i arg1 harg1 arg2 harg2 arg3 harg3 arg4 harg4 arg5 harg5) K := by
  simp only [cc0__hgnn_body_eq_skeleton]; unfold cc0__hgnn_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (View.cover_of_tiled _ S400x128.size (by rfl))

section
variable (V : (c : Dev nD) → (b : Ref sig .tc) → Buf (Elt F) ((c : Thread nD τ).loc b))

/-- The part of array `w` that point `t` works on, the arrays holding `V`. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the first graph layer does at every point: the inputs' blocks stay and the output's block is computed from them. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => layer0 (blk0 V c 0 t) (blk0 V c 1 t) (blk0 V c 2 t) (blk0 V c 3 t)
  Φ _ := Pipeline.ΦA spec0 c
  q _ := fullShare
  owed _ := 0

/-- The array a window of the first graph layer shows is the one the call is entered with. -/
theorem arr0 (c : Dev nD) (w : Fin cfg0.W) : (dat0 V c).A w = V c (Pipeline.arrRef spec0 w) := by
  dsimp only [dat0]

/-- The body of the first graph layer leaves window 0, the graph matrix's rows, as fetched. -/
theorem after0_0 (c : Dev nD) (t : Fin cfg0.N) : (dat0 V c).after 0 t = blk0 V c 0 t := by dsimp only [dat0]
/-- The body of the first graph layer leaves window 1, the features, as fetched. -/
theorem after0_1 (c : Dev nD) (t : Fin cfg0.N) : (dat0 V c).after 1 t = blk0 V c 1 t := by dsimp only [dat0]
/-- The body of the first graph layer leaves window 2, the weights, as fetched. -/
theorem after0_2 (c : Dev nD) (t : Fin cfg0.N) : (dat0 V c).after 2 t = blk0 V c 2 t := by dsimp only [dat0]
/-- The body of the first graph layer leaves window 3, the bias, as fetched. -/
theorem after0_3 (c : Dev nD) (t : Fin cfg0.N) : (dat0 V c).after 3 t = blk0 V c 3 t := by dsimp only [dat0]
/-- What the first graph layer's body leaves in its result's window. -/
theorem after0_4 (c : Dev nD) (t : Fin cfg0.N) : (dat0 V c).after 4 t = layer0 (blk0 V c 0 t) (blk0 V c 1 t) (blk0 V c 2 t) (blk0 V c 3 t) := by dsimp only [dat0]

/-- Before the body of the first graph layer runs, window 0 holds the graph matrix's rows as fetched. -/
theorem before0_0 (c : Dev nD) (t : Fin cfg0.N) (d) : (dat0 V c).before 0 t d = blk0 V c 0 t :=
  (dat0 V c).before_in_eq_fetched 0 rfl (fun _ => rfl) (fun _ _ _ => rfl) (fun t => after0_0 V c t) t d
/-- Before the body of the first graph layer runs, window 1 holds the features as fetched. -/
theorem before0_1 (c : Dev nD) (t : Fin cfg0.N) (d) : (dat0 V c).before 1 t d = blk0 V c 1 t :=
  (dat0 V c).before_in_eq_fetched 1 rfl (fun _ => rfl) (fun _ _ _ => rfl) (fun t => after0_1 V c t) t d
/-- Before the body of the first graph layer runs, window 2 holds the weights as fetched. -/
theorem before0_2 (c : Dev nD) (t : Fin cfg0.N) (d) : (dat0 V c).before 2 t d = blk0 V c 2 t :=
  (dat0 V c).before_in_eq_fetched 2 rfl (fun _ => rfl) (fun _ _ _ => rfl) (fun t => after0_2 V c t) t d
/-- Before the body of the first graph layer runs, window 3 holds the bias as fetched. -/
theorem before0_3 (c : Dev nD) (t : Fin cfg0.N) (d) : (dat0 V c).before 3 t d = blk0 V c 3 t :=
  (dat0 V c).before_in_eq_fetched 3 rfl (fun _ => rfl) (fun _ _ _ => rfl) (fun t => after0_3 V c t) t d

/-- What the body is entered with at a point. -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What the body is left with at a point. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body of the first graph layer takes every point from `pre0` to `post0`. -/
theorem point0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (run0 c Set.univ (grid0.coords t) _ _ _ _ _ _ _ _ _ _ (blk0 V c 0 t) (blk0 V c 1 t) (blk0 V c 2 t) (blk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The first graph layer's body at a point of the grid is the body on that point's windows. -/
theorem row0 (t : Fin cfg0.N) :
    defs₀ (F := F) .tc cfg0.body (cfg0.bodyArgs t (cfg0.slots t)) = bodyAt0 t := by
  unfold defs₀; rw [Defs.onTc_tc]

/-- The obligation the pipeline of the first graph layer has for its body. -/
theorem oblig0 (c : Dev nD) : BodyObligation (dat0 (F := F) V c) (defs₀ (F := F)) Variants.none () Set.univ := fun t => by
  rw [bigSep_W0, bigSep_W0, row0]
  exact triple_restated (point0 V c t) rfl .rfl fun _ => .rfl

end

/-! # The second graph layer -/

/-- The block of 400 rows a point of the second graph layer computes, from its window of the graph's rows, the features, the
    weights and the bias. -/
def layer1 (x0 : Vec F S400x4000 .f32) (x1 : Vec F S4000x128 .f32) (x2 : Vec F S128x128 .f32) (x3 : Vec F S1x128 .f32) : Vec F S400x128 .f32 :=
  View.canon [⟨Rect.unit (s := S400x128) ![0, 0] S400x128.size inb_S400x128_S400x128_0_0,
    k1_pay1 (View.ld x1 (Rect.unit ![0, 0] S4000x128.size inb_S4000x128_S4000x128_0_0))
      (View.ld x2 (Rect.unit ![0, 0] S128x128.size inb_S128x128_S128x128_0_0))
      (View.ld x3 (Rect.unit ![0, 0] S1x128.size inb_S1x128_S1x128_0_0))
      (View.ld x0 (Rect.unit ![0, 0] S400x4000.size inb_S400x4000_S400x4000_0_0))⟩]

set_option maxHeartbeats 1000000 in
/-- The body of the second graph layer on whole buffers: the inputs stay, the output holds `layer1` of them. -/
theorem run1 (c : Dev nD) (E : Set ℕ) (i : grid1.Coords) (arg1 : Memref sig .tc .vmem S400x4000 .f32) (harg1 : arg1.IsWhole) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S400x128 .f32) (harg5 : arg5.IsWhole)
    (x0 : Vec F S400x4000 .f32) (x1 : Vec F S4000x128 .f32) (x2 : Vec F S128x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (layer1 x0 x1 x2 x3)) -∗ K ⟨⟩))
      ⊢ wp frame (wpE (defs₀ (F := F)) Variants.none c none) E (cc1__hgnn_body i arg1 harg1 arg2 harg2 arg3 harg3 arg4 harg4 arg5 harg5) K := by
  simp only [cc1__hgnn_body_eq_skeleton]; unfold cc1__hgnn_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (View.cover_of_tiled _ S400x128.size (by rfl))

section
variable (V : (c : Dev nD) → (b : Ref sig .tc) → Buf (Elt F) ((c : Thread nD τ).loc b))

/-- The part of array `w` that point `t` works on, the arrays holding `V`. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the second graph layer does at every point: the inputs' blocks stay and the output's block is computed from them. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => layer1 (blk1 V c 0 t) (blk1 V c 1 t) (blk1 V c 2 t) (blk1 V c 3 t)
  Φ _ := Pipeline.ΦA spec1 c
  q _ := fullShare
  owed _ := 0

/-- The array a window of the second graph layer shows is the one the call is entered with. -/
theorem arr1 (c : Dev nD) (w : Fin cfg1.W) : (dat1 V c).A w = V c (Pipeline.arrRef spec1 w) := by
  dsimp only [dat1]

/-- The body of the second graph layer leaves window 0, the graph matrix's rows, as fetched. -/
theorem after1_0 (c : Dev nD) (t : Fin cfg1.N) : (dat1 V c).after 0 t = blk1 V c 0 t := by dsimp only [dat1]
/-- The body of the second graph layer leaves window 1, the features, as fetched. -/
theorem after1_1 (c : Dev nD) (t : Fin cfg1.N) : (dat1 V c).after 1 t = blk1 V c 1 t := by dsimp only [dat1]
/-- The body of the second graph layer leaves window 2, the weights, as fetched. -/
theorem after1_2 (c : Dev nD) (t : Fin cfg1.N) : (dat1 V c).after 2 t = blk1 V c 2 t := by dsimp only [dat1]
/-- The body of the second graph layer leaves window 3, the bias, as fetched. -/
theorem after1_3 (c : Dev nD) (t : Fin cfg1.N) : (dat1 V c).after 3 t = blk1 V c 3 t := by dsimp only [dat1]
/-- What the second graph layer's body leaves in its result's window. -/
theorem after1_4 (c : Dev nD) (t : Fin cfg1.N) : (dat1 V c).after 4 t = layer1 (blk1 V c 0 t) (blk1 V c 1 t) (blk1 V c 2 t) (blk1 V c 3 t) := by dsimp only [dat1]

/-- Before the body of the second graph layer runs, window 0 holds the graph matrix's rows as fetched. -/
theorem before1_0 (c : Dev nD) (t : Fin cfg1.N) (d) : (dat1 V c).before 0 t d = blk1 V c 0 t :=
  (dat1 V c).before_in_eq_fetched 0 rfl (fun _ => rfl) (fun _ _ _ => rfl) (fun t => after1_0 V c t) t d
/-- Before the body of the second graph layer runs, window 1 holds the features as fetched. -/
theorem before1_1 (c : Dev nD) (t : Fin cfg1.N) (d) : (dat1 V c).before 1 t d = blk1 V c 1 t :=
  (dat1 V c).before_in_eq_fetched 1 rfl (fun _ => rfl) (fun _ _ _ => rfl) (fun t => after1_1 V c t) t d
/-- Before the body of the second graph layer runs, window 2 holds the weights as fetched. -/
theorem before1_2 (c : Dev nD) (t : Fin cfg1.N) (d) : (dat1 V c).before 2 t d = blk1 V c 2 t :=
  (dat1 V c).before_in_eq_fetched 2 rfl (fun _ => rfl) (fun _ _ _ => rfl) (fun t => after1_2 V c t) t d
/-- Before the body of the second graph layer runs, window 3 holds the bias as fetched. -/
theorem before1_3 (c : Dev nD) (t : Fin cfg1.N) (d) : (dat1 V c).before 3 t d = blk1 V c 3 t :=
  (dat1 V c).before_in_eq_fetched 3 rfl (fun _ => rfl) (fun _ _ _ => rfl) (fun t => after1_3 V c t) t d

/-- What the body is entered with at a point. -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What the body is left with at a point. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body of the second graph layer takes every point from `pre1` to `post1`. -/
theorem point1 (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (run1 c Set.univ (grid1.coords t) _ _ _ _ _ _ _ _ _ _ (blk1 V c 0 t) (blk1 V c 1 t) (blk1 V c 2 t) (blk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The second graph layer's body at a point of the grid is the body on that point's windows. -/
theorem row1 (t : Fin cfg1.N) :
    defs₀ (F := F) .tc cfg1.body (cfg1.bodyArgs t (cfg1.slots t)) = bodyAt1 t := by
  unfold defs₀; rw [Defs.onTc_tc]

/-- The obligation the pipeline of the second graph layer has for its body. -/
theorem oblig1 (c : Dev nD) : BodyObligation (dat1 (F := F) V c) (defs₀ (F := F)) Variants.none () Set.univ := fun t => by
  rw [bigSep_W1, bigSep_W1, row1]
  exact triple_restated (point1 V c t) rfl .rfl fun _ => .rfl

end

end Cert.KernelIdeal.Body

end
-- ==== Proof.KernelIdeal.Pure.lean ====
module

public import proofs.«01_k».proof.Proof.Gen.KernelIdeal.Skeleton
public import Idealize.ShloMosaic.Lib.Pipeline.FrameBody
public import Idealize.ShloMosaic.Lib.Pipeline.Value
public import Idealize.ShloMosaic.Lib.ValueIdxCore

/-! # The memory network's body as functions of its twenty input blocks

A chunk is 800 rows (25 time steps of 32 batch rows). Every function here is the arithmetic the body
does on a chunk, on one time step, or on a whole block; none of them reads a buffer. -/

@[expose] public section

set_option maxRecDepth 16384

noncomputable section

namespace Cert.KernelIdeal.Body

open Idealize.ShloMosaic Idealize.SL.Sem
open Cert.KernelIdeal.Gen

variable {F : FTy → Type} [FloatOps F] [Named F]

/-! ## One chunk, before the recurrence -/

/-- The student each row names, counted from zero. -/
def studIx (st : Vec F S1x800x1 .i32) : IVec S800x1 32 :=
  subi (shapeCast S800x1 st shapeCasts_S1x800x1_S800x1) (broadcast S800x1 1#32)

/-- The row of the response table each row names: the skill, plus 200 where the answer counts as right. -/
def respIx (sk an : Vec F S1x800x1 .i32) : IVec S800x1 32 :=
  addi (shapeCast S800x1 sk shapeCasts_S1x800x1_S800x1)
    (muli (broadcast S800x1 200#32)
      (select (cmpi .eq (shapeCast S800x1 an shapeCasts_S1x800x1_S800x1) (broadcast S800x1 2#32))
        (broadcast S800x1 1#32) (shapeCast S800x1 an shapeCasts_S1x800x1_S800x1)))

/-- Half a chunk of students looked up: the row of ones and zeros that marks a student, times the table. -/
def pickStud (ix : IVec S400x1 32) (tab : Vec F S4000x128 .f32) : FVec F S400x128 .f32 :=
  matmul dot_S400x4000_S4000x128_S400x128_1_0_0_1_n_n none
    (select (cmpi .eq (iota .tc S400x4000 32 [1] iota_S400x4000_d1_w32)
        (broadcastTo S400x4000 ix broadcasts_S400x1_S400x4000))
      (broadcast S400x4000 (Scalar.ofBits (F := F) .f32 0x3F800000#32))
      (broadcast S400x4000 (Scalar.ofBits .f32 0x00000000#32)))
    (shapeCast S4000x128 tab shapeCasts_S4000x128_S4000x128) (constant S400x128 .f32 0x00000000#32)

/-- A chunk of students looked up, in two halves. -/
def studC (st : Vec F S1x800x1 .i32) (tab : Vec F S4000x128 .f32) : FVec F S800x128 .f32 :=
  concatenate S800x128 0
    [⟨S400x128, pickStud (extractStridedSlice S400x1 ![0, 0] (studIx st) slices_S800x1_o0_0_S400x1) tab⟩,
     ⟨S400x128, pickStud (extractStridedSlice S400x1 ![400, 0] (studIx st) slices_S800x1_o400_0_S400x1) tab⟩]
    concatenates_S400x128_S400x128_S800x128_d0

/-- A chunk of skills looked up. -/
def skillC (sk : Vec F S1x800x1 .i32) (tab : Vec F S208x128 .f32) : FVec F S800x128 .f32 :=
  matmul dot_S800x208_S208x128_S800x128_1_0_0_1_n_n none
    (select (cmpi .eq (iota .tc S800x208 32 [1] iota_S800x208_d1_w32)
        (broadcastTo S800x208 (shapeCast S800x1 sk shapeCasts_S1x800x1_S800x1 : IVec S800x1 32) broadcasts_S800x1_S800x208))
      (broadcast S800x208 (Scalar.ofBits (F := F) .f32 0x3F800000#32))
      (broadcast S800x208 (Scalar.ofBits .f32 0x00000000#32)))
    (shapeCast S208x128 tab shapeCasts_S208x128_S208x128) (constant S800x128 .f32 0x00000000#32)

/-- A chunk of responses looked up. -/
def respC (sk an : Vec F S1x800x1 .i32) (tab : Vec F S408x128 .f32) : FVec F S800x128 .f32 :=
  matmul dot_S800x408_S408x128_S800x128_1_0_0_1_n_n none
    (select (cmpi .eq (iota .tc S800x408 32 [1] iota_S800x408_d1_w32)
        (broadcastTo S800x408 (respIx sk an) broadcasts_S800x1_S800x408))
      (broadcast S800x408 (Scalar.ofBits (F := F) .f32 0x3F800000#32))
      (broadcast S800x408 (Scalar.ofBits .f32 0x00000000#32)))
    (shapeCast S408x128 tab shapeCasts_S408x128_S408x128) (constant S800x128 .f32 0x00000000#32)

/-- The gate of a chunk: the logistic of one number per row, from both embeddings. -/
def gateC (s k : FVec F S800x128 .f32) (ws wk : Vec F S128x1 .f32) (b : Vec F S1x1 .f32) : FVec F S800x1 .f32 :=
  logistic (addf (addf
      (matmul dot_S800x128_S128x1_S800x1_1_0_0_1_n_n none s ws (constant S800x1 .f32 0x00000000#32))
      (matmul dot_S800x128_S128x1_S800x1_1_0_0_1_n_n none k wk (constant S800x1 .f32 0x00000000#32)))
    (broadcastTo S800x1 (shapeCast S1x1 b shapeCasts_S1x1_S1x1) broadcasts_S1x1_S800x1))

/-- Two embeddings mixed by a gate. -/
def mixC (g : FVec F S800x1 .f32) (s k : FVec F S800x128 .f32) : FVec F S800x128 .f32 :=
  addf (mulf (broadcastTo S800x128 g broadcasts_S800x1_S800x128) s)
    (mulf (broadcastTo S800x128 (subf (broadcast S800x1 (Scalar.ofBits .f32 0x3F800000#32)) g)
      broadcasts_S800x1_S800x128) k)

/-- The scores of a chunk against the 64 padded memory keys, the last 14 masked. -/
def scoreC (k : FVec F S800x128 .f32) (mk : Vec F S128x64 .f32) : FVec F S800x64 .f32 :=
  select (cmpi .slt (iota .tc S800x64 32 [1] iota_S800x64_d1_w32) (broadcast S800x64 50#32))
    (matmul dot_S800x128_S128x64_S800x64_1_0_0_1_n_n none k (shapeCast S128x64 mk shapeCasts_S128x64_S128x64)
      (constant S800x64 .f32 0x00000000#32))
    (broadcast S800x64 (Named.named κ "mask" 0xF149F2CA#32))

/-- The exponentials of a chunk's scores, each row shifted by its largest. -/
def expC (l : FVec F S800x64 .f32) : FVec F S800x64 .f32 :=
  exp (subf l (broadcastTo S800x64 (shapeCast S800x1
    (multiReduction .maximumf [1] S800 l 0xFF800000#32 reduces_S800x64_S800 (.inl rfl) rfl)
    shapeCasts_S800_S800x1) broadcasts_S800x1_S800x64))

/-- Every row over its sum. -/
def normC (x : FVec F S800x64 .f32) : FVec F S800x64 .f32 :=
  divf x (broadcastTo S800x64 (shapeCast S800x1
    (multiReduction .add [1] S800 x 0x00000000#32 reduces_S800x64_S800 (.inl rfl) rfl)
    shapeCasts_S800_S800x1) broadcasts_S800x1_S800x64)

/-- A chunk through a linear layer of 128. -/
def linC (v : FVec F S800x128 .f32) (w : Vec F S128x128 .f32) (b : Vec F S1x128 .f32) : FVec F S800x128 .f32 :=
  addf (matmul dot_S800x128_S128x128_S800x128_1_0_0_1_n_n none v w (constant S800x128 .f32 0x00000000#32))
    (broadcastTo S800x128 (shapeCast S1x128 b shapeCasts_S1x128_S1x128) broadcasts_S1x128_S800x128)

/-! ## One time step -/

/-- The memory weighted by a step's addressing. -/
def weigh (w : Vec F S32x64 .f32) (M : Vec F S32x64x128 .f32) : FVec F S32x64x128 .f32 :=
  mulf (broadcastTo S32x64x128 (shapeCast S32x64x1 w shapeCasts_S32x64_S32x64x1) broadcasts_S32x64x1_S32x64x128) M

/-- What a step reads: the weighted memory summed over its slots. -/
def readS (w : Vec F S32x64 .f32) (M : Vec F S32x64x128 .f32) : FVec F S32x128 .f32 :=
  shapeCast S32x128 (multiReduction .add [1] S32x128 (weigh w M) 0x00000000#32 reduces_S32x64x128_S32x128 (.inl rfl) rfl)
    shapeCasts_S32x128_S32x128

/-- What a step leaves in the memory: erased, then added to. -/
def writeS (w : Vec F S32x64 .f32) (e a : Vec F S32x128 .f32) (M : Vec F S32x64x128 .f32) : FVec F S32x64x128 .f32 :=
  shapeCast S32x64x128
    (addf
      (subf M (mulf (broadcastTo S32x64x128 (shapeCast S32x1x128 e shapeCasts_S32x128_S32x1x128)
        broadcasts_S32x1x128_S32x64x128) (weigh w M)))
      (mulf (broadcastTo S32x64x128 (shapeCast S32x64x1 w shapeCasts_S32x64_S32x64x1) broadcasts_S32x64x1_S32x64x128)
        (broadcastTo S32x64x128 (shapeCast S32x1x128 a shapeCasts_S32x128_S32x1x128) broadcasts_S32x1x128_S32x64x128)))
    shapeCasts_S32x64x128_S32x64x128

/-- The memory every batch row starts from. -/
def startS (m : Vec F S64x128 .f32) : FVec F S32x64x128 .f32 :=
  shapeCast S32x64x128
    (broadcastTo S32x64x128
      (shapeCast S1x64x128
        (shapeCast S1x64x128 (shapeCast S64x128 m shapeCasts_S64x128_S64x128) shapeCasts_S64x128_S1x64x128)
        shapeCasts_S1x64x128_S1x64x128)
      broadcasts_S1x64x128_S32x64x128)
    shapeCasts_S32x64x128_S32x64x128

/-! ## The recurrence -/

/-- Step `t`'s 32 rows lie in a block of 6400. -/
theorem inbStep (n : ℕ) (t : ℕ) : ∀ a, (![32 * (t % 200), 0] : Fin 2 → ℕ) a + (⟨2, ![32, n]⟩ : Shape).size a
    ≤ (⟨2, ![6400, n]⟩ : Shape).size a :=
  Rect.inb₂ (by show 32 * (t % 200) + 32 ≤ 6400; omega) (by show 0 + n ≤ n; omega)

/-- Step `t`'s rows of a block of 128 columns, -/
abbrev rectStep (t : ℕ) : Rect S6400x128 := Rect.unit ![32 * (t % 200), 0] S32x128.size (inbStep 128 t)

/-- and of the addressing's block. -/
abbrev rectStepW (t : ℕ) : Rect S6400x64 := Rect.unit ![32 * (t % 200), 0] S32x64.size (inbStep 64 t)

section
variable (W : Vec F S6400x64 .f32) (E A : Vec F S6400x128 .f32) (M0 : Vec F S32x64x128 .f32)

/-- The memory before step `t`. -/
def memAt : ℕ → Vec F S32x64x128 .f32
  | 0 => M0
  | t + 1 => writeS (View.ld W (rectStepW t)) (View.ld E (rectStep t)) (View.ld A (rectStep t)) (memAt t)

/-- What step `t` reads. -/
def readAtStep (t : ℕ) : Vec F S32x128 .f32 := readS (View.ld W (rectStepW t)) (memAt W E A M0 t)

/-- All the reads, one under another. -/
def readAll : Vec F S6400x128 .f32 := fun y =>
  readAtStep W E A M0 ((y 0).val / 32)
    (ValueIdx.ix2 (n0 := 32) (n1 := 128) ⟨(y 0).val % 32, Nat.mod_lt _ (by decide)⟩ (y 1))

end

/-! ## A block, chunk by chunk -/

/-- Chunk `c`'s rows lie in a block of 6400, -/
theorem inbChunk (n : ℕ) (c : Fin 8) : ∀ a, (![800 * c.val, 0] : Fin 2 → ℕ) a + (⟨2, ![800, n]⟩ : Shape).size a
    ≤ (⟨2, ![6400, n]⟩ : Shape).size a :=
  Rect.inb₂ (by show 800 * c.val + 800 ≤ 6400; omega) (by show 0 + n ≤ n; omega)

/-- and in a column of `n` that reaches far enough, `o` rows further down. -/
theorem inbCol {n : ℕ} (o : ℕ) (h : 6400 + o ≤ n) (c : Fin 8) :
    ∀ a, (![0, 800 * c.val + o, 0] : Fin 3 → ℕ) a + (⟨3, ![1, 800, 1]⟩ : Shape).size a ≤ (⟨3, ![1, n, 1]⟩ : Shape).size a :=
  Fin.forall_fin_succ.mpr ⟨le_refl 1, Fin.forall_fin_succ.mpr
    ⟨by show 800 * c.val + o + 800 ≤ n; omega, Fin.forall_fin_one.mpr (le_refl 1)⟩⟩

/-- Chunk `c`'s rows of a block of 128 columns, -/
abbrev rectC (c : Fin 8) : Rect S6400x128 := Rect.unit ![800 * c.val, 0] S800x128.size (inbChunk 128 c)
/-- of the addressing's block, -/
abbrev rectCW (c : Fin 8) : Rect S6400x64 := Rect.unit ![800 * c.val, 0] S800x64.size (inbChunk 64 c)
/-- of a column of 6400, -/
abbrev rectCol (c : Fin 8) : Rect S1x6400x1 := Rect.unit ![0, 800 * c.val + 0, 0] S1x800x1.size (inbCol 0 (by decide) c)
/-- and of the skills' column of 6432, `o` rows down. -/
abbrev rectColSk (o : ℕ) (h : o ≤ 32) (c : Fin 8) : Rect S1x6432x1 :=
  Rect.unit ![0, 800 * c.val + o, 0] S1x800x1.size (inbCol o (by omega) c)

/-- Chunk by chunk, from the last. -/
def chunks {α : Type} (f : Fin 8 → α) : List α := [f 7, f 6, f 5, f 4, f 3, f 2, f 1, f 0]

section
variable (x0 : Vec F S1x6432x1 .i32) (x1 : Vec F S1x6400x1 .i32) (x2 : Vec F S1x6400x1 .i32) (x3 : Vec F S4000x128 .f32)
  (x4 : Vec F S208x128 .f32) (x5 : Vec F S408x128 .f32) (x6 : Vec F S128x64 .f32) (x7 : Vec F S64x128 .f32)
  (x8 : Vec F S256x1 .f32) (x9 : Vec F S1x1 .f32) (x10 : Vec F S256x1 .f32) (x11 : Vec F S1x1 .f32)
  (x12 : Vec F S128x128 .f32) (x13 : Vec F S1x128 .f32) (x14 : Vec F S128x128 .f32) (x15 : Vec F S1x128 .f32)
  (x16 : Vec F S256x128 .f32) (x17 : Vec F S1x128 .f32) (x18 : Vec F S128x200 .f32) (x19 : Vec F S1x200 .f32)

/-- Chunk `c`'s students, -/
def stud (c : Fin 8) : FVec F S800x128 .f32 :=
  studC (View.ld x2 (rectCol c)) (View.ld x3 (Rect.unit ![0, 0] S4000x128.size inb_S4000x128_S4000x128_0_0))
/-- skills, -/
def skil (c : Fin 8) : FVec F S800x128 .f32 :=
  skillC (View.ld x0 (rectColSk 0 (by decide) c)) (View.ld x4 (Rect.unit ![0, 0] S208x128.size inb_S208x128_S208x128_0_0))
/-- and responses. -/
def resp (c : Fin 8) : FVec F S800x128 .f32 :=
  respC (View.ld x0 (rectColSk 0 (by decide) c)) (View.ld x1 (rectCol c))
    (View.ld x5 (Rect.unit ![0, 0] S408x128.size inb_S408x128_S408x128_0_0))

/-- Chunk `c`'s mixed question, -/
def quesM (c : Fin 8) : FVec F S800x128 .f32 :=
  mixC (gateC (stud x2 x3 c) (skil x0 x4 c)
      (View.ld x8 (Rect.unit ![0, 0] S128x1.size inb_S256x1_S128x1_0_0))
      (View.ld x8 (Rect.unit ![128, 0] S128x1.size inb_S256x1_S128x1_128_0))
      (View.ld x9 (Rect.unit ![0, 0] S1x1.size inb_S1x1_S1x1_0_0)))
    (stud x2 x3 c) (skil x0 x4 c)
/-- and its mixed response. -/
def respM (c : Fin 8) : FVec F S800x128 .f32 :=
  mixC (gateC (stud x2 x3 c) (resp x0 x1 x5 c)
      (View.ld x10 (Rect.unit ![0, 0] S128x1.size inb_S256x1_S128x1_0_0))
      (View.ld x10 (Rect.unit ![128, 0] S128x1.size inb_S256x1_S128x1_128_0))
      (View.ld x11 (Rect.unit ![0, 0] S1x1.size inb_S1x1_S1x1_0_0)))
    (stud x2 x3 c) (resp x0 x1 x5 c)

/-- Chunk `c` of the questions, as stored, -/
def quesP (c : Fin 8) : View.Piece (Elt F) S6400x128 .f32 :=
  ⟨rectC c, shapeCast S800x128 (quesM x0 x2 x3 x4 x8 x9 c) shapeCasts_S800x128_S800x128⟩
/-- of the addressing, -/
def addrP (c : Fin 8) : View.Piece (Elt F) S6400x64 .f32 :=
  ⟨rectCW c, shapeCast S800x64 (normC (expC (scoreC (quesM x0 x2 x3 x4 x8 x9 c)
    (View.ld x6 (Rect.unit ![0, 0] S128x64.size inb_S128x64_S128x64_0_0))))) shapeCasts_S800x64_S800x64⟩
/-- of what is erased, -/
def eraseP (c : Fin 8) : View.Piece (Elt F) S6400x128 .f32 :=
  ⟨rectC c, shapeCast S800x128 (logistic (linC (respM x0 x1 x2 x3 x5 x10 x11 c)
    (View.ld x12 (Rect.unit ![0, 0] S128x128.size inb_S128x128_S128x128_0_0))
    (View.ld x13 (Rect.unit ![0, 0] S1x128.size inb_S1x128_S1x128_0_0)))) shapeCasts_S800x128_S800x128⟩
/-- and of what is added. -/
def addP (c : Fin 8) : View.Piece (Elt F) S6400x128 .f32 :=
  ⟨rectC c, shapeCast S800x128 (tanh (linC (respM x0 x1 x2 x3 x5 x10 x11 c)
    (View.ld x14 (Rect.unit ![0, 0] S128x128.size inb_S128x128_S128x128_0_0))
    (View.ld x15 (Rect.unit ![0, 0] S1x128.size inb_S1x128_S1x128_0_0)))) shapeCasts_S800x128_S800x128⟩

/-- The questions of all chunks, -/
def quesA : Vec F S6400x128 .f32 := View.canon (chunks (quesP x0 x2 x3 x4 x8 x9))
/-- the addressing, -/
def addrA : Vec F S6400x64 .f32 := View.canon (chunks (addrP x0 x2 x3 x4 x6 x8 x9))
/-- what is erased, -/
def eraseA : Vec F S6400x128 .f32 := View.canon (chunks (eraseP x0 x1 x2 x3 x5 x10 x11 x12 x13))
/-- what is added, -/
def addA : Vec F S6400x128 .f32 := View.canon (chunks (addP x0 x1 x2 x3 x5 x10 x11 x14 x15))

/-- and what the recurrence reads. -/
def readA : Vec F S6400x128 .f32 :=
  readAll (addrA x0 x2 x3 x4 x6 x8 x9) (eraseA x0 x1 x2 x3 x5 x10 x11 x12 x13) (addA x0 x1 x2 x3 x5 x10 x11 x14 x15)
    (startS (View.ld x7 (Rect.unit ![0, 0] S64x128.size inb_S64x128_S64x128_0_0)))

end

/-! ## One chunk, after the recurrence -/

/-- The probability of every skill. -/
def probC (r k : FVec F S800x128 .f32) (wr wk : Vec F S128x128 .f32) (b : Vec F S1x128 .f32) (wp : Vec F S128x200 .f32)
    (bp : Vec F S1x200 .f32) : FVec F S800x200 .f32 :=
  logistic (addf
    (matmul dot_S800x128_S128x200_S800x200_1_0_0_1_n_n none
      (tanh (addf (addf
          (matmul dot_S800x128_S128x128_S800x128_1_0_0_1_n_n none r wr (constant S800x128 .f32 0x00000000#32))
          (matmul dot_S800x128_S128x128_S800x128_1_0_0_1_n_n none k wk (constant S800x128 .f32 0x00000000#32)))
        (broadcastTo S800x128 (shapeCast S1x128 b shapeCasts_S1x128_S1x128) broadcasts_S1x128_S800x128)))
      wp (constant S800x200 .f32 0x00000000#32))
    (broadcastTo S800x200 (shapeCast S1x200 bp shapeCasts_S1x200_S1x200) broadcasts_S1x200_S800x200))

/-- The one of them the next question's skill names. -/
def nextC (p : FVec F S800x200 .f32) (nsk : Vec F S1x800x1 .i32) : FVec F S1x800x1 .f32 :=
  shapeCast S1x800x1
    (shapeCast S800x1
      (multiReduction .add [1] S800
        (select (cmpi .eq (iota .tc S800x200 32 [1] iota_S800x200_d1_w32)
            (broadcastTo S800x200 (shapeCast S800x1 nsk shapeCasts_S1x800x1_S800x1 : IVec S800x1 32)
              broadcasts_S800x1_S800x200))
          p (broadcast S800x200 (Scalar.ofBits .f32 0x00000000#32)))
        0x00000000#32 reduces_S800x200_S800 (.inl rfl) rfl)
      shapeCasts_S800_S800x1)
    shapeCasts_S800x1_S1x800x1

section
variable (x0 : Vec F S1x6432x1 .i32) (R K : Vec F S6400x128 .f32)
  (x16 : Vec F S256x128 .f32) (x17 : Vec F S1x128 .f32) (x18 : Vec F S128x200 .f32) (x19 : Vec F S1x200 .f32)

/-- Chunk `c` of the result, from what the recurrence read and the questions. -/
def outP (c : Fin 8) : View.Piece (Elt F) S1x6400x1 .f32 :=
  ⟨rectCol c, nextC
    (probC (View.ld R (rectC c)) (View.ld K (rectC c))
      (View.ld x16 (Rect.unit ![0, 0] S128x128.size inb_S256x128_S128x128_0_0))
      (View.ld x16 (Rect.unit ![128, 0] S128x128.size inb_S256x128_S128x128_128_0))
      (View.ld x17 (Rect.unit ![0, 0] S1x128.size inb_S1x128_S1x128_0_0))
      (View.ld x18 (Rect.unit ![0, 0] S128x200.size inb_S128x200_S128x200_0_0))
      (View.ld x19 (Rect.unit ![0, 0] S1x200.size inb_S1x200_S1x200_0_0)))
    (View.ld x0 (rectColSk 32 (by decide) c))⟩

end

/-- The block of the result the body leaves, of its twenty input blocks. -/
def outA (x0 : Vec F S1x6432x1 .i32) (x1 : Vec F S1x6400x1 .i32) (x2 : Vec F S1x6400x1 .i32) (x3 : Vec F S4000x128 .f32)
    (x4 : Vec F S208x128 .f32) (x5 : Vec F S408x128 .f32) (x6 : Vec F S128x64 .f32) (x7 : Vec F S64x128 .f32)
    (x8 : Vec F S256x1 .f32) (x9 : Vec F S1x1 .f32) (x10 : Vec F S256x1 .f32) (x11 : Vec F S1x1 .f32)
    (x12 : Vec F S128x128 .f32) (x13 : Vec F S1x128 .f32) (x14 : Vec F S128x128 .f32) (x15 : Vec F S1x128 .f32)
    (x16 : Vec F S256x128 .f32) (x17 : Vec F S1x128 .f32) (x18 : Vec F S128x200 .f32) (x19 : Vec F S1x200 .f32) :
    Vec F S1x6400x1 .f32 :=
  View.canon (chunks (outP x0 (readA x0 x1 x2 x3 x4 x5 x6 x7 x8 x9 x10 x11 x12 x13 x14 x15) (quesA x0 x2 x3 x4 x8 x9)
    x16 x17 x18 x19))

end Cert.KernelIdeal.Body
-- ==== Proof.KernelIdeal.Body.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Ring
public import Idealize.ShloMosaic.Lib.Tactic

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

section
variable (c : Dev nD) (i : grid2.Coords)
  (arg1 : Memref sig .tc .vmem S1x6432x1 .i32) (harg1 : arg1.IsWhole)
  (arg2 : Memref sig .tc .vmem S1x6400x1 .i32) (harg2 : arg2.IsWhole)
  (arg3 : Memref sig .tc .vmem S1x6400x1 .i32) (harg3 : arg3.IsWhole)
  (arg4 : Memref sig .tc .vmem S4000x128 .f32) (harg4 : arg4.IsWhole)
  (arg5 : Memref sig .tc .vmem S208x128 .f32) (harg5 : arg5.IsWhole)
  (arg6 : Memref sig .tc .vmem S408x128 .f32) (harg6 : arg6.IsWhole)
  (arg7 : Memref sig .tc .vmem S128x64 .f32) (harg7 : arg7.IsWhole)
  (arg8 : Memref sig .tc .vmem S64x128 .f32) (harg8 : arg8.IsWhole)
  (arg9 : Memref sig .tc .vmem S256x1 .f32) (harg9 : arg9.IsWhole)
  (arg10 : Memref sig .tc .vmem S1x1 .f32) (harg10 : arg10.IsWhole)
  (arg11 : Memref sig .tc .vmem S256x1 .f32) (harg11 : arg11.IsWhole)
  (arg12 : Memref sig .tc .vmem S1x1 .f32) (harg12 : arg12.IsWhole)
  (arg13 : Memref sig .tc .vmem S128x128 .f32) (harg13 : arg13.IsWhole)
  (arg14 : Memref sig .tc .vmem S1x128 .f32) (harg14 : arg14.IsWhole)
  (arg15 : Memref sig .tc .vmem S128x128 .f32) (harg15 : arg15.IsWhole)
  (arg16 : Memref sig .tc .vmem S1x128 .f32) (harg16 : arg16.IsWhole)
  (arg17 : Memref sig .tc .vmem S256x128 .f32) (harg17 : arg17.IsWhole)
  (arg18 : Memref sig .tc .vmem S1x128 .f32) (harg18 : arg18.IsWhole)
  (arg19 : Memref sig .tc .vmem S128x200 .f32) (harg19 : arg19.IsWhole)
  (arg20 : Memref sig .tc .vmem S1x200 .f32) (harg20 : arg20.IsWhole)
  (arg21 : Memref sig .tc .vmem S1x6400x1 .f32) (harg21 : arg21.IsWhole)
  (arg22 : Memref sig .tc .vmem S6400x128 .f32) (harg22 : arg22.IsWhole)
  (arg23 : Memref sig .tc .vmem S6400x64 .f32) (harg23 : arg23.IsWhole)
  (arg24 : Memref sig .tc .vmem S6400x128 .f32) (harg24 : arg24.IsWhole)
  (arg25 : Memref sig .tc .vmem S6400x128 .f32) (harg25 : arg25.IsWhole)
  (arg26 : Memref sig .tc .vmem S6400x128 .f32) (harg26 : arg26.IsWhole)
  (arg27 : Memref sig .tc .vmem S32x64x128 .f32) (harg27 : arg27.IsWhole)
variable (x0 : Vec F S1x6432x1 .i32) (x1 : Vec F S1x6400x1 .i32) (x2 : Vec F S1x6400x1 .i32) (x3 : Vec F S4000x128 .f32) (x4 : Vec F S208x128 .f32) (x5 : Vec F S408x128 .f32) (x6 : Vec F S128x64 .f32) (x7 : Vec F S64x128 .f32) (x8 : Vec F S256x1 .f32) (x9 : Vec F S1x1 .f32) (x10 : Vec F S256x1 .f32) (x11 : Vec F S1x1 .f32) (x12 : Vec F S128x128 .f32) (x13 : Vec F S1x128 .f32) (x14 : Vec F S128x128 .f32) (x15 : Vec F S1x128 .f32) (x16 : Vec F S256x128 .f32) (x17 : Vec F S1x128 .f32) (x18 : Vec F S128x200 .f32) (x19 : Vec F S1x200 .f32)

set_option maxHeartbeats 2000000 in
/-- One point of the main kernel, run: on whole memrefs, the inputs' at `x0 … x19`, the output's and the scratch
    buffers' at anything (`g26` names what the read-out scratch holds), the body returns with the inputs as they
    were and the listed pieces written into the output. The list is found by the run. -/
noncomputable def run2 (g26 : BufTy.Contents (Elt F) arg26.view.ty) :
    { L : List (View.Piece (Elt F) S1x6400x1 .f32) // ∀ (E : Set ℕ) (K : PUnit → sProp 𝕄),
      iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (arg26.view.loc (c : Thread nD τ) ↦[arg26.view.set]{fullShare} g26) ∗ (∃ d, owns (c : Thread nD τ) arg27 fullShare d) ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ f, (arg21.view.loc (c : Thread nD τ) ↦[arg21.view.set]{fullShare} arg21.view.writes (Elt F) f L)) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)) -∗ K ⟨⟩))
      ⊢ wp frame (wpE (defs₀ (F := F)) Variants.none c none) E (cc2__main_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, fun E K => ?run⟩
  case run =>
    simp only [cc2__main_body_eq_skeleton]; unfold cc2__main_body_skel
    simp only [k2_part37_eq_skeleton]; unfold k2_part37_skel
    simp only [k2_part4_eq_skeleton, k2_part5_eq_skeleton, k2_part6_eq_skeleton, k2_part7_eq_skeleton, k2_part8_eq_skeleton, k2_part9_eq_skeleton, k2_part10_eq_skeleton, k2_part11_eq_skeleton, k2_part12_eq_skeleton, k2_part13_eq_skeleton, k2_part14_eq_skeleton, k2_part15_eq_skeleton, k2_part16_eq_skeleton, k2_part17_eq_skeleton, k2_part18_eq_skeleton, k2_part19_eq_skeleton, k2_part20_eq_skeleton, k2_part21_eq_skeleton, k2_part22_eq_skeleton, k2_part23_eq_skeleton, k2_part24_eq_skeleton, k2_part25_eq_skeleton, k2_part26_eq_skeleton, k2_part27_eq_skeleton, k2_part28_eq_skeleton, k2_part29_eq_skeleton, k2_part30_eq_skeleton, k2_part31_eq_skeleton, k2_part32_eq_skeleton, k2_part33_eq_skeleton, k2_part34_eq_skeleton, k2_part35_eq_skeleton, k2_part36_eq_skeleton, k2_part37_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%d21, %f21, -, H21⟩, ⟨%d22, %f22, -, H22⟩, ⟨%d23, %f23, -, H23⟩, ⟨%d24, %f24, -, H24⟩, H25, ⟨%d26, %f26, -, H26⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]; · iexists _; iexact H20
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    isplitl [H25]
    · iexists _, _; isplitr; swap; · iexact H25
      ipureintro; rfl
    iexists _, _; isplitr; swap; · iexact H26
    ipureintro; rfl

end
end Cert.KernelIdeal.Body
end
-- ==== Proof.KernelIdeal.Trips.lean ====
module

public import proofs.«01_k».proof.Proof.KernelIdeal.Pure
public import proofs.«01_k».proof.Proof.KernelIdeal.Body
public import Idealize.ShloMosaic.Lib.VecWindow

/-! # The recurrence's loop, trip by trip

Each trip of the loop does four time steps. What the loop leaves in the memory's buffer and in the
reads' buffer is the recurrence of `Pure.lean`. -/

@[expose] public section

set_option maxRecDepth 16384

noncomputable section

namespace Cert.KernelIdeal.Body

open Idealize.ShloMosaic Idealize.SL.Sem
open Cert.KernelIdeal.Gen

variable {F : FTy → Type} [FloatOps F] [Named F]

/-- The rows a trip's `u`-th step loads from the addressing are the recurrence's, -/
theorem off1_eq (k : Fin k2_t1_loop.trips) (u : Fin 4) :
    k2_off1 k (BitVec.ofNat 32 u.val) = ![32 * ((4 * k.val + u.val) % 200), 0] := by
  revert k u; decide
/-- and so are the rows of the other blocks. -/
theorem off2_eq (k : Fin k2_t1_loop.trips) (u : Fin 4) :
    k2_off2 k (BitVec.ofNat 32 u.val) = ![32 * ((4 * k.val + u.val) % 200), 0] := by
  revert k u; decide

/-- Two loads at equal offsets are equal. -/
theorem ld_congr {S : Shape} {e : EltTy} {off off' size : Fin S.rank → ℕ} (X : S.Idx → Elt F e) (h : off = off')
    (inb : ∀ a, off a + size a ≤ S.size a) (inb' : ∀ a, off' a + size a ≤ S.size a) :
    View.ld X (Rect.unit off size inb) = View.ld X (Rect.unit off' size inb') := by
  subst h; rfl

/-- Two stores of one payload at equal offsets are equal. -/
theorem piece_congr {S : Shape} {e : EltTy} {off off' size : Fin S.rank → ℕ} (h : off = off')
    (inb : ∀ a, off a + size a ≤ S.size a) (inb' : ∀ a, off' a + size a ≤ S.size a)
    (w : (⟨S.rank, size⟩ : Shape).Idx → Elt F e) :
    (⟨Rect.unit off size inb, w⟩ : View.Piece (Elt F) S e) = ⟨Rect.unit off' size inb', w⟩ := by
  subst h; rfl

section
variable (𝒱 : Variants) (c : Dev nD) (bd : Option 𝒱.V) (i : grid2.Coords)
  (arg1 : Memref sig .tc .vmem S1x6432x1 .i32) (harg1 : arg1.IsWhole)
  (arg2 : Memref sig .tc .vmem S1x6400x1 .i32) (harg2 : arg2.IsWhole)
  (arg3 : Memref sig .tc .vmem S1x6400x1 .i32) (harg3 : arg3.IsWhole)
  (arg4 : Memref sig .tc .vmem S4000x128 .f32) (harg4 : arg4.IsWhole)
  (arg5 : Memref sig .tc .vmem S208x128 .f32) (harg5 : arg5.IsWhole)
  (arg6 : Memref sig .tc .vmem S408x128 .f32) (harg6 : arg6.IsWhole)
  (arg7 : Memref sig .tc .vmem S128x64 .f32) (harg7 : arg7.IsWhole)
  (arg8 : Memref sig .tc .vmem S64x128 .f32) (harg8 : arg8.IsWhole)
  (arg9 : Memref sig .tc .vmem S256x1 .f32) (harg9 : arg9.IsWhole)
  (arg10 : Memref sig .tc .vmem S1x1 .f32) (harg10 : arg10.IsWhole)
  (arg11 : Memref sig .tc .vmem S256x1 .f32) (harg11 : arg11.IsWhole)
  (arg12 : Memref sig .tc .vmem S1x1 .f32) (harg12 : arg12.IsWhole)
  (arg13 : Memref sig .tc .vmem S128x128 .f32) (harg13 : arg13.IsWhole)
  (arg14 : Memref sig .tc .vmem S1x128 .f32) (harg14 : arg14.IsWhole)
  (arg15 : Memref sig .tc .vmem S128x128 .f32) (harg15 : arg15.IsWhole)
  (arg16 : Memref sig .tc .vmem S1x128 .f32) (harg16 : arg16.IsWhole)
  (arg17 : Memref sig .tc .vmem S256x128 .f32) (harg17 : arg17.IsWhole)
  (arg18 : Memref sig .tc .vmem S1x128 .f32) (harg18 : arg18.IsWhole)
  (arg19 : Memref sig .tc .vmem S128x200 .f32) (harg19 : arg19.IsWhole)
  (arg20 : Memref sig .tc .vmem S1x200 .f32) (harg20 : arg20.IsWhole)
  (arg21 : Memref sig .tc .vmem S1x6400x1 .f32) (harg21 : arg21.IsWhole)
  (arg22 : Memref sig .tc .vmem S6400x128 .f32) (harg22 : arg22.IsWhole)
  (arg23 : Memref sig .tc .vmem S6400x64 .f32) (harg23 : arg23.IsWhole)
  (arg24 : Memref sig .tc .vmem S6400x128 .f32) (harg24 : arg24.IsWhole)
  (arg25 : Memref sig .tc .vmem S6400x128 .f32) (harg25 : arg25.IsWhole)
  (arg26 : Memref sig .tc .vmem S6400x128 .f32) (harg26 : arg26.IsWhole)
  (arg27 : Memref sig .tc .vmem S32x64x128 .f32) (harg27 : arg27.IsWhole)
  (v4 v5 : Vec F S128x128 .f32) (v1026 : FVec F S32x64x128 .f32)
  (X23 : BufTy.Contents (Elt F) arg23.view.ty) (X24 : BufTy.Contents (Elt F) arg24.view.ty)
  (X25 : BufTy.Contents (Elt F) arg25.view.ty) (G26 : BufTy.Contents (Elt F) arg26.view.ty)
  (G27 : BufTy.Contents (Elt F) arg27.view.ty)

/-- A step at its own rows. -/
def stepAt (W : Vec F S6400x64 .f32) (E B : Vec F S6400x128 .f32) (t : ℕ) (M : Vec F S32x64x128 .f32) : Vec F S32x64x128 .f32 :=
  writeS (View.ld W (rectStepW t)) (View.ld E (rectStep t)) (View.ld B (rectStep t)) M

/-- The weights a step reads lie inside the array of all weights, -/
theorem inb1 (k : Fin k2_t1_loop.trips) (u : Fin 4) (a : Fin 2) :
    k2_off1 k (BitVec.ofNat 32 u.val) a + S32x64.size a ≤ S6400x64.size a := by
  rw [off1_eq]; exact inbStep 64 _ a
/-- and so do the rows of 128 it reads. -/
theorem inb2 (k : Fin k2_t1_loop.trips) (u : Fin 4) (a : Fin 2) :
    k2_off2 k (BitVec.ofNat 32 u.val) a + S32x128.size a ≤ S6400x128.size a := by
  rw [off2_eq]; exact inbStep 128 _ a

/-- A trip's `u`-th step, with the rows where the program computes them. -/
def tripStep (W : Vec F S6400x64 .f32) (E B : Vec F S6400x128 .f32) (k : Fin k2_t1_loop.trips) (u : Fin 4)
    (M : Vec F S32x64x128 .f32) : Vec F S32x64x128 .f32 :=
  writeS (View.ld W (Rect.unit (k2_off1 k (BitVec.ofNat 32 u.val)) S32x64.size (inb1 k u)))
    (View.ld E (Rect.unit (k2_off2 k (BitVec.ofNat 32 u.val)) S32x128.size (inb2 k u)))
    (View.ld B (Rect.unit (k2_off2 k (BitVec.ofNat 32 u.val)) S32x128.size (inb2 k u))) M

/-- A step inside a trip is the memory's step at the step's number, four times the trip's number and its own. -/
theorem tripStep_eq (W : Vec F S6400x64 .f32) (E B : Vec F S6400x128 .f32) (k : Fin k2_t1_loop.trips) (u : Fin 4)
    (M : Vec F S32x64x128 .f32) : tripStep W E B k u M = stepAt W E B (4 * k.val + u.val) M := by
  unfold tripStep stepAt
  rw [ld_congr W (off1_eq k u) _ (inbStep 64 _), ld_congr E (off2_eq k u) _ (inbStep 128 _), ld_congr B (off2_eq k u) _ (inbStep 128 _)]

/-- A load of the whole memory after a store of the whole memory is the store's payload. -/
theorem cov_mem (h : ∀ a, (![0, 0, 0] : Fin 3 → ℕ) a + S32x64x128.size a ≤ S32x64x128.size a) (w : Vec F S32x64x128 .f32) (L : List (View.Piece (Elt F) S32x64x128 .f32)) :
    arg27.view.readCov (⟨Rect.unit ![0, 0, 0] S32x64x128.size h, w⟩ :: L) (Rect.unit ![0, 0, 0] S32x64x128.size h).toLoadRect = w :=
  View.readCov_cons_toLoadRect _ _ _ _

/-- The memory after a trip's first step, -/
theorem trip_m1 (k : Fin k2_t1_loop.trips) : trip_k2_t1.sl.v1308 arg23 arg24 arg25 arg27 X23 X24 X25 k G27
    = tripStep (arg23.view.read (Elt F) X23) (arg24.view.read (Elt F) X24) (arg25.view.read (Elt F) X25) k 0 (arg27.view.read (Elt F) G27) := by
  refine (cov_mem arg27 _ _ _).trans ?_
  rw [← View.readAt_full arg27.view G27 inb_S32x64x128_S32x64x128_0_0_0]
  rfl

/-- after its second -/
theorem trip_m2 (k : Fin k2_t1_loop.trips) : trip_k2_t1.sl.v1342 arg23 arg24 arg25 arg27 X23 X24 X25 k G27
    = tripStep (arg23.view.read (Elt F) X23) (arg24.view.read (Elt F) X24) (arg25.view.read (Elt F) X25) k 1 (tripStep (arg23.view.read (Elt F) X23) (arg24.view.read (Elt F) X24) (arg25.view.read (Elt F) X25) k 0 (arg27.view.read (Elt F) G27)) := by
  refine (cov_mem arg27 _ _ _).trans ?_
  rw [← trip_m1]
  rfl

/-- and after its third. -/
theorem trip_m3 (k : Fin k2_t1_loop.trips) : trip_k2_t1.sl.v1376 arg23 arg24 arg25 arg27 X23 X24 X25 k G27
    = tripStep (arg23.view.read (Elt F) X23) (arg24.view.read (Elt F) X24) (arg25.view.read (Elt F) X25) k 2 (tripStep (arg23.view.read (Elt F) X23) (arg24.view.read (Elt F) X24) (arg25.view.read (Elt F) X25) k 1 (tripStep (arg23.view.read (Elt F) X23) (arg24.view.read (Elt F) X24) (arg25.view.read (Elt F) X25) k 0 (arg27.view.read (Elt F) G27))) := by
  refine (cov_mem arg27 _ _ _).trans ?_
  rw [← trip_m2]
  rfl

/-- What a trip stores into the memory reads as four steps from what it held. -/
theorem trip_mem (k : Fin k2_t1_loop.trips) :
    arg27.view.read (Elt F) (arg27.view.writes (Elt F) G27 (tripL_k2_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v4 v5 v1026 X23 X24 X25 k G26 G27).2)
      = tripStep (arg23.view.read (Elt F) X23) (arg24.view.read (Elt F) X24) (arg25.view.read (Elt F) X25) k 3 (tripStep (arg23.view.read (Elt F) X23) (arg24.view.read (Elt F) X24) (arg25.view.read (Elt F) X25) k 2 (tripStep (arg23.view.read (Elt F) X23) (arg24.view.read (Elt F) X24) (arg25.view.read (Elt F) X25) k 1 (tripStep (arg23.view.read (Elt F) X23) (arg24.view.read (Elt F) X24) (arg25.view.read (Elt F) X25) k 0 (arg27.view.read (Elt F) G27)))) := by
  have h : (tripL_k2_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v4 v5 v1026 X23 X24 X25 k G26 G27).2
      = ⟨Rect.unit ![0, 0, 0] S32x64x128.size inb_S32x64x128_S32x64x128_0_0_0,
          tripStep (arg23.view.read (Elt F) X23) (arg24.view.read (Elt F) X24) (arg25.view.read (Elt F) X25) k 3 (trip_k2_t1.sl.v1376 arg23 arg24 arg25 arg27 X23 X24 X25 k G27)⟩
        :: trip_k2_t1.sl.HW_arg27_3 arg23 arg24 arg25 arg27 X23 X24 X25 k G27 := by
    with_unfolding_all rfl
  rw [h, View.read_writes_full, trip_m3]

/-- A trip's store of its `u`-th read, where the program computes the rows. -/
def tripRead (W : Vec F S6400x64 .f32) (k : Fin k2_t1_loop.trips) (u : Fin 4) (M : Vec F S32x64x128 .f32) :
    View.Piece (Elt F) S6400x128 .f32 :=
  ⟨Rect.unit (k2_off2 k (BitVec.ofNat 32 u.val)) S32x128.size (inb2 k u),
    readS (View.ld W (Rect.unit (k2_off1 k (BitVec.ofNat 32 u.val)) S32x64.size (inb1 k u))) M⟩

/-- A step's store of its read. -/
def readPiece (W : Vec F S6400x64 .f32) (t : ℕ) (M : Vec F S32x64x128 .f32) : View.Piece (Elt F) S6400x128 .f32 :=
  ⟨rectStep t, readS (View.ld W (rectStepW t)) M⟩

/-- What a step inside a trip reads is the read-out at the step's number. -/
theorem tripRead_eq (W : Vec F S6400x64 .f32) (k : Fin k2_t1_loop.trips) (u : Fin 4) (M : Vec F S32x64x128 .f32) :
    tripRead W k u M = readPiece W (4 * k.val + u.val) M := by
  unfold tripRead readPiece
  rw [ld_congr W (off1_eq k u) _ (inbStep 64 _)]
  exact piece_congr (F := F) (S := S6400x128) (e := .f32) (size := S32x128.size) (off2_eq k u) (inb2 k u) (inbStep 128 _)
    (readS (View.ld W (rectStepW (4 * k.val + u.val))) M)

/-- What a trip stores into the reads' buffer: its four reads. -/
theorem trip_reads (k : Fin k2_t1_loop.trips) :
    (tripL_k2_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v4 v5 v1026 X23 X24 X25 k G26 G27).1
      = [tripRead (arg23.view.read (Elt F) X23) k 3 (tripStep (arg23.view.read (Elt F) X23) (arg24.view.read (Elt F) X24) (arg25.view.read (Elt F) X25) k 2 (tripStep (arg23.view.read (Elt F) X23) (arg24.view.read (Elt F) X24) (arg25.view.read (Elt F) X25) k 1 (tripStep (arg23.view.read (Elt F) X23) (arg24.view.read (Elt F) X24) (arg25.view.read (Elt F) X25) k 0 (arg27.view.read (Elt F) G27)))),
         tripRead (arg23.view.read (Elt F) X23) k 2 (tripStep (arg23.view.read (Elt F) X23) (arg24.view.read (Elt F) X24) (arg25.view.read (Elt F) X25) k 1 (tripStep (arg23.view.read (Elt F) X23) (arg24.view.read (Elt F) X24) (arg25.view.read (Elt F) X25) k 0 (arg27.view.read (Elt F) G27))),
         tripRead (arg23.view.read (Elt F) X23) k 1 (tripStep (arg23.view.read (Elt F) X23) (arg24.view.read (Elt F) X24) (arg25.view.read (Elt F) X25) k 0 (arg27.view.read (Elt F) G27)),
         tripRead (arg23.view.read (Elt F) X23) k 0 (arg27.view.read (Elt F) G27)] := by
  rw [← trip_m3, ← trip_m2, ← trip_m1, ← View.readAt_full arg27.view G27 inb_S32x64x128_S32x64x128_0_0_0]
  with_unfolding_all rfl

/-- Two steps' rows are apart. -/
theorem step_apart {t s : ℕ} (ht : t < 200) (hs : s < 200) (h : t ≠ s) (x : (rectStep t).shape.Idx) :
    (rectStep t).emb x ∉ (rectStep s).set := by
  have hx : (x 0).val < 32 := (x 0).isLt
  refine Rect.not_mem_set_of_axis _ _ 0 (32 * (s % 200)) 32 rfl rfl rfl ?_
  show 32 * (t % 200) + 1 * (x 0).val < _ ∨ _ ≤ 32 * (t % 200) + 1 * (x 0).val
  omega

/-- Reading a step's rows passes over another step's store, -/
theorem read_skip (f : BufTy.Contents (Elt F) arg26.view.ty) (W : Vec F S6400x64 .f32) (M : Vec F S32x64x128 .f32)
    {t s : ℕ} (ht : t < 200) (hs : s < 200) (h : t ≠ s) (L : List (View.Piece (Elt F) S6400x128 .f32)) (x : (rectStep t).shape.Idx) :
    arg26.view.read (Elt F) (arg26.view.writes (Elt F) f (readPiece W s M :: L)) ((rectStep t).emb x)
      = arg26.view.read (Elt F) (arg26.view.writes (Elt F) f L) ((rectStep t).emb x) :=
  View.read_writes_cons_miss _ _ _ _ _ (step_apart ht hs h x)

/-- and finds its own. -/
theorem read_hit (f : BufTy.Contents (Elt F) arg26.view.ty) (W : Vec F S6400x64 .f32) (M : Vec F S32x64x128 .f32)
    (t : ℕ) (L : List (View.Piece (Elt F) S6400x128 .f32)) (x : (rectStep t).shape.Idx) :
    arg26.view.read (Elt F) (arg26.view.writes (Elt F) f (readPiece W t M :: L)) ((rectStep t).emb x)
      = readS (View.ld W (rectStepW t)) M x :=
  View.read_writes_cons_emb _ _ _ _ _ x

/-- After `k` trips the memory's buffer reads as the memory before step `4k`, and the reads' buffer holds what the
    first `4k` steps read. -/
theorem trips_inv (k : ℕ) (hk : k ≤ 50) :
    arg27.view.read (Elt F) (arg27.view.writes (Elt F) G27 (pb_k2_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v4 v5 v1026 X23 X24 X25 G26 G27 k).2)
        = memAt (arg23.view.read (Elt F) X23) (arg24.view.read (Elt F) X24) (arg25.view.read (Elt F) X25) (arg27.view.read (Elt F) G27) (4 * k)
    ∧ ∀ t, t < 4 * k → ∀ x : (rectStep t).shape.Idx,
        arg26.view.read (Elt F) (arg26.view.writes (Elt F) G26 (pb_k2_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v4 v5 v1026 X23 X24 X25 G26 G27 k).1)
            ((rectStep t).emb x)
          = readAtStep (arg23.view.read (Elt F) X23) (arg24.view.read (Elt F) X24) (arg25.view.read (Elt F) X25) (arg27.view.read (Elt F) G27) t x := by
  induction k with
  | zero => exact ⟨rfl, fun t ht => absurd ht (by omega)⟩
  | succ k ih =>
    obtain ⟨ihm, ihr⟩ := ih (by omega)
    have hs := pb_k2_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v4 v5 v1026 X23 X24 X25 G26 G27 ⟨k, show k < 50 by omega⟩
    have hs' : pb_k2_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v4 v5 v1026 X23 X24 X25 G26 G27 (k + 1) = _ := hs
    rw [hs']
    constructor
    · show arg27.view.read (Elt F) (arg27.view.writes (Elt F) G27 (_ ++ _)) = _
      rw [View.writes_append, trip_mem, ihm]
      simp only [tripStep_eq]
      rfl
    · intro t ht x
      show arg26.view.read (Elt F) (arg26.view.writes (Elt F) G26 (_ ++ _)) _ = _
      rw [View.writes_append, trip_reads, ihm]
      rw [tripRead_eq, tripRead_eq, tripRead_eq, tripRead_eq]
      simp only [tripStep_eq]
      show arg26.view.read (Elt F) (arg26.view.writes (Elt F) _
        [readPiece _ (4 * k + 3) _, readPiece _ (4 * k + 2) _, readPiece _ (4 * k + 1) _, readPiece _ (4 * k + 0) _]) _ = _
      by_cases h3 : t = 4 * k + 3
      · subst h3; exact read_hit arg26 _ _ _ _ _ x
      rw [read_skip arg26 _ _ _ (s := 4 * k + 3) (by omega) (by omega) h3]
      by_cases h2 : t = 4 * k + 2
      · subst h2; exact read_hit arg26 _ _ _ _ _ x
      rw [read_skip arg26 _ _ _ (s := 4 * k + 2) (by omega) (by omega) h2]
      by_cases h1 : t = 4 * k + 1
      · subst h1; exact read_hit arg26 _ _ _ _ _ x
      rw [read_skip arg26 _ _ _ (s := 4 * k + 1) (by omega) (by omega) h1]
      by_cases h0 : t = 4 * k + 0
      · subst h0; exact read_hit arg26 _ _ _ _ _ x
      rw [read_skip arg26 _ _ _ (s := 4 * k + 0) (by omega) (by omega) h0]
      exact ihr t (by omega) x

/-- After the loop the reads' buffer reads as all the reads, whatever it held. -/
theorem reads_eq :
    arg26.view.read (Elt F) (arg26.view.writes (Elt F) G26 (pb_k2_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v4 v5 v1026 X23 X24 X25 G26 G27 50).1)
      = readAll (arg23.view.read (Elt F) X23) (arg24.view.read (Elt F) X24) (arg25.view.read (Elt F) X25) (arg27.view.read (Elt F) G27) := by
  funext y
  have hy : (y 0).val < 6400 := (y 0).isLt
  have h := (trips_inv 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v4 v5 v1026 X23 X24 X25 G26 G27 50 le_rfl).2 ((y 0).val / 32) (by omega)
    (ValueIdx.ix2 (n0 := 32) (n1 := 128) ⟨(y 0).val % 32, Nat.mod_lt _ (by decide)⟩ (y 1))
  have e : (rectStep ((y 0).val / 32)).emb (ValueIdx.ix2 (n0 := 32) (n1 := 128) ⟨(y 0).val % 32, Nat.mod_lt _ (by decide)⟩ (y 1)) = y := by
    refine Rect.emb_eq_of_coords _ _ _ (Fin.forall_fin_two.mpr ⟨?_, ?_⟩)
    · show (y 0).val = 32 * ((y 0).val / 32 % 200) + 1 * ((y 0).val % 32)
      omega
    · show (y 1).val = 0 + 1 * (y 1).val
      omega
  rw [e] at h
  exact h

end

end Cert.KernelIdeal.Body
-- ==== Proof.KernelIdeal.BodyValue.lean ====
module

public import proofs.«01_k».proof.Proof.KernelIdeal.Trips

/-! # What the body leaves in its result block

The pieces the run stores, gathered from `Body.lean`, are the chunks of `Pure.lean`; so the block the
body leaves is `outA` of its twenty input blocks, whatever the scratch buffers held. -/

@[expose] public section

set_option maxRecDepth 16384

noncomputable section

namespace Cert.KernelIdeal.Body

open Idealize.ShloMosaic Idealize.SL.Sem
open Cert.KernelIdeal.Gen

variable {F : FTy → Type} [FloatOps F] [Named F]

section
variable (c : Dev nD) (i : grid2.Coords)
  (arg1 : Memref sig .tc .vmem S1x6432x1 .i32) (harg1 : arg1.IsWhole)
  (arg2 : Memref sig .tc .vmem S1x6400x1 .i32) (harg2 : arg2.IsWhole)
  (arg3 : Memref sig .tc .vmem S1x6400x1 .i32) (harg3 : arg3.IsWhole)
  (arg4 : Memref sig .tc .vmem S4000x128 .f32) (harg4 : arg4.IsWhole)
  (arg5 : Memref sig .tc .vmem S208x128 .f32) (harg5 : arg5.IsWhole)
  (arg6 : Memref sig .tc .vmem S408x128 .f32) (harg6 : arg6.IsWhole)
  (arg7 : Memref sig .tc .vmem S128x64 .f32) (harg7 : arg7.IsWhole)
  (arg8 : Memref sig .tc .vmem S64x128 .f32) (harg8 : arg8.IsWhole)
  (arg9 : Memref sig .tc .vmem S256x1 .f32) (harg9 : arg9.IsWhole)
  (arg10 : Memref sig .tc .vmem S1x1 .f32) (harg10 : arg10.IsWhole)
  (arg11 : Memref sig .tc .vmem S256x1 .f32) (harg11 : arg11.IsWhole)
  (arg12 : Memref sig .tc .vmem S1x1 .f32) (harg12 : arg12.IsWhole)
  (arg13 : Memref sig .tc .vmem S128x128 .f32) (harg13 : arg13.IsWhole)
  (arg14 : Memref sig .tc .vmem S1x128 .f32) (harg14 : arg14.IsWhole)
  (arg15 : Memref sig .tc .vmem S128x128 .f32) (harg15 : arg15.IsWhole)
  (arg16 : Memref sig .tc .vmem S1x128 .f32) (harg16 : arg16.IsWhole)
  (arg17 : Memref sig .tc .vmem S256x128 .f32) (harg17 : arg17.IsWhole)
  (arg18 : Memref sig .tc .vmem S1x128 .f32) (harg18 : arg18.IsWhole)
  (arg19 : Memref sig .tc .vmem S128x200 .f32) (harg19 : arg19.IsWhole)
  (arg20 : Memref sig .tc .vmem S1x200 .f32) (harg20 : arg20.IsWhole)
  (arg21 : Memref sig .tc .vmem S1x6400x1 .f32) (harg21 : arg21.IsWhole)
  (arg22 : Memref sig .tc .vmem S6400x128 .f32) (harg22 : arg22.IsWhole)
  (arg23 : Memref sig .tc .vmem S6400x64 .f32) (harg23 : arg23.IsWhole)
  (arg24 : Memref sig .tc .vmem S6400x128 .f32) (harg24 : arg24.IsWhole)
  (arg25 : Memref sig .tc .vmem S6400x128 .f32) (harg25 : arg25.IsWhole)
  (arg26 : Memref sig .tc .vmem S6400x128 .f32) (harg26 : arg26.IsWhole)
  (arg27 : Memref sig .tc .vmem S32x64x128 .f32) (harg27 : arg27.IsWhole)
  (x0 : Vec F S1x6432x1 .i32)
  (x1 : Vec F S1x6400x1 .i32)
  (x2 : Vec F S1x6400x1 .i32)
  (x3 : Vec F S4000x128 .f32)
  (x4 : Vec F S208x128 .f32)
  (x5 : Vec F S408x128 .f32)
  (x6 : Vec F S128x64 .f32)
  (x7 : Vec F S64x128 .f32)
  (x8 : Vec F S256x1 .f32)
  (x9 : Vec F S1x1 .f32)
  (x10 : Vec F S256x1 .f32)
  (x11 : Vec F S1x1 .f32)
  (x12 : Vec F S128x128 .f32)
  (x13 : Vec F S1x128 .f32)
  (x14 : Vec F S128x128 .f32)
  (x15 : Vec F S1x128 .f32)
  (x16 : Vec F S256x128 .f32)
  (x17 : Vec F S1x128 .f32)
  (x18 : Vec F S128x200 .f32)
  (x19 : Vec F S1x200 .f32)
  (g26 : BufTy.Contents (Elt F) arg26.view.ty)

/-- The questions stored are the eight chunks'; -/
theorem ques_pieces : run2.sl.H21_8 c arg1 harg1 arg3 harg3 arg4 harg4 arg5 harg5 arg9 harg9 arg10 harg10 x0 x2 x3 x4 x8 x9 = chunks (quesP x0 x2 x3 x4 x8 x9) := by
  have h : run2.sl.H21_8 c arg1 harg1 arg3 harg3 arg4 harg4 arg5 harg5 arg9 harg9 arg10 harg10 x0 x2 x3 x4 x8 x9 = chunks (quesP (arg1.view.read (Elt F) (harg1.unread x0)) (arg3.view.read (Elt F) (harg3.unread x2)) (arg4.view.read (Elt F) (harg4.unread x3)) (arg5.view.read (Elt F) (harg5.unread x4)) (arg9.view.read (Elt F) (harg9.unread x8)) (arg10.view.read (Elt F) (harg10.unread x9))) := rfl
  simpa only [Memref.IsWhole.read_unread] using h

/-- so is the addressing, -/
theorem addr_pieces : run2.sl.H22_8 c arg1 harg1 arg3 harg3 arg4 harg4 arg5 harg5 arg7 harg7 arg9 harg9 arg10 harg10 x0 x2 x3 x4 x6 x8 x9 = chunks (addrP x0 x2 x3 x4 x6 x8 x9) := by
  have h : run2.sl.H22_8 c arg1 harg1 arg3 harg3 arg4 harg4 arg5 harg5 arg7 harg7 arg9 harg9 arg10 harg10 x0 x2 x3 x4 x6 x8 x9 = chunks (addrP (arg1.view.read (Elt F) (harg1.unread x0)) (arg3.view.read (Elt F) (harg3.unread x2)) (arg4.view.read (Elt F) (harg4.unread x3)) (arg5.view.read (Elt F) (harg5.unread x4)) (arg7.view.read (Elt F) (harg7.unread x6)) (arg9.view.read (Elt F) (harg9.unread x8)) (arg10.view.read (Elt F) (harg10.unread x9))) := rfl
  simpa only [Memref.IsWhole.read_unread] using h

/-- what is erased, -/
theorem erase_pieces : run2.sl.H23_8 c arg1 harg1 arg2 harg2 arg3 harg3 arg4 harg4 arg6 harg6 arg11 harg11 arg12 harg12 arg13 harg13 arg14 harg14 x0 x1 x2 x3 x5 x10 x11 x12 x13 = chunks (eraseP x0 x1 x2 x3 x5 x10 x11 x12 x13) := by
  have h : run2.sl.H23_8 c arg1 harg1 arg2 harg2 arg3 harg3 arg4 harg4 arg6 harg6 arg11 harg11 arg12 harg12 arg13 harg13 arg14 harg14 x0 x1 x2 x3 x5 x10 x11 x12 x13 = chunks (eraseP (arg1.view.read (Elt F) (harg1.unread x0)) (arg2.view.read (Elt F) (harg2.unread x1)) (arg3.view.read (Elt F) (harg3.unread x2)) (arg4.view.read (Elt F) (harg4.unread x3)) (arg6.view.read (Elt F) (harg6.unread x5)) (arg11.view.read (Elt F) (harg11.unread x10)) (arg12.view.read (Elt F) (harg12.unread x11)) (arg13.view.read (Elt F) (harg13.unread x12)) (arg14.view.read (Elt F) (harg14.unread x13))) := rfl
  simpa only [Memref.IsWhole.read_unread] using h

/-- and what is added. -/
theorem add_pieces : run2.sl.H24_8 c arg1 harg1 arg2 harg2 arg3 harg3 arg4 harg4 arg6 harg6 arg11 harg11 arg12 harg12 arg15 harg15 arg16 harg16 x0 x1 x2 x3 x5 x10 x11 x14 x15 = chunks (addP x0 x1 x2 x3 x5 x10 x11 x14 x15) := by
  have h : run2.sl.H24_8 c arg1 harg1 arg2 harg2 arg3 harg3 arg4 harg4 arg6 harg6 arg11 harg11 arg12 harg12 arg15 harg15 arg16 harg16 x0 x1 x2 x3 x5 x10 x11 x14 x15 = chunks (addP (arg1.view.read (Elt F) (harg1.unread x0)) (arg2.view.read (Elt F) (harg2.unread x1)) (arg3.view.read (Elt F) (harg3.unread x2)) (arg4.view.read (Elt F) (harg4.unread x3)) (arg6.view.read (Elt F) (harg6.unread x5)) (arg11.view.read (Elt F) (harg11.unread x10)) (arg12.view.read (Elt F) (harg12.unread x11)) (arg15.view.read (Elt F) (harg15.unread x14)) (arg16.view.read (Elt F) (harg16.unread x15))) := rfl
  simpa only [Memref.IsWhole.read_unread] using h

/-- The memory the recurrence starts from. -/
theorem start_pieces : run2.sl.H26_1 c arg8 harg8 x7
    = [⟨Rect.unit ![0, 0, 0] S32x64x128.size inb_S32x64x128_S32x64x128_0_0_0,
        startS (View.ld x7 (Rect.unit ![0, 0] S64x128.size inb_S64x128_S64x128_0_0))⟩] := by
  have h : run2.sl.H26_1 c arg8 harg8 x7
    = [⟨Rect.unit ![0, 0, 0] S32x64x128.size inb_S32x64x128_S32x64x128_0_0_0,
        startS (View.ld (arg8.view.read (Elt F) (harg8.unread x7)) (Rect.unit ![0, 0] S64x128.size inb_S64x128_S64x128_0_0))⟩] := rfl
  simpa only [Memref.IsWhole.read_unread] using h

/-- A load of what stores left, as a load of the array they leave. -/
theorem readCov_ld (v : View sig .tc .vmem S6400x128 .f32) (L : List (View.Piece (Elt F) S6400x128 .f32)) (r : Rect S6400x128) :
    v.readCov L r.toLoadRect = View.ld (View.canon L) r := View.readCov_eq_canon' v L _

/-- A chunk of the result, from the two loads it needs. -/
def outQ (x0 : Vec F S1x6432x1 .i32) (x16 : Vec F S256x128 .f32) (x17 : Vec F S1x128 .f32) (x18 : Vec F S128x200 .f32)
    (x19 : Vec F S1x200 .f32) (k : Fin 8) (r q : Vec F S800x128 .f32) : View.Piece (Elt F) S1x6400x1 .f32 :=
  ⟨rectCol k, nextC
    (probC r q
      (View.ld x16 (Rect.unit ![0, 0] S128x128.size inb_S256x128_S128x128_0_0))
      (View.ld x16 (Rect.unit ![128, 0] S128x128.size inb_S256x128_S128x128_128_0))
      (View.ld x17 (Rect.unit ![0, 0] S1x128.size inb_S1x128_S1x128_0_0))
      (View.ld x18 (Rect.unit ![0, 0] S128x200.size inb_S128x200_S128x200_0_0))
      (View.ld x19 (Rect.unit ![0, 0] S1x200.size inb_S1x200_S1x200_0_0)))
    (View.ld x0 (rectColSk 32 (by decide) k))⟩

/-- What the recurrence's loop leaves to be read. -/
theorem reads_left : arg26.view.read (Elt F) (arg26.view.writes (Elt F) g26 (pb_k2_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (run2.sl.r_4 c arg17 harg17 x16) (run2.sl.r_5 c arg17 harg17 x16) (run2.sl.r_100 c arg8 harg8 x7) (arg23.view.writes (Elt F) arg23.view.junk (run2.sl.H22_8 c arg1 harg1 arg3 harg3 arg4 harg4 arg5 harg5 arg7 harg7 arg9 harg9 arg10 harg10 x0 x2 x3 x4 x6 x8 x9)) (arg24.view.writes (Elt F) arg24.view.junk (run2.sl.H23_8 c arg1 harg1 arg2 harg2 arg3 harg3 arg4 harg4 arg6 harg6 arg11 harg11 arg12 harg12 arg13 harg13 arg14 harg14 x0 x1 x2 x3 x5 x10 x11 x12 x13)) (arg25.view.writes (Elt F) arg25.view.junk (run2.sl.H24_8 c arg1 harg1 arg2 harg2 arg3 harg3 arg4 harg4 arg6 harg6 arg11 harg11 arg12 harg12 arg15 harg15 arg16 harg16 x0 x1 x2 x3 x5 x10 x11 x14 x15)) g26 (arg27.view.writes (Elt F) arg27.view.junk (run2.sl.H26_1 c arg8 harg8 x7)) 50).1)
    = readA x0 x1 x2 x3 x4 x5 x6 x7 x8 x9 x10 x11 x12 x13 x14 x15 := by
  have hm : View.canon (run2.sl.H26_1 c arg8 harg8 x7) = startS (View.ld x7 (Rect.unit ![0, 0] S64x128.size inb_S64x128_S64x128_0_0)) := by
    rw [start_pieces]
    exact View.canon_unit_zero (S := S32x64x128) (off := ![0, 0, 0]) (by decide) _ _
  rw [reads_eq, View.read_writes_junk_eq_canon, View.read_writes_junk_eq_canon, View.read_writes_junk_eq_canon,
    View.read_writes_junk_eq_canon, addr_pieces, erase_pieces, add_pieces, hm]
  rfl

/-- The pieces the run stores into the result block. -/
theorem out_pieces : (run2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 g26).1
    = chunks (outP x0 (readA x0 x1 x2 x3 x4 x5 x6 x7 x8 x9 x10 x11 x12 x13 x14 x15) (quesA x0 x2 x3 x4 x8 x9) x16 x17 x18 x19) := by
  have h : (run2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 g26).1
      = chunks (fun k => outQ (arg1.view.read (Elt F) (harg1.unread x0)) (arg17.view.read (Elt F) (harg17.unread x16)) (arg18.view.read (Elt F) (harg18.unread x17)) (arg19.view.read (Elt F) (harg19.unread x18)) (arg20.view.read (Elt F) (harg20.unread x19)) k
          (View.readAt (Elt F) arg26.view (rectC k).toLoadRect (arg26.view.writes (Elt F) g26 (pb_k2_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (run2.sl.r_4 c arg17 harg17 x16) (run2.sl.r_5 c arg17 harg17 x16) (run2.sl.r_100 c arg8 harg8 x7) (arg23.view.writes (Elt F) arg23.view.junk (run2.sl.H22_8 c arg1 harg1 arg3 harg3 arg4 harg4 arg5 harg5 arg7 harg7 arg9 harg9 arg10 harg10 x0 x2 x3 x4 x6 x8 x9)) (arg24.view.writes (Elt F) arg24.view.junk (run2.sl.H23_8 c arg1 harg1 arg2 harg2 arg3 harg3 arg4 harg4 arg6 harg6 arg11 harg11 arg12 harg12 arg13 harg13 arg14 harg14 x0 x1 x2 x3 x5 x10 x11 x12 x13)) (arg25.view.writes (Elt F) arg25.view.junk (run2.sl.H24_8 c arg1 harg1 arg2 harg2 arg3 harg3 arg4 harg4 arg6 harg6 arg11 harg11 arg12 harg12 arg15 harg15 arg16 harg16 x0 x1 x2 x3 x5 x10 x11 x14 x15)) g26 (arg27.view.writes (Elt F) arg27.view.junk (run2.sl.H26_1 c arg8 harg8 x7)) 50).1))
          (arg22.view.readCov (run2.sl.H21_8 c arg1 harg1 arg3 harg3 arg4 harg4 arg5 harg5 arg9 harg9 arg10 harg10 x0 x2 x3 x4 x8 x9) (rectC k).toLoadRect)) := rfl
  rw [h]
  refine congrArg chunks (funext fun k => ?_)
  rw [View.readAt_eq_ld, reads_left, readCov_ld, ques_pieces, harg1.read_unread, harg17.read_unread, harg18.read_unread,
    harg19.read_unread, harg20.read_unread]
  rfl

/-- The chunks cover the result block. -/
theorem out_cover (f : Fin 8 → View.Piece (Elt F) S1x6400x1 .f32) (hf : ∀ k, (f k).1 = rectCol k) (y : S1x6400x1.Idx) :
    ∃ p ∈ chunks f, y ∈ p.1.set := by
  have hy : (y 1).val < 6400 := (y 1).isLt
  have h0 : (y 0).val < 1 := (y 0).isLt
  have h2 : (y 2).val < 1 := (y 2).isLt
  have hk : (y 1).val / 800 < 8 := by omega
  refine ⟨f ⟨(y 1).val / 800, hk⟩, ?_, ?_⟩
  · have : ∀ k : Fin 8, f k ∈ chunks f := by
      intro k; fin_cases k <;> simp [chunks]
    exact this _
  · rw [hf]
    refine Rect.mem_set_unit.mpr (Fin.forall_fin_succ.mpr ⟨?_, Fin.forall_fin_two.mpr ⟨?_, ?_⟩⟩)
    · exact ⟨Nat.zero_le _, h0⟩
    · show 800 * ((y 1).val / 800) + 0 ≤ (y 1).val ∧ (y 1).val < 800 * ((y 1).val / 800) + 0 + 800
      omega
    · exact ⟨Nat.zero_le _, h2⟩

/-- Read back, they are `outA` of the twenty blocks. -/
theorem out_read (f : BufTy.Contents (Elt F) arg21.view.ty) :
    arg21.view.read (Elt F) (arg21.view.writes (Elt F) f (run2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 g26).1) = outA x0 x1 x2 x3 x4 x5 x6 x7 x8 x9 x10 x11 x12 x13 x14 x15 x16 x17 x18 x19 := by
  rw [out_pieces, View.read_writes_eq_canon _ _ _ (fun y => out_cover _ (fun _ => rfl) y)]
  rfl

end

end Cert.KernelIdeal.Body
-- ==== Proof.KernelIdeal.Net.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Tactic
public import proofs.«01_k».proof.Proof.KernelIdeal.BodyValue

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-! # The network's region -/

/-- A memref owned at some contents is its buffer's elements at some contents. -/
theorem owns_open (c : Dev nD) (arg : Memref sig .tc .vmem S6400x128 .f32) (X : Vec F S6400x128 .f32) :
    owns (c : Thread nD τ) arg fullShare X ⊢ (iprop(∃ g, (arg.view.loc (c : Thread nD τ) ↦[arg.view.set]{fullShare} g)) : sProp 𝕄) := by
  unfold owns
  iintro ⟨%g, -, H⟩
  iexists g; iexact H

/-- A memref's elements at contents that read as `X` are the memref owned at `X`. -/
theorem owns_close (c : Dev nD) (arg : Memref sig .tc .vmem S1x6400x1 .f32) (X : Vec F S1x6400x1 .f32)
    (g : BufTy.Contents (Elt F) arg.view.ty) (h : arg.view.read (Elt F) g = X) :
    (arg.view.loc (c : Thread nD τ) ↦[arg.view.set]{fullShare} g : sProp 𝕄) ⊢ owns (c : Thread nD τ) arg fullShare X := by
  unfold owns
  iintro H
  iexists g; isplitr; · ipureintro; exact h
  iexact H

section
variable (c : Dev nD) (i : grid2.Coords)
  (arg1 : Memref sig .tc .vmem S1x6432x1 .i32) (harg1 : arg1.IsWhole)
  (arg2 : Memref sig .tc .vmem S1x6400x1 .i32) (harg2 : arg2.IsWhole)
  (arg3 : Memref sig .tc .vmem S1x6400x1 .i32) (harg3 : arg3.IsWhole)
  (arg4 : Memref sig .tc .vmem S4000x128 .f32) (harg4 : arg4.IsWhole)
  (arg5 : Memref sig .tc .vmem S208x128 .f32) (harg5 : arg5.IsWhole)
  (arg6 : Memref sig .tc .vmem S408x128 .f32) (harg6 : arg6.IsWhole)
  (arg7 : Memref sig .tc .vmem S128x64 .f32) (harg7 : arg7.IsWhole)
  (arg8 : Memref sig .tc .vmem S64x128 .f32) (harg8 : arg8.IsWhole)
  (arg9 : Memref sig .tc .vmem S256x1 .f32) (harg9 : arg9.IsWhole)
  (arg10 : Memref sig .tc .vmem S1x1 .f32) (harg10 : arg10.IsWhole)
  (arg11 : Memref sig .tc .vmem S256x1 .f32) (harg11 : arg11.IsWhole)
  (arg12 : Memref sig .tc .vmem S1x1 .f32) (harg12 : arg12.IsWhole)
  (arg13 : Memref sig .tc .vmem S128x128 .f32) (harg13 : arg13.IsWhole)
  (arg14 : Memref sig .tc .vmem S1x128 .f32) (harg14 : arg14.IsWhole)
  (arg15 : Memref sig .tc .vmem S128x128 .f32) (harg15 : arg15.IsWhole)
  (arg16 : Memref sig .tc .vmem S1x128 .f32) (harg16 : arg16.IsWhole)
  (arg17 : Memref sig .tc .vmem S256x128 .f32) (harg17 : arg17.IsWhole)
  (arg18 : Memref sig .tc .vmem S1x128 .f32) (harg18 : arg18.IsWhole)
  (arg19 : Memref sig .tc .vmem S128x200 .f32) (harg19 : arg19.IsWhole)
  (arg20 : Memref sig .tc .vmem S1x200 .f32) (harg20 : arg20.IsWhole)
  (arg21 : Memref sig .tc .vmem S1x6400x1 .f32) (harg21 : arg21.IsWhole)
  (arg22 : Memref sig .tc .vmem S6400x128 .f32) (harg22 : arg22.IsWhole)
  (arg23 : Memref sig .tc .vmem S6400x64 .f32) (harg23 : arg23.IsWhole)
  (arg24 : Memref sig .tc .vmem S6400x128 .f32) (harg24 : arg24.IsWhole)
  (arg25 : Memref sig .tc .vmem S6400x128 .f32) (harg25 : arg25.IsWhole)
  (arg26 : Memref sig .tc .vmem S6400x128 .f32) (harg26 : arg26.IsWhole)
  (arg27 : Memref sig .tc .vmem S32x64x128 .f32) (harg27 : arg27.IsWhole)
variable (x0 : Vec F S1x6432x1 .i32) (x1 : Vec F S1x6400x1 .i32) (x2 : Vec F S1x6400x1 .i32) (x3 : Vec F S4000x128 .f32) (x4 : Vec F S208x128 .f32) (x5 : Vec F S408x128 .f32) (x6 : Vec F S128x64 .f32) (x7 : Vec F S64x128 .f32) (x8 : Vec F S256x1 .f32) (x9 : Vec F S1x1 .f32) (x10 : Vec F S256x1 .f32) (x11 : Vec F S1x1 .f32) (x12 : Vec F S128x128 .f32) (x13 : Vec F S1x128 .f32) (x14 : Vec F S128x128 .f32) (x15 : Vec F S1x128 .f32) (x16 : Vec F S256x128 .f32) (x17 : Vec F S1x128 .f32) (x18 : Vec F S128x200 .f32) (x19 : Vec F S1x200 .f32)

set_option maxHeartbeats 1000000 in
/-- One point of the network's kernel on whole memrefs: the inputs stay, the output holds `outA` of them, the
    scratch buffers may hold anything before and after. -/
theorem net_run (E : Set ℕ) (K : PUnit → sProp 𝕄) :
      iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare (outA x0 x1 x2 x3 x4 x5 x6 x7 x8 x9 x10 x11 x12 x13 x14 x15 x16 x17 x18 x19) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)) -∗ K ⟨⟩))
      ⊢ wp frame (wpE (defs₀ (F := F)) Variants.none c none) E (cc2__main_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  iintro ⟨H0, H1, H2, H3, H4, H5, H6, H7, H8, H9, H10, H11, H12, H13, H14, H15, H16, H17, H18, H19, H20, HS0, HS1, HS2, HS3, ⟨%d26, HS4⟩, HS5, Hk⟩
  ihave HS4' := (owns_open (F := F) c arg26 d26) $$ HS4
  icases HS4' with ⟨%g26, HS4⟩
  iapply ((run2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 g26).2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, H11, H12, H13, H14, H15, H16, H17, H18, H19, ⟨%e20, H20⟩, HS0, HS1, HS2, HS3, HS4, HS5⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]
  · iapply (owns_close (F := F) c arg21 (outA x0 x1 x2 x3 x4 x5 x6 x7 x8 x9 x10 x11 x12 x13 x14 x15 x16 x17 x18 x19) _ (out_read c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 x9 x10 x11 x12 x13 x14 x15 x16 x17 x18 x19 g26 e20))
    iexact H20
  isplitl [HS0]; · iexact HS0
  isplitl [HS1]; · iexact HS1
  isplitl [HS2]; · iexact HS2
  isplitl [HS3]; · iexact HS3
  isplitl [HS4]; · iexact HS4
  iexact HS5

end

/-- The buffer of window 0, the skills' numbers. -/
abbrev mem0 (t : Fin cfg2.N) : Memref sig .tc .vmem S1x6432x1 .i32 := win2_0.stage (cfg2.slots t 0)
/-- The buffer of window 1, the answers. -/
abbrev mem1 (t : Fin cfg2.N) : Memref sig .tc .vmem S1x6400x1 .i32 := win2_1.stage (cfg2.slots t 1)
/-- The buffer of window 2, the students' numbers. -/
abbrev mem2 (t : Fin cfg2.N) : Memref sig .tc .vmem S1x6400x1 .i32 := win2_2.stage (cfg2.slots t 2)
/-- The buffer of window 3, the students' embeddings. -/
abbrev mem3 (t : Fin cfg2.N) : Memref sig .tc .vmem S4000x128 .f32 := win2_3.stage (cfg2.slots t 3)
/-- The buffer of window 4, the skills' table. -/
abbrev mem4 (t : Fin cfg2.N) : Memref sig .tc .vmem S208x128 .f32 := win2_4.stage (cfg2.slots t 4)
/-- The buffer of window 5, the responses' table. -/
abbrev mem5 (t : Fin cfg2.N) : Memref sig .tc .vmem S408x128 .f32 := win2_5.stage (cfg2.slots t 5)
/-- The buffer of window 6, the transposed keys. -/
abbrev mem6 (t : Fin cfg2.N) : Memref sig .tc .vmem S128x64 .f32 := win2_6.stage (cfg2.slots t 6)
/-- The buffer of window 7, the memory's start. -/
abbrev mem7 (t : Fin cfg2.N) : Memref sig .tc .vmem S64x128 .f32 := win2_7.stage (cfg2.slots t 7)
/-- The buffer of window 8, the question gate's weights. -/
abbrev mem8 (t : Fin cfg2.N) : Memref sig .tc .vmem S256x1 .f32 := win2_8.stage (cfg2.slots t 8)
/-- The buffer of window 9, the question gate's bias. -/
abbrev mem9 (t : Fin cfg2.N) : Memref sig .tc .vmem S1x1 .f32 := win2_9.stage (cfg2.slots t 9)
/-- The buffer of window 10, the response gate's weights. -/
abbrev mem10 (t : Fin cfg2.N) : Memref sig .tc .vmem S256x1 .f32 := win2_10.stage (cfg2.slots t 10)
/-- The buffer of window 11, the response gate's bias. -/
abbrev mem11 (t : Fin cfg2.N) : Memref sig .tc .vmem S1x1 .f32 := win2_11.stage (cfg2.slots t 11)
/-- The buffer of window 12, the erase weights. -/
abbrev mem12 (t : Fin cfg2.N) : Memref sig .tc .vmem S128x128 .f32 := win2_12.stage (cfg2.slots t 12)
/-- The buffer of window 13, the erase bias. -/
abbrev mem13 (t : Fin cfg2.N) : Memref sig .tc .vmem S1x128 .f32 := win2_13.stage (cfg2.slots t 13)
/-- The buffer of window 14, the add weights. -/
abbrev mem14 (t : Fin cfg2.N) : Memref sig .tc .vmem S128x128 .f32 := win2_14.stage (cfg2.slots t 14)
/-- The buffer of window 15, the add bias. -/
abbrev mem15 (t : Fin cfg2.N) : Memref sig .tc .vmem S1x128 .f32 := win2_15.stage (cfg2.slots t 15)
/-- The buffer of window 16, the read-out weights. -/
abbrev mem16 (t : Fin cfg2.N) : Memref sig .tc .vmem S256x128 .f32 := win2_16.stage (cfg2.slots t 16)
/-- The buffer of window 17, the read-out bias. -/
abbrev mem17 (t : Fin cfg2.N) : Memref sig .tc .vmem S1x128 .f32 := win2_17.stage (cfg2.slots t 17)
/-- The buffer of window 18, the prediction weights. -/
abbrev mem18 (t : Fin cfg2.N) : Memref sig .tc .vmem S128x200 .f32 := win2_18.stage (cfg2.slots t 18)
/-- The buffer of window 19, the prediction bias. -/
abbrev mem19 (t : Fin cfg2.N) : Memref sig .tc .vmem S1x200 .f32 := win2_19.stage (cfg2.slots t 19)
/-- The buffer of window 20, the predictions. -/
abbrev mem20 (t : Fin cfg2.N) : Memref sig .tc .vmem S1x6400x1 .f32 := win2_20.stage (cfg2.slots t 20)
/-- The scratch buffer of the questions. -/
abbrev scr0 : Memref sig .tc .vmem S6400x128 .f32 := Memref.whole cc2_scratch0
/-- The scratch buffer of the weights. -/
abbrev scr1 : Memref sig .tc .vmem S6400x64 .f32 := Memref.whole cc2_scratch1
/-- The scratch buffer of the erasures. -/
abbrev scr2 : Memref sig .tc .vmem S6400x128 .f32 := Memref.whole cc2_scratch2
/-- The scratch buffer of the additions. -/
abbrev scr3 : Memref sig .tc .vmem S6400x128 .f32 := Memref.whole cc2_scratch3
/-- The scratch buffer of the rows read. -/
abbrev scr4 : Memref sig .tc .vmem S6400x128 .f32 := Memref.whole cc2_scratch4
/-- The scratch buffer of the memory. -/
abbrev scr5 : Memref sig .tc .vmem S32x64x128 .f32 := Memref.whole cc2_scratch5

/-- The buffers beside the windows, the scratch ones as the memrefs the body is given. -/
theorem phi2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d) ∗ (∃ d, owns (c : Thread nD τ) scr4 fullShare d) ∗ (∃ d, owns (c : Thread nD τ) scr5 fullShare d)) ∗ (∃ r, prngReg c r)) := by
  unfold Pipeline.ΦA; rw [scopedRest2_eq]; simp only [scr0, scr1, scr2, scr3, scr4, scr5, owns_whole]; try rfl

-- (the run's proof term is large: the definition's epilogue — `abstractNestedProofs` — walks it past the default budget)

section
variable (V : (c : Dev nD) → (b : Ref sig .tc) → Buf (Elt F) ((c : Thread nD τ).loc b))

/-- The part of array `w` that point `t` works on, the arrays holding `V`. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the network's region does at every point: the inputs' blocks stay and the output's block is computed from them. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => blk2 V c 5 t
    | ⟨6, _⟩ => blk2 V c 6 t
    | ⟨7, _⟩ => blk2 V c 7 t
    | ⟨8, _⟩ => blk2 V c 8 t
    | ⟨9, _⟩ => blk2 V c 9 t
    | ⟨10, _⟩ => blk2 V c 10 t
    | ⟨11, _⟩ => blk2 V c 11 t
    | ⟨12, _⟩ => blk2 V c 12 t
    | ⟨13, _⟩ => blk2 V c 13 t
    | ⟨14, _⟩ => blk2 V c 14 t
    | ⟨15, _⟩ => blk2 V c 15 t
    | ⟨16, _⟩ => blk2 V c 16 t
    | ⟨17, _⟩ => blk2 V c 17 t
    | ⟨18, _⟩ => blk2 V c 18 t
    | ⟨19, _⟩ => blk2 V c 19 t
    | ⟨20, _⟩ => outA (blk2 V c 0 t) (blk2 V c 1 t) (blk2 V c 2 t) (blk2 V c 3 t) (blk2 V c 4 t) (blk2 V c 5 t) (blk2 V c 6 t) (blk2 V c 7 t) (blk2 V c 8 t) (blk2 V c 9 t) (blk2 V c 10 t) (blk2 V c 11 t) (blk2 V c 12 t) (blk2 V c 13 t) (blk2 V c 14 t) (blk2 V c 15 t) (blk2 V c 16 t) (blk2 V c 17 t) (blk2 V c 18 t) (blk2 V c 19 t)
    | ⟨_ + 21, h⟩ => absurd h (Nat.not_lt.2 (Nat.le_add_left _ _))
  Φ _ := Pipeline.ΦA spec2 c
  q _ := fullShare
  owed _ := 0

/-- The array a window of the main call shows is the one the call is entered with. -/
theorem arr2 (c : Dev nD) (w : Fin cfg2.W) : (dat2 V c).A w = V c (Pipeline.arrRef spec2 w) := by
  dsimp only [dat2]

/-- The body of the main call leaves window 0, the skills' numbers, as fetched. -/
theorem after2_0 (c : Dev nD) (t : Fin cfg2.N) : (dat2 V c).after 0 t = blk2 V c 0 t := by dsimp only [dat2]
/-- The body of the main call leaves window 1, the answers, as fetched. -/
theorem after2_1 (c : Dev nD) (t : Fin cfg2.N) : (dat2 V c).after 1 t = blk2 V c 1 t := by dsimp only [dat2]
/-- The body of the main call leaves window 2, the students' numbers, as fetched. -/
theorem after2_2 (c : Dev nD) (t : Fin cfg2.N) : (dat2 V c).after 2 t = blk2 V c 2 t := by dsimp only [dat2]
/-- The body of the main call leaves window 3, the students' embeddings, as fetched. -/
theorem after2_3 (c : Dev nD) (t : Fin cfg2.N) : (dat2 V c).after 3 t = blk2 V c 3 t := by dsimp only [dat2]
/-- The body of the main call leaves window 4, the skills' table, as fetched. -/
theorem after2_4 (c : Dev nD) (t : Fin cfg2.N) : (dat2 V c).after 4 t = blk2 V c 4 t := by dsimp only [dat2]
/-- The body of the main call leaves window 5, the responses' table, as fetched. -/
theorem after2_5 (c : Dev nD) (t : Fin cfg2.N) : (dat2 V c).after 5 t = blk2 V c 5 t := by dsimp only [dat2]
/-- The body of the main call leaves window 6, the transposed keys, as fetched. -/
theorem after2_6 (c : Dev nD) (t : Fin cfg2.N) : (dat2 V c).after 6 t = blk2 V c 6 t := by dsimp only [dat2]
/-- The body of the main call leaves window 7, the memory's start, as fetched. -/
theorem after2_7 (c : Dev nD) (t : Fin cfg2.N) : (dat2 V c).after 7 t = blk2 V c 7 t := by dsimp only [dat2]
/-- The body of the main call leaves window 8, the question gate's weights, as fetched. -/
theorem after2_8 (c : Dev nD) (t : Fin cfg2.N) : (dat2 V c).after 8 t = blk2 V c 8 t := by dsimp only [dat2]
/-- The body of the main call leaves window 9, the question gate's bias, as fetched. -/
theorem after2_9 (c : Dev nD) (t : Fin cfg2.N) : (dat2 V c).after 9 t = blk2 V c 9 t := by dsimp only [dat2]
/-- The body of the main call leaves window 10, the response gate's weights, as fetched. -/
theorem after2_10 (c : Dev nD) (t : Fin cfg2.N) : (dat2 V c).after 10 t = blk2 V c 10 t := by dsimp only [dat2]
/-- The body of the main call leaves window 11, the response gate's bias, as fetched. -/
theorem after2_11 (c : Dev nD) (t : Fin cfg2.N) : (dat2 V c).after 11 t = blk2 V c 11 t := by dsimp only [dat2]
/-- The body of the main call leaves window 12, the erase weights, as fetched. -/
theorem after2_12 (c : Dev nD) (t : Fin cfg2.N) : (dat2 V c).after 12 t = blk2 V c 12 t := by dsimp only [dat2]
/-- The body of the main call leaves window 13, the erase bias, as fetched. -/
theorem after2_13 (c : Dev nD) (t : Fin cfg2.N) : (dat2 V c).after 13 t = blk2 V c 13 t := by dsimp only [dat2]
/-- The body of the main call leaves window 14, the add weights, as fetched. -/
theorem after2_14 (c : Dev nD) (t : Fin cfg2.N) : (dat2 V c).after 14 t = blk2 V c 14 t := by dsimp only [dat2]
/-- The body of the main call leaves window 15, the add bias, as fetched. -/
theorem after2_15 (c : Dev nD) (t : Fin cfg2.N) : (dat2 V c).after 15 t = blk2 V c 15 t := by dsimp only [dat2]
/-- The body of the main call leaves window 16, the read-out weights, as fetched. -/
theorem after2_16 (c : Dev nD) (t : Fin cfg2.N) : (dat2 V c).after 16 t = blk2 V c 16 t := by dsimp only [dat2]
/-- The body of the main call leaves window 17, the read-out bias, as fetched. -/
theorem after2_17 (c : Dev nD) (t : Fin cfg2.N) : (dat2 V c).after 17 t = blk2 V c 17 t := by dsimp only [dat2]
/-- The body of the main call leaves window 18, the prediction weights, as fetched. -/
theorem after2_18 (c : Dev nD) (t : Fin cfg2.N) : (dat2 V c).after 18 t = blk2 V c 18 t := by dsimp only [dat2]
/-- The body of the main call leaves window 19, the prediction bias, as fetched. -/
theorem after2_19 (c : Dev nD) (t : Fin cfg2.N) : (dat2 V c).after 19 t = blk2 V c 19 t := by dsimp only [dat2]
/-- What the main call's body leaves in its result's window. -/
theorem after2_20 (c : Dev nD) (t : Fin cfg2.N) : (dat2 V c).after 20 t = outA (blk2 V c 0 t) (blk2 V c 1 t) (blk2 V c 2 t) (blk2 V c 3 t) (blk2 V c 4 t) (blk2 V c 5 t) (blk2 V c 6 t) (blk2 V c 7 t) (blk2 V c 8 t) (blk2 V c 9 t) (blk2 V c 10 t) (blk2 V c 11 t) (blk2 V c 12 t) (blk2 V c 13 t) (blk2 V c 14 t) (blk2 V c 15 t) (blk2 V c 16 t) (blk2 V c 17 t) (blk2 V c 18 t) (blk2 V c 19 t) := by dsimp only [dat2]

/-- Before the body of the main call runs, window 0 holds the skills' numbers as fetched. -/
theorem before2_0 (c : Dev nD) (t : Fin cfg2.N) (d) : (dat2 V c).before 0 t d = blk2 V c 0 t :=
  (dat2 V c).before_in_eq_fetched 0 rfl (fun _ => rfl) (fun _ _ _ => rfl) (fun t => after2_0 V c t) t d
/-- Before the body of the main call runs, window 1 holds the answers as fetched. -/
theorem before2_1 (c : Dev nD) (t : Fin cfg2.N) (d) : (dat2 V c).before 1 t d = blk2 V c 1 t :=
  (dat2 V c).before_in_eq_fetched 1 rfl (fun _ => rfl) (fun _ _ _ => rfl) (fun t => after2_1 V c t) t d
/-- Before the body of the main call runs, window 2 holds the students' numbers as fetched. -/
theorem before2_2 (c : Dev nD) (t : Fin cfg2.N) (d) : (dat2 V c).before 2 t d = blk2 V c 2 t :=
  (dat2 V c).before_in_eq_fetched 2 rfl (fun _ => rfl) (fun _ _ _ => rfl) (fun t => after2_2 V c t) t d
/-- Before the body of the main call runs, window 3 holds the students' embeddings as fetched. -/
theorem before2_3 (c : Dev nD) (t : Fin cfg2.N) (d) : (dat2 V c).before 3 t d = blk2 V c 3 t :=
  (dat2 V c).before_in_eq_fetched 3 rfl (fun _ => rfl) (fun _ _ _ => rfl) (fun t => after2_3 V c t) t d
/-- Before the body of the main call runs, window 4 holds the skills' table as fetched. -/
theorem before2_4 (c : Dev nD) (t : Fin cfg2.N) (d) : (dat2 V c).before 4 t d = blk2 V c 4 t :=
  (dat2 V c).before_in_eq_fetched 4 rfl (fun _ => rfl) (fun _ _ _ => rfl) (fun t => after2_4 V c t) t d
/-- Before the body of the main call runs, window 5 holds the responses' table as fetched. -/
theorem before2_5 (c : Dev nD) (t : Fin cfg2.N) (d) : (dat2 V c).before 5 t d = blk2 V c 5 t :=
  (dat2 V c).before_in_eq_fetched 5 rfl (fun _ => rfl) (fun _ _ _ => rfl) (fun t => after2_5 V c t) t d
/-- Before the body of the main call runs, window 6 holds the transposed keys as fetched. -/
theorem before2_6 (c : Dev nD) (t : Fin cfg2.N) (d) : (dat2 V c).before 6 t d = blk2 V c 6 t :=
  (dat2 V c).before_in_eq_fetched 6 rfl (fun _ => rfl) (fun _ _ _ => rfl) (fun t => after2_6 V c t) t d
/-- Before the body of the main call runs, window 7 holds the memory's start as fetched. -/
theorem before2_7 (c : Dev nD) (t : Fin cfg2.N) (d) : (dat2 V c).before 7 t d = blk2 V c 7 t :=
  (dat2 V c).before_in_eq_fetched 7 rfl (fun _ => rfl) (fun _ _ _ => rfl) (fun t => after2_7 V c t) t d
/-- Before the body of the main call runs, window 8 holds the question gate's weights as fetched. -/
theorem before2_8 (c : Dev nD) (t : Fin cfg2.N) (d) : (dat2 V c).before 8 t d = blk2 V c 8 t :=
  (dat2 V c).before_in_eq_fetched 8 rfl (fun _ => rfl) (fun _ _ _ => rfl) (fun t => after2_8 V c t) t d
/-- Before the body of the main call runs, window 9 holds the question gate's bias as fetched. -/
theorem before2_9 (c : Dev nD) (t : Fin cfg2.N) (d) : (dat2 V c).before 9 t d = blk2 V c 9 t :=
  (dat2 V c).before_in_eq_fetched 9 rfl (fun _ => rfl) (fun _ _ _ => rfl) (fun t => after2_9 V c t) t d
/-- Before the body of the main call runs, window 10 holds the response gate's weights as fetched. -/
theorem before2_10 (c : Dev nD) (t : Fin cfg2.N) (d) : (dat2 V c).before 10 t d = blk2 V c 10 t :=
  (dat2 V c).before_in_eq_fetched 10 rfl (fun _ => rfl) (fun _ _ _ => rfl) (fun t => after2_10 V c t) t d
/-- Before the body of the main call runs, window 11 holds the response gate's bias as fetched. -/
theorem before2_11 (c : Dev nD) (t : Fin cfg2.N) (d) : (dat2 V c).before 11 t d = blk2 V c 11 t :=
  (dat2 V c).before_in_eq_fetched 11 rfl (fun _ => rfl) (fun _ _ _ => rfl) (fun t => after2_11 V c t) t d
/-- Before the body of the main call runs, window 12 holds the erase weights as fetched. -/
theorem before2_12 (c : Dev nD) (t : Fin cfg2.N) (d) : (dat2 V c).before 12 t d = blk2 V c 12 t :=
  (dat2 V c).before_in_eq_fetched 12 rfl (fun _ => rfl) (fun _ _ _ => rfl) (fun t => after2_12 V c t) t d
/-- Before the body of the main call runs, window 13 holds the erase bias as fetched. -/
theorem before2_13 (c : Dev nD) (t : Fin cfg2.N) (d) : (dat2 V c).before 13 t d = blk2 V c 13 t :=
  (dat2 V c).before_in_eq_fetched 13 rfl (fun _ => rfl) (fun _ _ _ => rfl) (fun t => after2_13 V c t) t d
/-- Before the body of the main call runs, window 14 holds the add weights as fetched. -/
theorem before2_14 (c : Dev nD) (t : Fin cfg2.N) (d) : (dat2 V c).before 14 t d = blk2 V c 14 t :=
  (dat2 V c).before_in_eq_fetched 14 rfl (fun _ => rfl) (fun _ _ _ => rfl) (fun t => after2_14 V c t) t d
/-- Before the body of the main call runs, window 15 holds the add bias as fetched. -/
theorem before2_15 (c : Dev nD) (t : Fin cfg2.N) (d) : (dat2 V c).before 15 t d = blk2 V c 15 t :=
  (dat2 V c).before_in_eq_fetched 15 rfl (fun _ => rfl) (fun _ _ _ => rfl) (fun t => after2_15 V c t) t d
/-- Before the body of the main call runs, window 16 holds the read-out weights as fetched. -/
theorem before2_16 (c : Dev nD) (t : Fin cfg2.N) (d) : (dat2 V c).before 16 t d = blk2 V c 16 t :=
  (dat2 V c).before_in_eq_fetched 16 rfl (fun _ => rfl) (fun _ _ _ => rfl) (fun t => after2_16 V c t) t d
/-- Before the body of the main call runs, window 17 holds the read-out bias as fetched. -/
theorem before2_17 (c : Dev nD) (t : Fin cfg2.N) (d) : (dat2 V c).before 17 t d = blk2 V c 17 t :=
  (dat2 V c).before_in_eq_fetched 17 rfl (fun _ => rfl) (fun _ _ _ => rfl) (fun t => after2_17 V c t) t d
/-- Before the body of the main call runs, window 18 holds the prediction weights as fetched. -/
theorem before2_18 (c : Dev nD) (t : Fin cfg2.N) (d) : (dat2 V c).before 18 t d = blk2 V c 18 t :=
  (dat2 V c).before_in_eq_fetched 18 rfl (fun _ => rfl) (fun _ _ _ => rfl) (fun t => after2_18 V c t) t d
/-- Before the body of the main call runs, window 19 holds the prediction bias as fetched. -/
theorem before2_19 (c : Dev nD) (t : Fin cfg2.N) (d) : (dat2 V c).before 19 t d = blk2 V c 19 t :=
  (dat2 V c).before_in_eq_fetched 19 rfl (fun _ => rfl) (fun _ _ _ => rfl) (fun t => after2_19 V c t) t d

/-- What the body is entered with at a point. -/
def pre2 (c : Dev nD) (t : Fin cfg2.N) : sProp 𝕄 :=
  iprop((dat2 V c).Φ t.castSucc ∗ (dat2 V c).owesAt () t.castSucc
    ∗ (∃ d, owns (c : Thread nD τ) (mem0 t) fullShare ((dat2 V c).before 0 t d))
    ∗ (∃ d, owns (c : Thread nD τ) (mem1 t) fullShare ((dat2 V c).before 1 t d))
    ∗ (∃ d, owns (c : Thread nD τ) (mem2 t) fullShare ((dat2 V c).before 2 t d))
    ∗ (∃ d, owns (c : Thread nD τ) (mem3 t) fullShare ((dat2 V c).before 3 t d))
    ∗ (∃ d, owns (c : Thread nD τ) (mem4 t) fullShare ((dat2 V c).before 4 t d))
    ∗ (∃ d, owns (c : Thread nD τ) (mem5 t) fullShare ((dat2 V c).before 5 t d))
    ∗ (∃ d, owns (c : Thread nD τ) (mem6 t) fullShare ((dat2 V c).before 6 t d))
    ∗ (∃ d, owns (c : Thread nD τ) (mem7 t) fullShare ((dat2 V c).before 7 t d))
    ∗ (∃ d, owns (c : Thread nD τ) (mem8 t) fullShare ((dat2 V c).before 8 t d))
    ∗ (∃ d, owns (c : Thread nD τ) (mem9 t) fullShare ((dat2 V c).before 9 t d))
    ∗ (∃ d, owns (c : Thread nD τ) (mem10 t) fullShare ((dat2 V c).before 10 t d))
    ∗ (∃ d, owns (c : Thread nD τ) (mem11 t) fullShare ((dat2 V c).before 11 t d))
    ∗ (∃ d, owns (c : Thread nD τ) (mem12 t) fullShare ((dat2 V c).before 12 t d))
    ∗ (∃ d, owns (c : Thread nD τ) (mem13 t) fullShare ((dat2 V c).before 13 t d))
    ∗ (∃ d, owns (c : Thread nD τ) (mem14 t) fullShare ((dat2 V c).before 14 t d))
    ∗ (∃ d, owns (c : Thread nD τ) (mem15 t) fullShare ((dat2 V c).before 15 t d))
    ∗ (∃ d, owns (c : Thread nD τ) (mem16 t) fullShare ((dat2 V c).before 16 t d))
    ∗ (∃ d, owns (c : Thread nD τ) (mem17 t) fullShare ((dat2 V c).before 17 t d))
    ∗ (∃ d, owns (c : Thread nD τ) (mem18 t) fullShare ((dat2 V c).before 18 t d))
    ∗ (∃ d, owns (c : Thread nD τ) (mem19 t) fullShare ((dat2 V c).before 19 t d))
    ∗ (∃ d, owns (c : Thread nD τ) (mem20 t) fullShare ((dat2 V c).before 20 t d)))

/-- What the body is left with at a point. -/
def post2 (c : Dev nD) (t : Fin cfg2.N) : sProp 𝕄 :=
  iprop((dat2 V c).Φ t.succ ∗ (dat2 V c).owesAt () t.succ
    ∗ owns (c : Thread nD τ) (mem0 t) fullShare ((dat2 V c).after 0 t)
    ∗ owns (c : Thread nD τ) (mem1 t) fullShare ((dat2 V c).after 1 t)
    ∗ owns (c : Thread nD τ) (mem2 t) fullShare ((dat2 V c).after 2 t)
    ∗ owns (c : Thread nD τ) (mem3 t) fullShare ((dat2 V c).after 3 t)
    ∗ owns (c : Thread nD τ) (mem4 t) fullShare ((dat2 V c).after 4 t)
    ∗ owns (c : Thread nD τ) (mem5 t) fullShare ((dat2 V c).after 5 t)
    ∗ owns (c : Thread nD τ) (mem6 t) fullShare ((dat2 V c).after 6 t)
    ∗ owns (c : Thread nD τ) (mem7 t) fullShare ((dat2 V c).after 7 t)
    ∗ owns (c : Thread nD τ) (mem8 t) fullShare ((dat2 V c).after 8 t)
    ∗ owns (c : Thread nD τ) (mem9 t) fullShare ((dat2 V c).after 9 t)
    ∗ owns (c : Thread nD τ) (mem10 t) fullShare ((dat2 V c).after 10 t)
    ∗ owns (c : Thread nD τ) (mem11 t) fullShare ((dat2 V c).after 11 t)
    ∗ owns (c : Thread nD τ) (mem12 t) fullShare ((dat2 V c).after 12 t)
    ∗ owns (c : Thread nD τ) (mem13 t) fullShare ((dat2 V c).after 13 t)
    ∗ owns (c : Thread nD τ) (mem14 t) fullShare ((dat2 V c).after 14 t)
    ∗ owns (c : Thread nD τ) (mem15 t) fullShare ((dat2 V c).after 15 t)
    ∗ owns (c : Thread nD τ) (mem16 t) fullShare ((dat2 V c).after 16 t)
    ∗ owns (c : Thread nD τ) (mem17 t) fullShare ((dat2 V c).after 17 t)
    ∗ owns (c : Thread nD τ) (mem18 t) fullShare ((dat2 V c).after 18 t)
    ∗ owns (c : Thread nD τ) (mem19 t) fullShare ((dat2 V c).after 19 t)
    ∗ owns (c : Thread nD τ) (mem20 t) fullShare ((dat2 V c).after 20 t))

set_option maxHeartbeats 2400000 in
/-- The body of the network's region takes every point from `pre2` to `post2`. -/
theorem point2 (c : Dev nD) (t : Fin cfg2.N) :
    pre2 V c t ⊢ wp frame (wpE (defs₀ (F := F)) Variants.none c none) Set.univ (bodyAt2 t) (fun _ => post2 V c t) := by
  unfold pre2 post2 bodyAt2
  simp only [before2_0, before2_1, before2_2, before2_3, before2_4, before2_5, before2_6, before2_7, before2_8, before2_9, before2_10, before2_11, before2_12, before2_13, before2_14, before2_15, before2_16, before2_17, before2_18, before2_19]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10, after2_11, after2_12, after2_13, after2_14, after2_15, after2_16, after2_17, after2_18, after2_19, after2_20]
  rw [show (dat2 V c).Φ t.castSucc = Pipeline.ΦA spec2 c from rfl, phi2_eq]
  iintro ⟨⟨⟨HR0, HR1, HR2, HR3, HR4, HR5, HR6, HR7, HR8, HR9, HR10, HR11, HR12, HR13, HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (net_run c (grid2.coords t) _ _ _ _ _ _ _ _ _ _ _ _ _ _ _ _ _ _ _ _ _ _ _ _ _ _ _ _ _ _ _ _ _ _ _ _ _ _ _ _ _ _ _ _ _ _ _ _ _ _ _ _ _ _ (blk2 V c 0 t) (blk2 V c 1 t) (blk2 V c 2 t) (blk2 V c 3 t) (blk2 V c 4 t) (blk2 V c 5 t) (blk2 V c 6 t) (blk2 V c 7 t) (blk2 V c 8 t) (blk2 V c 9 t) (blk2 V c 10 t) (blk2 V c 11 t) (blk2 V c 12 t) (blk2 V c 13 t) (blk2 V c 14 t) (blk2 V c 15 t) (blk2 V c 16 t) (blk2 V c 17 t) (blk2 V c 18 t) (blk2 V c 19 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexists _; iexact H20
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, H11, H12, H13, H14, H15, H16, H17, H18, H19, H20, HS0, HS1, HS2, HS3, HS4, HS5⟩
  isplitl [HR0 HR1 HR2 HR3 HR4 HR5 HR6 HR7 HR8 HR9 HR10 HR11 HR12 HR13 HS0 HS1 HS2 HS3 HS4 HS5 Hg]
  · isplitl [HR0 HR1 HR2 HR3 HR4 HR5 HR6 HR7 HR8 HR9 HR10 HR11 HR12 HR13 HS0 HS1 HS2 HS3 HS4 HS5]
    · isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HR13]; · iexact HR13
      isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- The main call's body at a point of the grid is the body on that point's windows. -/
theorem row2 (t : Fin cfg2.N) :
    defs₀ (F := F) .tc cfg2.body (cfg2.bodyArgs t (cfg2.slots t)) = bodyAt2 t := by
  unfold defs₀; rw [Defs.onTc_tc]

/-- The obligation the pipeline of the network's region has for its body. -/
theorem oblig2 (c : Dev nD) : BodyObligation (dat2 (F := F) V c) (defs₀ (F := F)) Variants.none () Set.univ := fun t => by
  rw [bigSep_W2, bigSep_W2, row2]
  exact triple_restated (point2 V c t) rfl .rfl fun _ => .rfl

end

end Cert.KernelIdeal.Body

end
-- ==== Proof.KernelIdeal.Run.lean ====
module

public import proofs.«01_k».proof.Proof.KernelIdeal.Layers
public import proofs.«01_k».proof.Proof.KernelIdeal.Net
public import proofs.«01_k».proof.Proof.Gen.KernelIdeal.Regions
public import Idealize.ShloMosaic.Lib.Pipeline.RegionsLoop
public import Idealize.ShloMosaic.Lib.Pipeline.FrameSuffix

/-! # The program's run

What each of the three regions leaves, the regions as segments of the program, and the run: at the end every
unscoped buffer holds what the last valuation says. -/

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the regions leave -/

/-- The buffers when the first call is entered, -/
abbrev V1v (c : Dev nD) : Valuation τ sig (Elt F) := V1 m c
/-- buffer by buffer. -/
abbrev V1r (c : Dev nD) (b : Ref sig .tc) : Buf (Elt F) ((c : Thread nD τ).loc b) := V1v m c b

/-- What region 0 leaves. -/
def left0v (r : Ref sig .tc) (c : Dev nD) : Buf (Elt F) ((c : Thread nD τ).loc r) :=
  Pipeline.withArrays spec0 c (V1v m c) (fun w => (dat0 (V1r m) c).arrAt w cfg0.N) r

/-- The buffers when the second call is entered, -/
abbrev V3v (c : Dev nD) : Valuation τ sig (Elt F) := V3 m (fun _ => left0v m) c
/-- buffer by buffer. -/
abbrev V3r (c : Dev nD) (b : Ref sig .tc) : Buf (Elt F) ((c : Thread nD τ).loc b) := V3v m c b

/-- What region 1 leaves. -/
def left1v (r : Ref sig .tc) (c : Dev nD) : Buf (Elt F) ((c : Thread nD τ).loc r) :=
  Pipeline.withArrays spec1 c (V3v m c) (fun w => (dat1 (V3r m) c).arrAt w cfg1.N) r

/-- What the first two regions leave. -/
def outs01 : Outs (F := F)
  | 2 => left0v m
  | _ => left1v m

/-- The buffers when the third call is entered, -/
abbrev V19v (c : Dev nD) : Valuation τ sig (Elt F) := V19 m (outs01 m) c
/-- buffer by buffer. -/
abbrev V19r (c : Dev nD) (b : Ref sig .tc) : Buf (Elt F) ((c : Thread nD τ).loc b) := V19v m c b

/-- What region 2 leaves. -/
def left2v (r : Ref sig .tc) (c : Dev nD) : Buf (Elt F) ((c : Thread nD τ).loc r) :=
  Pipeline.withArrays spec2 c (V19v m c) (fun w => (dat2 (V19r m) c).arrAt w cfg2.N) r

/-- What the three regions leave. -/
def outs : Outs (F := F)
  | 2 => left0v m
  | 4 => left1v m
  | _ => left2v m

/-- The first call leaves the first layer's array, -/
theorem outs2 : outs m 2 = left0v m := rfl
/-- the second call the second layer's, -/
theorem outs4 : outs m 4 = left1v m := rfl
/-- and the third call the predictions. -/
theorem outs20 : outs m 20 = left2v m := rfl

/-- When the second call is entered, the buffers don't depend on what later calls leave, -/
theorem V3_eq (c : Dev nD) : V3 m (outs m) c = V3v m c := by
  unfold V3v V3 V2; rw [outs2]

/-- and neither do they when the third call is entered. -/
theorem V19_eq (c : Dev nD) : V19 m (outs m) c = V19v m c := by
  have h : V4 m (outs m) c = V4 m (outs01 m) c := by
    unfold V4 V3 V2; rw [outs2, outs4]; rfl
  unfold V19v V19 V18 V17 V16 V15 V14 V13 V12 V11 V10 V9 V8 V7 V6 V5; rw [h]

/-- At the end of region 0 each of its arrays holds what the valuation after it says, -/
theorem left0 (c : Dev nD) (w : Fin cfg0.W) :
    (dat0 (V1r m) c).arrAt w cfg0.N = V2 m (outs m) c (Pipeline.arrRef spec0 w) := by
  by_cases hw : w = 4
  · subst hw
    exact (Pipeline.withArrays_arr spec0 launch0.win.arr_inj c (V1v m c) (fun w => (dat0 (V1r m) c).arrAt w cfg0.N) 4).symm.trans
      (Function.update_self (β := fun b : DevRef τ sig => Buf (Elt F) ((c : Thread nD τ).1, b)) _ _ _).symm
  · obtain ⟨hin, hne⟩ : (cfg0.win w).isOut = false ∧ Pipeline.arrRef spec0 w ∉ ([main_v1] : List (Ref sig .tc)) := by
      revert hw; revert w; decide
    rw [V2_of m (outs m) c _ hne]
    exact ((dat0 (V1r m) c).arrAt_in w hin _).trans (arr0 (V1r m) c w)

/-- and every other buffer what it held before. -/
theorem rest0 (c : Dev nD) : ∀ b, b ∉ Finset.univ.image (Pipeline.arrRef spec0) → V2 m (outs m) c b = V1r m c b := by
  intro b hb
  refine V2_of m (outs m) c b fun h => hb ?_
  rw [List.mem_singleton.mp h]
  exact Finset.mem_image.mpr ⟨4, Finset.mem_univ _, rfl⟩

/-- At the end of region 1 each of its arrays holds what the valuation after it says, -/
theorem left1 (c : Dev nD) (w : Fin cfg1.W) :
    (dat1 (V3r m) c).arrAt w cfg1.N = V4 m (outs m) c (Pipeline.arrRef spec1 w) := by
  by_cases hw : w = 4
  · subst hw
    exact (Pipeline.withArrays_arr spec1 launch1.win.arr_inj c (V3v m c) (fun w => (dat1 (V3r m) c).arrAt w cfg1.N) 4).symm.trans
      (Function.update_self (β := fun b : DevRef τ sig => Buf (Elt F) ((c : Thread nD τ).1, b)) _ _ _).symm
  · obtain ⟨hin, hne⟩ : (cfg1.win w).isOut = false ∧ Pipeline.arrRef spec1 w ∉ ([main_v3] : List (Ref sig .tc)) := by
      revert hw; revert w; decide
    rw [V4_of m (outs m) c _ hne, V3_eq]
    exact ((dat1 (V3r m) c).arrAt_in w hin _).trans (arr1 (V3r m) c w)

/-- and every other buffer what it held before. -/
theorem rest1 (c : Dev nD) : ∀ b, b ∉ Finset.univ.image (Pipeline.arrRef spec1) → V4 m (outs m) c b = V3r m c b := by
  intro b hb
  refine (V4_of m (outs m) c b fun h => hb ?_).trans (congrFun (V3_eq m c) _)
  rw [List.mem_singleton.mp h]
  exact Finset.mem_image.mpr ⟨4, Finset.mem_univ _, rfl⟩

/-- At the end of region 2 each of its arrays holds what the valuation after it says, -/
theorem left2 (c : Dev nD) (w : Fin cfg2.W) :
    (dat2 (V19r m) c).arrAt w cfg2.N = V20 m (outs m) c (Pipeline.arrRef spec2 w) := by
  by_cases hw : w = 20
  · subst hw
    exact (Pipeline.withArrays_arr spec2 launch2.win.arr_inj c (V19v m c) (fun w => (dat2 (V19r m) c).arrAt w cfg2.N) 20).symm.trans
      (Function.update_self (β := fun b : DevRef τ sig => Buf (Elt F) ((c : Thread nD τ).1, b)) _ _ _).symm
  · obtain ⟨hin, hne⟩ : (cfg2.win w).isOut = false ∧ Pipeline.arrRef spec2 w ∉ ([main_v30] : List (Ref sig .tc)) := by
      revert hw; revert w; decide
    rw [V20_of m (outs m) c _ hne, V19_eq]
    exact ((dat2 (V19r m) c).arrAt_in w hin _).trans (arr2 (V19r m) c w)

/-- and every other buffer what it held before. -/
theorem rest2 (c : Dev nD) : ∀ b, b ∉ Finset.univ.image (Pipeline.arrRef spec2) → V20 m (outs m) c b = V19r m c b := by
  intro b hb
  refine (V20_of m (outs m) c b fun h => hb ?_).trans (congrFun (V19_eq m c) _)
  rw [List.mem_singleton.mp h]
  exact Finset.mem_image.mpr ⟨20, Finset.mem_univ _, rfl⟩

/-! ## The regions as segments -/

/-- Every region's data, at the contents it is entered with. -/
def pdats : (p : Fin 3) → (c : Dev nD) → Dat τ (Elt F) Unit ℕ (UR sig nD τ) ℕ (Pipeline.pin (pcfgs (F := F)) adm p) c
  | ⟨0, _⟩ => fun c => dat0 (V1r m) c
  | ⟨1, _⟩ => fun c => dat1 (V3r m) c
  | ⟨2, _⟩ => fun c => dat2 (V19r m) c
/-- No loop needs a variant of its own, -/
abbrev 𝒱₀ : Variants := Variants.none
/-- no semaphore carries an obligation, -/
abbrev L : GSem nD τ sig → Finset Unit := fun _ => ∅
/-- and so none has a level. -/
abbrev lv : GSem nD τ sig → Unit → ℕ := fun _ _ => 0
/-- What a core holds beside its buffers between segments: its generator register, and nothing owed. -/
abbrev R (c : Dev nD) : sProp 𝕄 := iprop((∃ r, prngReg c r) ∗ ∃ W, owes (c : Thread nD τ) (0 : CellTallies nD τ sig Unit) W)

set_option backward.isDefEq.respectTransparency.types false in
/-- Region 0 as a segment: its arrays are taken out of the unscoped buffers and put back changed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (oblig0 (V1r m) c).loose
  hwaits := Pipeline.hwaits_of_owed_zero _ _ _ _ L lv 0 fun _ _ => rfl
  pre c := iprop(StableHlo.held (c : Thread nD τ) (Pipeline.ucRefs τ sig) (V1v m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (V1r m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1r m c) (arr0 (V1r m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1r m c) (fun b => V2 m (outs m) c b) ((pdats m 0 c).arrAt · cfg0.N) (left0 m c) (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: its arrays are taken out of the unscoped buffers and put back changed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (oblig1 (V3r m) c).loose
  hwaits := Pipeline.hwaits_of_owed_zero _ _ _ _ L lv 1 fun _ _ => rfl
  pre c := iprop(StableHlo.held (c : Thread nD τ) (Pipeline.ucRefs τ sig) (V3v m c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (V3r m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3r m c) (arr1 (V3r m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3r m c) (fun b => V4 m (outs m) c b) ((pdats m 1 c).arrAt · cfg1.N) (left1 m c) (rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: its arrays are taken out of the unscoped buffers and put back changed. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (oblig2 (V19r m) c).loose
  hwaits := Pipeline.hwaits_of_owed_zero _ _ _ _ L lv 2 fun _ _ => rfl
  pre c := iprop(StableHlo.held (c : Thread nD τ) (Pipeline.ucRefs τ sig) (V19v m c) ∗ R c)
  post c := iprop(StableHlo.held (c : Thread nD τ) (Pipeline.ucRefs τ sig) (V20 m (outs m) c) ∗ R c)
  X c := iprop(∃ r, prngReg c r)
  Y c := iprop(∃ r, prngReg c r)
  Z c := Pipeline.unscopedRest (Ix := Unit) (Name := ℕ) (U := UR sig nD τ) (Lvl := ℕ) spec2 c (V19r m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V19r m c) (arr2 (V19r m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V19r m c) (fun b => V20 m (outs m) c b) ((pdats m 2 c).arrAt · cfg2.N) (left2 m c) (rest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- An unscoped reference is among those a core holds between segments. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: every weakly fair execution from `m` with zero counters ends, with every unscoped buffer at the last
    valuation and every counter at zero. -/
theorem run : θ_run defs (onTc (τ := τ) (main (F := F))) ⟨m, fun _ => 0, ρ⟩ (fun r =>
    (∀ c : Dev nD, ∀ b ∈ Pipeline.ucRefs τ sig, r.2.mem (((c : Thread nD τ)).1, b) = V21 m (outs m) c b)
      ∧ r.2.sem = fun _ => 0) :=
  Pipeline.θ_run_regions_kit_dev_sems (pcfgs (F := F)) adm (pdats m) () cellOf_inj emb₁ defs₀ 𝒱₀ L lv m ρ main
    (segs m (outs m) 𝒱₀ L lv (fun _ => R) () (pdats m) (reg0 m) (reg1 m) (reg2 m))
    (fun c Q => by
      rewrite [main_chain c, Pipeline.Seg.run_eq_chain,
        show (segs m (outs m) 𝒱₀ L lv (fun _ => R) () (pdats m) (reg0 m) (reg1 m) (reg2 m) c).map Pipeline.Seg.prog = [
          StableHlo.seq hostOps0, Prog.lift (.customCall (Pipeline.entry 0) ()), StableHlo.seq hostOps1,
          Prog.lift (.customCall (Pipeline.entry 1) ()), StableHlo.seq hostOps2, StableHlo.seq hostOps2_1,
          StableHlo.seq hostOps2_2, StableHlo.seq hostOps2_3, StableHlo.seq hostOps2_4, StableHlo.seq hostOps2_5,
          StableHlo.seq hostOps2_6, StableHlo.seq hostOps2_7, StableHlo.seq hostOps2_8, StableHlo.seq hostOps2_9,
          StableHlo.seq hostOps2_10, StableHlo.seq hostOps2_11, StableHlo.seq hostOps2_12, StableHlo.seq hostOps2_13,
          StableHlo.seq hostOps2_14, Prog.lift (.customCall (Pipeline.entry 2) ()), StableHlo.seq hostOps3 ] from rfl]
      dsimp (config := { failIfUnchanged := false }) only
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (V21 m (outs m) c) ∗ ∃ r, prngReg c r))
    (hch := fun c => ⟨.rfl, .rfl, .rfl,
      (by rw [← V3_eq] : iprop(StableHlo.held (c : Thread nD τ) (Pipeline.ucRefs τ sig) (V3 m (outs m) c) ∗ R c)
        ⊢ iprop(StableHlo.held (c : Thread nD τ) (Pipeline.ucRefs τ sig) (V3v m c) ∗ R c)),
      .rfl, .rfl, .rfl, .rfl, .rfl, .rfl, .rfl, .rfl, .rfl, .rfl, .rfl, .rfl, .rfl, .rfl, .rfl,
      (by rw [← V19_eq] : iprop(StableHlo.held (c : Thread nD τ) (Pipeline.ucRefs τ sig) (V19 m (outs m) c) ∗ R c)
        ⊢ iprop(StableHlo.held (c : Thread nD τ) (Pipeline.ucRefs τ sig) (V19v m c) ∗ R c)),
      .rfl,
      (by
        iintro ⟨Hh, Hp, HO⟩
        isplitl [Hh Hp]
        · isplitl [Hh]; · iexact Hh
          iexact Hp
        iexact HO : iprop(StableHlo.held (c : Thread nD τ) (Pipeline.ucRefs τ sig) (V21 m (outs m) c) ∗ R c)
        ⊢ iprop((StableHlo.held (c : Thread nD τ) (Pipeline.ucRefs τ sig) (V21 m (outs m) c) ∗ ∃ r, prngReg c r)
          ∗ ∃ W, owes (c : Thread nD τ) (0 : CellTallies nD τ sig Unit) W))⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V21 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (V21 m (outs m) c) s')
      isplitl [Hh] <;> iassumption)
    (hQ := fun _ h hz => ⟨h, funext fun g => hz g (.inr (regions_no_unscoped g.2))⟩)

/-- A state the run ends in holds each argument as launched. -/
theorem args_kept {s : (ℓ : Loc nD τ sig) → Buf (Elt F) ℓ} (c : Dev nD)
    (h : ∀ b ∈ Pipeline.ucRefs τ sig, s (((c : Thread nD τ)).1, b) = V21 m (outs m) c b) :
    s ((c.tc : Thread nD τ).loc main_arg0) = m ((c.tc : Thread nD τ).loc main_arg0)
      ∧ s ((c.tc : Thread nD τ).loc main_arg1) = m ((c.tc : Thread nD τ).loc main_arg1)
      ∧ s ((c.tc : Thread nD τ).loc main_arg2) = m ((c.tc : Thread nD τ).loc main_arg2)
      ∧ s ((c.tc : Thread nD τ).loc main_arg3) = m ((c.tc : Thread nD τ).loc main_arg3)
      ∧ s ((c.tc : Thread nD τ).loc main_arg4) = m ((c.tc : Thread nD τ).loc main_arg4)
      ∧ s ((c.tc : Thread nD τ).loc main_arg5) = m ((c.tc : Thread nD τ).loc main_arg5)
      ∧ s ((c.tc : Thread nD τ).loc main_arg6) = m ((c.tc : Thread nD τ).loc main_arg6)
      ∧ s ((c.tc : Thread nD τ).loc main_arg7) = m ((c.tc : Thread nD τ).loc main_arg7)
      ∧ s ((c.tc : Thread nD τ).loc main_arg8) = m ((c.tc : Thread nD τ).loc main_arg8)
      ∧ s ((c.tc : Thread nD τ).loc main_arg9) = m ((c.tc : Thread nD τ).loc main_arg9)
      ∧ s ((c.tc : Thread nD τ).loc main_arg10) = m ((c.tc : Thread nD τ).loc main_arg10)
      ∧ s ((c.tc : Thread nD τ).loc main_arg11) = m ((c.tc : Thread nD τ).loc main_arg11)
      ∧ s ((c.tc : Thread nD τ).loc main_arg12) = m ((c.tc : Thread nD τ).loc main_arg12)
      ∧ s ((c.tc : Thread nD τ).loc main_arg13) = m ((c.tc : Thread nD τ).loc main_arg13)
      ∧ s ((c.tc : Thread nD τ).loc main_arg14) = m ((c.tc : Thread nD τ).loc main_arg14)
      ∧ s ((c.tc : Thread nD τ).loc main_arg15) = m ((c.tc : Thread nD τ).loc main_arg15)
      ∧ s ((c.tc : Thread nD τ).loc main_arg16) = m ((c.tc : Thread nD τ).loc main_arg16)
      ∧ s ((c.tc : Thread nD τ).loc main_arg17) = m ((c.tc : Thread nD τ).loc main_arg17)
      ∧ s ((c.tc : Thread nD τ).loc main_arg18) = m ((c.tc : Thread nD τ).loc main_arg18)
      ∧ s ((c.tc : Thread nD τ).loc main_arg19) = m ((c.tc : Thread nD τ).loc main_arg19)
      ∧ s ((c.tc : Thread nD τ).loc main_arg20) = m ((c.tc : Thread nD τ).loc main_arg20)
      ∧ s ((c.tc : Thread nD τ).loc main_arg21) = m ((c.tc : Thread nD τ).loc main_arg21)
      ∧ s ((c.tc : Thread nD τ).loc main_arg22) = m ((c.tc : Thread nD τ).loc main_arg22)
      ∧ s ((c.tc : Thread nD τ).loc main_arg23) = m ((c.tc : Thread nD τ).loc main_arg23)
      ∧ s ((c.tc : Thread nD τ).loc main_arg24) = m ((c.tc : Thread nD τ).loc main_arg24) :=
  ⟨(h _ (mem_uc main_arg0 (by decide))).trans (V21_main_arg0 m (outs m) c),
    (h _ (mem_uc main_arg1 (by decide))).trans (V21_main_arg1 m (outs m) c),
    (h _ (mem_uc main_arg2 (by decide))).trans (V21_main_arg2 m (outs m) c),
    (h _ (mem_uc main_arg3 (by decide))).trans (V21_main_arg3 m (outs m) c),
    (h _ (mem_uc main_arg4 (by decide))).trans (V21_main_arg4 m (outs m) c),
    (h _ (mem_uc main_arg5 (by decide))).trans (V21_main_arg5 m (outs m) c),
    (h _ (mem_uc main_arg6 (by decide))).trans (V21_main_arg6 m (outs m) c),
    (h _ (mem_uc main_arg7 (by decide))).trans (V21_main_arg7 m (outs m) c),
    (h _ (mem_uc main_arg8 (by decide))).trans (V21_main_arg8 m (outs m) c),
    (h _ (mem_uc main_arg9 (by decide))).trans (V21_main_arg9 m (outs m) c),
    (h _ (mem_uc main_arg10 (by decide))).trans (V21_main_arg10 m (outs m) c),
    (h _ (mem_uc main_arg11 (by decide))).trans (V21_main_arg11 m (outs m) c),
    (h _ (mem_uc main_arg12 (by decide))).trans (V21_main_arg12 m (outs m) c),
    (h _ (mem_uc main_arg13 (by decide))).trans (V21_main_arg13 m (outs m) c),
    (h _ (mem_uc main_arg14 (by decide))).trans (V21_main_arg14 m (outs m) c),
    (h _ (mem_uc main_arg15 (by decide))).trans (V21_main_arg15 m (outs m) c),
    (h _ (mem_uc main_arg16 (by decide))).trans (V21_main_arg16 m (outs m) c),
    (h _ (mem_uc main_arg17 (by decide))).trans (V21_main_arg17 m (outs m) c),
    (h _ (mem_uc main_arg18 (by decide))).trans (V21_main_arg18 m (outs m) c),
    (h _ (mem_uc main_arg19 (by decide))).trans (V21_main_arg19 m (outs m) c),
    (h _ (mem_uc main_arg20 (by decide))).trans (V21_main_arg20 m (outs m) c),
    (h _ (mem_uc main_arg21 (by decide))).trans (V21_main_arg21 m (outs m) c),
    (h _ (mem_uc main_arg22 (by decide))).trans (V21_main_arg22 m (outs m) c),
    (h _ (mem_uc main_arg23 (by decide))).trans (V21_main_arg23 m (outs m) c),
    (h _ (mem_uc main_arg24 (by decide))).trans (V21_main_arg24 m (outs m) c)⟩

end Cert.KernelIdeal.Body

end
-- ==== Proof.Model.Reals.lean ====
module

public import Idealize.ShloMosaic.PureOps.Ideal
public import Idealize.ShloMosaic.Lib.Pointwise

/-! # Finite extended reals

The value claim is about extended reals; the two programs' recurrences agree on finite ones. `Re x` says `x` is
finite. Sums, products, maxima and the programs' functions keep it. -/

@[expose] public section

noncomputable section

namespace Cert.Model

open Idealize.ShloMosaic

/-- `x` is a real number. -/
def Re (x : EReal) : Prop := ∃ r : ℝ, (r : EReal) = x

/-- A real is finite, -/
theorem Re.coe (r : ℝ) : Re (r : EReal) := ⟨r, rfl⟩

/-- so is zero -/
theorem Re.zero : Re 0 := ⟨0, rfl⟩

/-- and one. -/
theorem Re.one : Re 1 := ⟨1, rfl⟩

/-- A sum of finite numbers is finite, -/
theorem Re.add {x y : EReal} : Re x → Re y → Re (x + y)
  | ⟨a, ha⟩, ⟨b, hb⟩ => ⟨a + b, by rw [EReal.coe_add, ha, hb]⟩

/-- a difference, -/
theorem Re.sub {x y : EReal} : Re x → Re y → Re (x - y)
  | ⟨a, ha⟩, ⟨b, hb⟩ => ⟨a - b, by rw [EReal.coe_sub, ha, hb]⟩

/-- a product -/
theorem Re.mul {x y : EReal} : Re x → Re y → Re (x * y)
  | ⟨a, ha⟩, ⟨b, hb⟩ => ⟨a * b, by rw [EReal.coe_mul, ha, hb]⟩

/-- and a maximum. -/
theorem Re.max {x y : EReal} : Re x → Re y → Re (max x y) := fun hx hy => by
  rcases max_choice x y with h | h <;> rw [h] <;> assumption

/-- A finite sum of reals is real. -/
theorem Re.sum {ι : Type} (s : Finset ι) {f : ι → EReal} (h : ∀ i, Re (f i)) : Re (∑ i ∈ s, f i) := by
  classical
  induction s using Finset.induction_on with
  | empty => rw [Finset.sum_empty]; exact Re.zero
  | insert a s ha ih => rw [Finset.sum_insert ha]; exact (h a).add ih

/-- The logistic of anything is real: the infinities go to 0 and 1. -/
theorem Re.logistic (x : EReal) : Re (Ideal.logistic x) := by
  induction x using EReal.rec with
  | bot => rw [Ideal.logistic_bot]; exact Re.zero
  | top => rw [Ideal.logistic_top]; exact Re.one
  | coe r => rw [Ideal.logistic_coe]; exact Re.coe _

/-- So is the hyperbolic tangent: the infinities go to -1 and 1. -/
theorem Re.tanh (x : EReal) : Re (Ideal.tanh x) := by
  induction x using EReal.rec with
  | bot => rw [Ideal.tanh_bot]; exact ⟨-1, rfl⟩
  | top => rw [Ideal.tanh_top]; exact Re.one
  | coe r => rw [Ideal.tanh_coe]; exact Re.coe _

/-- Below infinity in absolute value is real. -/
theorem Re.of_abs_lt {x : EReal} (h : Max.max x (-x) < ⊤) : Re x := by
  induction x using EReal.rec with
  | bot => rw [EReal.neg_bot, max_eq_right bot_le] at h; exact absurd h (lt_irrefl _)
  | top => rw [max_eq_left le_top] at h; exact absurd h (lt_irrefl _)
  | coe r => exact Re.coe r

/-! ## The softmax, masked and not -/

variable {n : ℕ}

/-- The largest of finitely many scores. -/
def top (l : Fin n → EReal) : EReal := Finset.univ.fold Max.max ⊥ l

/-- The softmax of a row of scores, each shifted by the largest. -/
def soft (l : Fin n → EReal) (i : Fin n) : EReal :=
  Ideal.div (Ideal.exp (l i - top l)) (∑ k, Ideal.exp (l k - top l))

/-- Every entry is at most the largest, -/
theorem le_top' (l : Fin n → EReal) (i : Fin n) : l i ≤ top l :=
  (Finset.le_fold_max _).mpr (.inr ⟨i, Finset.mem_univ _, le_refl _⟩)

/-- and the largest is at most what bounds every entry. -/
theorem top_le {l : Fin n → EReal} {c : EReal} (h : ∀ i, l i ≤ c) : top l ≤ c :=
  (Finset.fold_max_le _).mpr ⟨bot_le, fun i _ => h i⟩

/-- The largest of at least one real score is real. -/
theorem top_re {l : Fin n → EReal} (h0 : 0 < n) (h : ∀ i, Re (l i)) : Re (top l) := by
  have hb : top l ≠ ⊥ := fun hb => by
    obtain ⟨r, hr⟩ := h ⟨0, h0⟩
    have := le_top' l ⟨0, h0⟩
    rw [hb, ← hr] at this
    exact absurd (le_bot_iff.mp this) (EReal.coe_ne_bot r)
  have ht : top l ≠ ⊤ := fun ht => by
    have : top l < ⊤ := (Finset.fold_max_lt _).mpr ⟨bot_lt_top, fun i _ => by
      obtain ⟨r, hr⟩ := h i; rw [← hr]; exact EReal.coe_lt_top r⟩
    exact absurd ht this.ne
  exact ⟨(top l).toReal, EReal.coe_toReal ht hb⟩

/-- The exponential of a real is a positive real. -/
theorem exp_pos {x : EReal} : Re x → ∃ r : ℝ, 0 < r ∧ (r : EReal) = Ideal.exp x
  | ⟨a, ha⟩ => ⟨Real.exp a, Real.exp_pos a, by rw [← ha, Ideal.exp_coe]⟩

/-- The softmax's denominator, of real scores, is a positive real. -/
theorem den_pos {l : Fin n → EReal} (h0 : 0 < n) (h : ∀ i, Re (l i)) :
    ∃ r : ℝ, 0 < r ∧ (r : EReal) = ∑ k, Ideal.exp (l k - top l) := by
  choose f hf hfe using fun k => exp_pos ((h k).sub (top_re h0 h))
  have : Nonempty (Fin n) := ⟨⟨0, h0⟩⟩
  refine ⟨∑ k, f k, Finset.sum_pos (fun k _ => hf k) Finset.univ_nonempty, ?_⟩
  exact (map_sum (⟨⟨Real.toEReal, EReal.coe_zero⟩, EReal.coe_add⟩ : ℝ →+ EReal) f Finset.univ).trans
    (Finset.sum_congr rfl fun k _ => hfe k)

/-- The softmax of real scores is real. -/
theorem soft_re {l : Fin n → EReal} (h0 : 0 < n) (h : ∀ i, Re (l i)) (i : Fin n) : Re (soft l i) := by
  obtain ⟨d, hd, hde⟩ := den_pos h0 h
  obtain ⟨x, _, hx⟩ := exp_pos ((h i).sub (top_re h0 h))
  unfold soft
  rw [← hde, Ideal.div_coe hd.ne', ← hx, ← EReal.coe_mul]
  exact Re.coe _

/-- Scores that stand in front of `d` masked places. -/
def padded (d : ℕ) (l : Fin n → EReal) (i : Fin (n + d)) : EReal := if h : i.val < n then l ⟨i, h⟩ else ⊥

/-- A padded list holds the list's entries first, -/
theorem padded_castAdd {d : ℕ} (l : Fin n → EReal) (i : Fin n) : padded d l (i.castAdd d) = l i :=
  dif_pos i.isLt

/-- then minus infinity. -/
theorem padded_natAdd {d : ℕ} (l : Fin n → EReal) (i : Fin d) : padded d l (i.natAdd n) = ⊥ :=
  dif_neg (by show ¬ n + i.val < n; omega)

/-- A mask of minus infinity does not change the largest score, -/
theorem top_padded (d : ℕ) (l : Fin n → EReal) : top (padded d l) = top l :=
  le_antisymm
    (top_le fun i => by
      unfold padded
      split
      · exact le_top' l _
      · exact bot_le)
    (top_le fun i => by rw [← padded_castAdd (d := d) l i]; exact le_top' _ _)

/-- nor the denominator, -/
theorem den_padded (d : ℕ) (l : Fin n → EReal) :
    ∑ k, Ideal.exp (padded d l k - top (padded d l)) = ∑ k, Ideal.exp (l k - top l) := by
  rw [Fin.sum_univ_add, top_padded]
  have : ∀ k : Fin d, Ideal.exp (padded d l (k.natAdd n) - top l) = 0 := fun k => by
    rw [padded_natAdd, EReal.bot_sub, Ideal.exp_bot]
  simp only [this, padded_castAdd, Finset.sum_const_zero, add_zero]

/-- nor a weight in front of it, -/
theorem soft_padded (d : ℕ) (l : Fin n → EReal) (i : Fin n) : soft (padded d l) (i.castAdd d) = soft l i := by
  unfold soft
  rw [den_padded, padded_castAdd, top_padded]

/-- and a masked place has weight zero. -/
theorem soft_masked (d : ℕ) {l : Fin n → EReal} (h0 : 0 < n) (h : ∀ i, Re (l i)) (i : Fin d) :
    soft (padded d l) (i.natAdd n) = 0 := by
  obtain ⟨s, hs, hse⟩ := den_pos h0 h
  unfold soft
  rw [den_padded, padded_natAdd, EReal.bot_sub, Ideal.exp_bot, ← hse, Ideal.div_coe hs.ne', zero_mul]

/-! ## Picking a row by a row of ones and zeros -/

/-- A sum that marks one place is the entry there. -/
theorem pick {N : ℕ} (f : Fin N → EReal) (k : Fin N) (hN : N ≤ 2 ^ 32) :
    ∑ i : Fin N, Scalar.select (IntOp.cmpi .eq (BitVec.ofNat 32 i.val) (BitVec.ofNat 32 k.val)) (f i) 0 = f k := by
  rw [Finset.sum_eq_single k]
  · rw [Scalar.select, IntOp.cmpi]; simp
  · intro i _ hik
    have : (BitVec.ofNat 32 i.val == BitVec.ofNat 32 k.val) = false := by
      refine beq_eq_false_iff_ne.mpr fun he => hik (Fin.ext ?_)
      have h := congrArg BitVec.toNat he
      rwa [BitVec.toNat_ofNat, BitVec.toNat_ofNat, Nat.mod_eq_of_lt (by omega), Nat.mod_eq_of_lt (by omega)] at h
    rw [Scalar.select, IntOp.cmpi]
    simp [this]
  · exact fun h => absurd (Finset.mem_univ k) h

end Cert.Model

end
-- ==== Proof.Model.Net.lean ====
module

public import proofs.«01_k».proof.Proof.Model.Reals

/-! # The network for one student, as functions of numbers

One batch row: at every time step a student's, a skill's and a response's embedding. The parameters are a `Par`. -/

@[expose] public section

noncomputable section

namespace Cert.Model

open Idealize.ShloMosaic

/-- A row of 128 numbers. -/
abbrev Row := Fin 128 → EReal

/-- Place `i` of the first half of 256. -/
def lo (i : Fin 128) : Fin 256 := ⟨i.val, by omega⟩
/-- Place `i` of the second half of 256. -/
def hi (i : Fin 128) : Fin 256 := ⟨128 + i.val, by omega⟩

/-- The gate: the logistic of one number, from both embeddings. -/
def gate (s k : Row) (W : Fin 256 → EReal) (b : EReal) : EReal :=
  Ideal.logistic ((∑ i, s i * W (lo i) + ∑ i, k i * W (hi i)) + b)

/-- Two embeddings mixed by their gate. -/
def mix (s k : Row) (W : Fin 256 → EReal) (b : EReal) : Row := fun j =>
  gate s k W b * s j + (1 - gate s k W b) * k j

/-- A linear layer. -/
def lin {n : ℕ} (v : Row) (W : Fin 128 → Fin n → EReal) (b : Fin n → EReal) (j : Fin n) : EReal :=
  ∑ i, v i * W i j + b j

/-- The scores against the memory keys. -/
def score (q : Row) (K : Fin 50 → Row) (i : Fin 50) : EReal := ∑ j, q j * K i j

/-- The memory before step `t`: erased and added to at every step before. -/
def mem (w : ℕ → Fin 50 → EReal) (e a : ℕ → Row) (m : Fin 50 → Row) : ℕ → Fin 50 → Row
  | 0 => m
  | t + 1 => fun i j => mem w e a m t i j * (1 - w t i * e t j) + w t i * a t j

/-- What a step reads. -/
def read (w : Fin 50 → EReal) (m : Fin 50 → Row) (j : Fin 128) : EReal := ∑ i, w i * m i j

/-- The probability of skill `n`, of what was read and the question. -/
def prob (r q : Row) (Wf : Fin 256 → Row) (bf : Row) (Wp : Fin 128 → Fin 200 → EReal) (bp : Fin 200 → EReal)
    (n : Fin 200) : EReal :=
  Ideal.logistic (lin (fun j => Ideal.tanh ((∑ i, r i * Wf (lo i) j + ∑ i, q i * Wf (hi i) j) + bf j)) Wp bp n)

/-- The parameters. -/
structure Par where
  /-- the question gate's weights -/
  Wgk : Fin 256 → EReal
  /-- and bias -/
  bgk : EReal
  /-- the response gate's weights -/
  Wgv : Fin 256 → EReal
  /-- and bias -/
  bgv : EReal
  /-- the memory keys -/
  Mk : Fin 50 → Row
  /-- the memory's start -/
  Mv : Fin 50 → Row
  /-- the erase layer's weights -/
  We : Fin 128 → Row
  /-- and bias -/
  be : Row
  /-- the add layer's weights -/
  Wa : Fin 128 → Row
  /-- and bias -/
  ba : Row
  /-- the summary layer's weights -/
  Wf : Fin 256 → Row
  /-- and bias -/
  bf : Row
  /-- the prediction layer's weights -/
  Wp : Fin 128 → Fin 200 → EReal
  /-- and bias -/
  bp : Fin 200 → EReal

variable (θ : Par)

/-- The question. -/
def ques (s k : Row) : Row := mix s k θ.Wgk θ.bgk
/-- The response. -/
def resp (s v : Row) : Row := mix s v θ.Wgv θ.bgv
/-- The addressing. -/
def addr (s k : Row) : Fin 50 → EReal := soft (score (ques θ s k) θ.Mk)
/-- What is erased. -/
def erase (s v : Row) : Row := fun j => Ideal.logistic (lin (resp θ s v) θ.We θ.be j)
/-- What is added. -/
def add (s v : Row) : Row := fun j => Ideal.tanh (lin (resp θ s v) θ.Wa θ.ba j)

/-- The memory before step `t`, of the embeddings at every step. -/
def memory (s k v : ℕ → Row) : ℕ → Fin 50 → Row :=
  mem (fun t => addr θ (s t) (k t)) (fun t => erase θ (s t) (v t)) (fun t => add θ (s t) (v t)) θ.Mv

/-- The prediction at step `t` for skill `n`. -/
def predict (s k v : ℕ → Row) (t : ℕ) (n : Fin 200) : EReal :=
  prob (read (addr θ (s t) (k t)) (memory θ s k v t)) (ques θ (s t) (k t)) θ.Wf θ.bf θ.Wp θ.bp n

/-! ## What is finite -/

/-- A gate's mix of finite rows is finite. -/
theorem mix_re {s k : Row} (W : Fin 256 → EReal) (b : EReal) (hs : ∀ i, Re (s i)) (hk : ∀ i, Re (k i)) (j : Fin 128) :
    Re (mix s k W b j) :=
  ((Re.logistic _).mul (hs j)).add ((Re.one.sub (Re.logistic _)).mul (hk j))

/-- The score of a finite question against finite keys is finite. -/
theorem score_re {q : Row} {K : Fin 50 → Row} (hq : ∀ j, Re (q j)) (hK : ∀ i j, Re (K i j)) (i : Fin 50) :
    Re (score q K i) :=
  Re.sum _ fun j => (hq j).mul (hK i j)

/-- The addressing weights of finite rows are finite. -/
theorem addr_re {s k : Row} (hs : ∀ i, Re (s i)) (hk : ∀ i, Re (k i)) (hK : ∀ i j, Re (θ.Mk i j)) (i : Fin 50) :
    Re (addr θ s k i) :=
  soft_re (by decide) (score_re (mix_re _ _ hs hk) hK) i

/-- A memory that starts finite and is changed by finite weights, erasures and additions stays finite. -/
theorem mem_re {w : ℕ → Fin 50 → EReal} {e a : ℕ → Row} {m : Fin 50 → Row} (hw : ∀ t i, Re (w t i))
    (he : ∀ t j, Re (e t j)) (ha : ∀ t j, Re (a t j)) (hm : ∀ i j, Re (m i j)) : ∀ t i j, Re (mem w e a m t i j)
  | 0, i, j => hm i j
  | t + 1, i, j => ((mem_re hw he ha hm t i j).mul (Re.one.sub ((hw t i).mul (he t j)))).add ((hw t i).mul (ha t j))

/-- On reals, erasing the weighted memory is scaling it by what is left. -/
theorem erase_eq {m w e a : EReal} (hm : Re m) (hw : Re w) (he : Re e) :
    m - e * (w * m) + w * a = m * (1 - w * e) + w * a := by
  obtain ⟨m, rfl⟩ := hm
  obtain ⟨w, rfl⟩ := hw
  obtain ⟨e, rfl⟩ := he
  congr 1
  rw [← EReal.coe_one]
  simp only [← EReal.coe_mul, ← EReal.coe_sub]
  congr 1
  ring

end Cert.Model

end
-- ==== Proof.KernelIdeal.Rows.lean ====
module

public import proofs.«01_k».proof.Proof.KernelIdeal.Pure
public import proofs.«01_k».proof.Proof.Model.Net
public import Idealize.ShloMosaic.Lib.Pointwise
public import Idealize.ShloMosaic.Lib.Pipeline.ValueKit

/-! # The memory network's body, row by row, over the extended reals

Row `32 t + r` of a block is time step `t` of batch row `r`. Every array the body keeps is read here at a row, and the
result at a row is the model's prediction. -/

@[expose] public section

set_option maxRecDepth 16384

noncomputable section

namespace Cert.KernelIdeal.Body

open Idealize.ShloMosaic Idealize.ShloMosaic.TcCoe Idealize.SL.Sem
open Cert.KernelIdeal Cert.KernelIdeal.Gen Cert.Model

/-! ## Chunks read back -/

/-- The chunk a row lies in, -/
def chunkOf (ρ : Fin 6400) : Fin 8 := ⟨ρ.val / 800, by omega⟩
/-- and its place there. -/
def placeOf (ρ : Fin 6400) : Fin 800 := ⟨ρ.val % 800, by omega⟩

/-- Eight pieces read at an index: the value every piece that holds the index has there. -/
theorem canon_chunks {Val : EltTy → Type} [∀ e, Nonempty (Val e)] {S : Shape} {e : EltTy} (f : Fin 8 → View.Piece Val S e)
    (y : S.Idx) (v : Val e) (c : Fin 8) (hc : y ∈ (f c).1.set) (h : ∀ c x, (f c).1.emb x = y → (f c).2 x = v) :
    View.canon (chunks f) y = v := by
  have hm : ∀ c : Fin 8, f c ∈ chunks f := by
    intro c
    unfold chunks
    fin_cases c <;> simp
  refine View.canon_eq_of_allAt _ y v ⟨f c, hm c, hc⟩ fun p hp => ?_
  have : ∃ c, p = f c := by
    simp only [chunks, List.mem_cons, List.not_mem_nil, or_false] at hp
    rcases hp with h | h | h | h | h | h | h | h <;> exact ⟨_, h⟩
  obtain ⟨c, rfl⟩ := this
  exact h c

/-- A place inside a chunk of rows of 128 that stands for row `ρ` belongs to `ρ`'s chunk, at `ρ`'s place in it. -/
theorem rectC_emb {c : Fin 8} {x : (rectC c).shape.Idx} {ρ : Fin 6400} {j : Fin 128}
    (h : (rectC c).emb x = (ix2 ρ j : S6400x128.Idx)) : c = chunkOf ρ ∧ x = (ix2 (placeOf ρ) j : S800x128.Idx) := by
  have h0 : 800 * c.val + 1 * (x 0).val = ρ.val := congrArg (fun i : S6400x128.Idx => (i 0).val) h
  have h1 : 0 + 1 * (x 1).val = j.val := congrArg (fun i : S6400x128.Idx => (i 1).val) h
  have hx : (x 0).val < 800 := (x 0).isLt
  refine ⟨Fin.ext (by show c.val = ρ.val / 800; omega), funext fun a => ?_⟩
  refine Fin.cases (Fin.ext (by show (x 0).val = ρ.val % 800; omega)) (fun b => ?_) a
  rw [Fin.fin_one_eq_zero b]
  exact Fin.ext (by show (x 1).val = j.val; omega)

/-- The same for the rows of weights -/
theorem rectCW_emb {c : Fin 8} {x : (rectCW c).shape.Idx} {ρ : Fin 6400} {j : Fin 64}
    (h : (rectCW c).emb x = (ix2 ρ j : S6400x64.Idx)) : c = chunkOf ρ ∧ x = (ix2 (placeOf ρ) j : S800x64.Idx) := by
  have h0 : 800 * c.val + 1 * (x 0).val = ρ.val := congrArg (fun i : S6400x64.Idx => (i 0).val) h
  have h1 : 0 + 1 * (x 1).val = j.val := congrArg (fun i : S6400x64.Idx => (i 1).val) h
  have hx : (x 0).val < 800 := (x 0).isLt
  refine ⟨Fin.ext (by show c.val = ρ.val / 800; omega), funext fun a => ?_⟩
  refine Fin.cases (Fin.ext (by show (x 0).val = ρ.val % 800; omega)) (fun b => ?_) a
  rw [Fin.fin_one_eq_zero b]
  exact Fin.ext (by show (x 1).val = j.val; omega)

/-- and for a column. -/
theorem rectCol_emb {c : Fin 8} {x : (rectCol c).shape.Idx} {ρ : Fin 6400}
    (h : (rectCol c).emb x = (ix3 0 ρ 0 : S1x6400x1.Idx)) : c = chunkOf ρ ∧ x = (ix3 0 (placeOf ρ) 0 : S1x800x1.Idx) := by
  have h1 : 800 * c.val + 0 + 1 * (x 1).val = ρ.val := congrArg (fun i : S1x6400x1.Idx => (i 1).val) h
  have hx : (x 1).val < 800 := (x 1).isLt
  refine ⟨Fin.ext (by show c.val = ρ.val / 800; omega), ?_⟩
  rw [eq_ix3 x]
  have e0 : x 0 = (0 : Fin 1) := Fin.fin_one_eq_zero (x 0)
  have e2 : x 2 = (0 : Fin 1) := Fin.fin_one_eq_zero (x 2)
  have e1 : x 1 = placeOf ρ := Fin.ext (by show (x 1).val = ρ.val % 800; omega)
  rw [e0, e1, e2]

/-- Every row of 128 lies in its chunk, -/
theorem mem_rectC (ρ : Fin 6400) (j : Fin 128) : (ix2 ρ j : S6400x128.Idx) ∈ (rectC (chunkOf ρ)).set := by
  refine Rect.mem_set_unit.mpr fun a => ?_
  refine Fin.cases ⟨?_, ?_⟩ (fun b => ?_) a
  · show 800 * (ρ.val / 800) ≤ ρ.val; omega
  · show ρ.val < 800 * (ρ.val / 800) + 800; omega
  · rw [Fin.fin_one_eq_zero b]
    exact ⟨Nat.zero_le _, by show j.val < 0 + 128; omega⟩

/-- so does every row of weights -/
theorem mem_rectCW (ρ : Fin 6400) (j : Fin 64) : (ix2 ρ j : S6400x64.Idx) ∈ (rectCW (chunkOf ρ)).set := by
  refine Rect.mem_set_unit.mpr fun a => ?_
  refine Fin.cases ⟨?_, ?_⟩ (fun b => ?_) a
  · show 800 * (ρ.val / 800) ≤ ρ.val; omega
  · show ρ.val < 800 * (ρ.val / 800) + 800; omega
  · rw [Fin.fin_one_eq_zero b]
    exact ⟨Nat.zero_le _, by show j.val < 0 + 64; omega⟩

/-- and every entry of a column. -/
theorem mem_rectCol (ρ : Fin 6400) : (ix3 0 ρ 0 : S1x6400x1.Idx) ∈ (rectCol (chunkOf ρ)).set := by
  refine Rect.mem_set_unit.mpr fun a => ?_
  have h : ∀ a : Fin 3, (![0, 800 * (chunkOf ρ).val + 0, 0] : Fin 3 → ℕ) a ≤ ((ix3 0 ρ 0 : S1x6400x1.Idx) a).val ∧
      ((ix3 0 ρ 0 : S1x6400x1.Idx) a).val < (![0, 800 * (chunkOf ρ).val + 0, 0] : Fin 3 → ℕ) a + S1x800x1.size a :=
    Fin.forall_fin_succ.mpr ⟨⟨le_refl _, by show 0 < 0 + 1; omega⟩, Fin.forall_fin_succ.mpr
      ⟨⟨by show 800 * (ρ.val / 800) + 0 ≤ ρ.val; omega, by show ρ.val < 800 * (ρ.val / 800) + 0 + 800; omega⟩,
        Fin.forall_fin_one.mpr ⟨le_refl _, by show 0 < 0 + 1; omega⟩⟩⟩
  exact h a

section
variable (x0 : Vec Ideal S1x6432x1 .i32) (x1 : Vec Ideal S1x6400x1 .i32) (x2 : Vec Ideal S1x6400x1 .i32)
  (x3 : Vec Ideal S4000x128 .f32) (x4 : Vec Ideal S208x128 .f32) (x5 : Vec Ideal S408x128 .f32)
  (x6 : Vec Ideal S128x64 .f32) (x7 : Vec Ideal S64x128 .f32) (x8 : Vec Ideal S256x1 .f32) (x9 : Vec Ideal S1x1 .f32)
  (x10 : Vec Ideal S256x1 .f32) (x11 : Vec Ideal S1x1 .f32) (x12 : Vec Ideal S128x128 .f32) (x13 : Vec Ideal S1x128 .f32)
  (x14 : Vec Ideal S128x128 .f32) (x15 : Vec Ideal S1x128 .f32) (x16 : Vec Ideal S256x128 .f32)
  (x17 : Vec Ideal S1x128 .f32) (x18 : Vec Ideal S128x200 .f32) (x19 : Vec Ideal S1x200 .f32)

/-- A row's student embedding, -/
def studR (ρ : Fin 6400) : Row := fun j => stud x2 x3 (chunkOf ρ) (ix2 (placeOf ρ) j)
/-- its skill's, -/
def skilR (ρ : Fin 6400) : Row := fun j => skil x0 x4 (chunkOf ρ) (ix2 (placeOf ρ) j)
/-- and its response's. -/
def respR (ρ : Fin 6400) : Row := fun j => resp x0 x1 x5 (chunkOf ρ) (ix2 (placeOf ρ) j)

/-! ## What the body keeps, at a row -/

/-- A row of a chunk's questions: the gate's mix of the student's embedding and the skill's. -/
theorem quesM_row (c : Fin 8) (r : Fin 800) (j : Fin 128) : quesM x0 x2 x3 x4 x8 x9 c (ix2 r j)
    = mix (fun j => stud x2 x3 c (ix2 r j)) (fun j => skil x0 x4 c (ix2 r j)) (fun i => x8 (ix2 i 0)) (x9 (ix2 0 0)) j := by
  pointwise [quesM, mixC, gateC]
  rfl

/-- A row of a chunk's responses: the gate's mix of the student's embedding and the response's. -/
theorem respM_row (c : Fin 8) (r : Fin 800) (j : Fin 128) : respM x0 x1 x2 x3 x5 x10 x11 c (ix2 r j)
    = mix (fun j => stud x2 x3 c (ix2 r j)) (fun j => resp x0 x1 x5 c (ix2 r j)) (fun i => x10 (ix2 i 0))
      (x11 (ix2 0 0)) j := by
  pointwise [respM, mixC, gateC]
  rfl

/-- The question kept for a row. -/
theorem quesA_row (ρ : Fin 6400) (j : Fin 128) : quesA x0 x2 x3 x4 x8 x9 (ix2 ρ j)
    = mix (studR x2 x3 ρ) (skilR x0 x4 ρ) (fun i => x8 (ix2 i 0)) (x9 (ix2 0 0)) j := by
  refine canon_chunks _ _ _ (chunkOf ρ) (mem_rectC ρ j) fun c x hx => ?_
  obtain ⟨rfl, rfl⟩ := rectC_emb hx
  refine Eq.trans ?_ (quesM_row x0 x2 x3 x4 x8 x9 _ _ _)
  show (shapeCast S800x128 (quesM x0 x2 x3 x4 x8 x9 _) _) (ix2 (placeOf ρ) j) = _
  pointwise

/-- The mask's name stands for minus infinity. -/
theorem mask_eq : (Named.named (F := Ideal) κ "mask" (φ := .f32) 0xF149F2CA#32 : EReal) = ⊥ := rfl

/-- Comparing a slot's number with 50 as words is comparing it as a number. -/
theorem mask_slt : ∀ i : Fin 64, IntOp.cmpi .slt (BitVec.ofNat 32 i.val) 50#32 = if i.val < 50 then 1#1 else 0#1 := by
  decide

/-- A row of a chunk's weights: the softmax of the scores against the 50 keys, padded by 14 slots at minus infinity. -/
theorem weights_row (q : FVec Ideal S800x128 .f32) (r : Fin 800) (i : Fin 64) :
    normC (expC (scoreC q x6)) (ix2 r i)
      = soft (padded 14 (score (fun j => q (ix2 r j)) (fun i j => x6 (ix2 j (i.castAdd 14))))) i := by
  have hm : ∀ i : Fin 64, Scalar.select (IntOp.cmpi .slt (BitVec.ofNat 32 i.val) 50#32)
      (∑ k : Fin 128, q (ix2 r k) * x6 (ix2 k i)) (Named.named (F := Ideal) κ "mask" (φ := .f32) 0xF149F2CA#32)
      = padded 14 (score (fun j => q (ix2 r j)) (fun i j => x6 (ix2 j (i.castAdd 14)))) i := by
    intro i
    rw [mask_slt, mask_eq]
    unfold padded
    by_cases h : i.val < 50
    · rw [if_pos h, dif_pos h]; rfl
    · rw [if_neg h, dif_neg h]; rfl
  pointwise [normC, expC, scoreC]
  simp only [hm]
  rfl

/-- The addressing kept for a row. -/
theorem addrA_row (ρ : Fin 6400) (i : Fin 64) : addrA x0 x2 x3 x4 x6 x8 x9 (ix2 ρ i)
    = soft (padded 14 (score (mix (studR x2 x3 ρ) (skilR x0 x4 ρ) (fun i => x8 (ix2 i 0)) (x9 (ix2 0 0)))
      (fun i j => x6 (ix2 j (i.castAdd 14))))) i := by
  refine canon_chunks _ _ _ (chunkOf ρ) (mem_rectCW ρ i) fun c x hx => ?_
  obtain ⟨rfl, rfl⟩ := rectCW_emb hx
  have hv : ∀ i : S128x64.Idx, View.ld x6 (Rect.unit ![0, 0] S128x64.size inb_S128x64_S128x64_0_0) i = x6 i := by
    intro i
    idx_vars i
    pointwise
  show (shapeCast S800x64 (normC (expC (scoreC (quesM x0 x2 x3 x4 x8 x9 _)
    (View.ld x6 (Rect.unit ![0, 0] S128x64.size inb_S128x64_S128x64_0_0))))) _) (ix2 (placeOf ρ) i) = _
  rw [funext hv]
  refine Eq.trans ?_ ((weights_row x6 (quesM x0 x2 x3 x4 x8 x9 (chunkOf ρ)) (placeOf ρ) i).trans ?_)
  · pointwise
  · rw [funext fun j => quesM_row x0 x2 x3 x4 x8 x9 (chunkOf ρ) (placeOf ρ) j]
    rfl

/-- A row of a chunk's affine map. -/
theorem lin_row (v : FVec Ideal S800x128 .f32) (W : Vec Ideal S128x128 .f32) (b : Vec Ideal S1x128 .f32) (r : Fin 800)
    (j : Fin 128) : linC v W b (ix2 r j)
      = lin (fun j => v (ix2 r j)) (fun i j => W (ix2 i j)) (fun j => b (ix2 0 j)) j := by
  pointwise [linC]
  rfl

/-- What is erased, kept for a row, -/
theorem eraseA_row (ρ : Fin 6400) (j : Fin 128) : eraseA x0 x1 x2 x3 x5 x10 x11 x12 x13 (ix2 ρ j)
    = Ideal.logistic (lin (mix (studR x2 x3 ρ) (respR x0 x1 x5 ρ) (fun i => x10 (ix2 i 0)) (x11 (ix2 0 0)))
      (fun i j => x12 (ix2 i j)) (fun j => x13 (ix2 0 j)) j) := by
  refine canon_chunks _ _ _ (chunkOf ρ) (mem_rectC ρ j) fun c x hx => ?_
  obtain ⟨rfl, rfl⟩ := rectC_emb hx
  show (shapeCast S800x128 (logistic (linC (respM x0 x1 x2 x3 x5 x10 x11 _) _ _)) _) (ix2 (placeOf ρ) j) = _
  pointwise
  rw [lin_row]
  simp only [respM_row]
  pointwise [lin]
  rfl

/-- and what is added. -/
theorem addA_row (ρ : Fin 6400) (j : Fin 128) : addA x0 x1 x2 x3 x5 x10 x11 x14 x15 (ix2 ρ j)
    = Ideal.tanh (lin (mix (studR x2 x3 ρ) (respR x0 x1 x5 ρ) (fun i => x10 (ix2 i 0)) (x11 (ix2 0 0)))
      (fun i j => x14 (ix2 i j)) (fun j => x15 (ix2 0 j)) j) := by
  refine canon_chunks _ _ _ (chunkOf ρ) (mem_rectC ρ j) fun c x hx => ?_
  obtain ⟨rfl, rfl⟩ := rectC_emb hx
  show (shapeCast S800x128 (tanh (linC (respM x0 x1 x2 x3 x5 x10 x11 _) _ _)) _) (ix2 (placeOf ρ) j) = _
  pointwise
  rw [lin_row]
  simp only [respM_row]
  pointwise [lin]
  rfl

/-! ## The recurrence, at a batch row -/

/-- Row `r` of step `t`. -/
def rowOf (t : ℕ) (r : Fin 32) : Fin 6400 := ⟨32 * (t % 200) + r.val, by omega⟩

variable (W : Vec Ideal S6400x64 .f32) (E A : Vec Ideal S6400x128 .f32) (M0 : Vec Ideal S32x64x128 .f32)

/-- One step of the memory, entry by entry: erase, then add. -/
theorem memAt_succ (t : ℕ) (r : Fin 32) (i : Fin 64) (j : Fin 128) : memAt W E A M0 (t + 1) (ix3 r i j)
    = memAt W E A M0 t (ix3 r i j)
        - E (ix2 (rowOf t r) j) * (W (ix2 (rowOf t r) i) * memAt W E A M0 t (ix3 r i j))
      + W (ix2 (rowOf t r) i) * A (ix2 (rowOf t r) j) := by
  show writeS _ _ _ _ (ix3 r i j) = _
  pointwise [writeS, weigh]
  rfl

/-- What a step reads: the memory's slots, weighed. -/
theorem readAtStep_row (t : ℕ) (r : Fin 32) (j : Fin 128) : readAtStep W E A M0 t (ix2 r j)
    = ∑ i : Fin 64, W (ix2 (rowOf t r) i) * memAt W E A M0 t (ix3 r i j) := by
  pointwise [readAtStep, readS, weigh]
  rfl

/-- The row of everything read that belongs to step `t` is what that step reads. -/
theorem readAll_row (t : ℕ) (ht : t < 200) (r : Fin 32) (j : Fin 128) : readAll W E A M0 (ix2 (rowOf t r) j)
    = ∑ i : Fin 64, W (ix2 (rowOf t r) i) * memAt W E A M0 t (ix3 r i j) := by
  have h1 : (rowOf t r).val / 32 = t := by show (32 * (t % 200) + r.val) / 32 = t; omega
  have h2 : (rowOf t r).val % 32 = r.val := by show (32 * (t % 200) + r.val) % 32 = r.val; omega
  have h : ∀ (u : ℕ) (q : Fin 32), u = t → q = r → readAtStep W E A M0 u (ix2 q j) = readAtStep W E A M0 t (ix2 r j) := by
    rintro u q rfl rfl
    rfl
  exact (h _ ⟨(rowOf t r).val % 32, Nat.mod_lt _ (by decide)⟩ h1 (Fin.ext h2)).trans (readAtStep_row W E A M0 t r j)

/-- The memory starts alike for every student. -/
theorem start_row (r : Fin 32) (i : Fin 64) (j : Fin 128) :
    startS (View.ld x7 (Rect.unit ![0, 0] S64x128.size inb_S64x128_S64x128_0_0)) (ix3 r i j) = x7 (ix2 i j) := by
  pointwise [startS]

/-! ## The result, at a row -/

variable (R K : Vec Ideal S6400x128 .f32)

/-- A row of a chunk's probabilities. -/
theorem probC_row (r k : FVec Ideal S800x128 .f32) (wr wk : Vec Ideal S128x128 .f32) (b : Vec Ideal S1x128 .f32)
    (wp : Vec Ideal S128x200 .f32) (bp : Vec Ideal S1x200 .f32) (i : Fin 800) (n : Fin 200) :
    probC r k wr wk b wp bp (ix2 i n)
      = Ideal.logistic (lin (fun j => Ideal.tanh ((∑ l, r (ix2 i l) * wr (ix2 l j) + ∑ l, k (ix2 i l) * wk (ix2 l j))
        + b (ix2 0 j))) (fun j n => wp (ix2 j n)) (fun n => bp (ix2 0 n)) n) := by
  pointwise [probC]
  rfl

/-- A row's prediction: the sum over the skills of the probabilities, all but the next skill's left out. -/
theorem nextC_row (p : FVec Ideal S800x200 .f32) (nsk : Vec Ideal S1x800x1 .i32) (r : Fin 800) :
    nextC p nsk (ix3 0 r 0)
      = ∑ i : Fin 200, Scalar.select (IntOp.cmpi .eq (BitVec.ofNat 32 i.val) (nsk (ix3 0 r 0))) (p (ix2 r i)) 0 := by
  pointwise [nextC]

/-- The result at a row, of what was read and the question there and of the skill one step on. -/
theorem out_row (ρ : Fin 6400) (n : Fin 200) (hn : x0 (ix3 0 ⟨ρ.val + 32, by omega⟩ 0) = BitVec.ofNat 32 n.val) :
    View.canon (chunks (outP x0 R K x16 x17 x18 x19)) (ix3 0 ρ 0)
      = prob (fun j => R (ix2 ρ j)) (fun j => K (ix2 ρ j)) (fun i j => x16 (ix2 i j)) (fun j => x17 (ix2 0 j))
          (fun j n => x18 (ix2 j n)) (fun n => x19 (ix2 0 n)) n := by
  refine canon_chunks _ _ _ (chunkOf ρ) (mem_rectCol ρ) fun c x hx => ?_
  obtain ⟨rfl, rfl⟩ := rectCol_emb hx
  refine (nextC_row _ _ _).trans ?_
  have hs : View.ld x0 (rectColSk 32 (by decide) (chunkOf ρ)) (ix3 0 (placeOf ρ) 0) = BitVec.ofNat 32 n.val := by
    rw [← hn]
    pointwise
    congr 2
    exact Fin.ext (by show 800 * (ρ.val / 800) + 32 + ρ.val % 800 = ρ.val + 32; omega)
  rw [hs, pick _ n (by decide), probC_row]
  have hρ : (⟨800 * (chunkOf ρ).val + (placeOf ρ).val, by have := (chunkOf ρ).isLt; have := (placeOf ρ).isLt; omega⟩ :
      Fin 6400) = ρ := Fin.ext (by show 800 * (ρ.val / 800) + ρ.val % 800 = ρ.val; omega)
  unfold prob lin
  pointwise
  simp only [hρ]
  rfl

/-! ## The whole body, at a row -/

/-- The parameters as the body's inputs hold them. -/
def par : Par where
  Wgk i := x8 (ix2 i 0)
  bgk := x9 (ix2 0 0)
  Wgv i := x10 (ix2 i 0)
  bgv := x11 (ix2 0 0)
  Mk i j := x6 (ix2 j (i.castAdd 14))
  Mv i j := x7 (ix2 (i.castAdd 14) j)
  We i j := x12 (ix2 i j)
  be j := x13 (ix2 0 j)
  Wa i j := x14 (ix2 i j)
  ba j := x15 (ix2 0 j)
  Wf i j := x16 (ix2 i j)
  bf j := x17 (ix2 0 j)
  Wp j n := x18 (ix2 j n)
  bp n := x19 (ix2 0 n)

/-! The recurrence and its reads, of any addressing, erasing and adding that are the network's. -/

section
variable {W E A M0} (η : Par) (s k v : ℕ → Row) (r : Fin 32)
  (hW : ∀ t i, W (ix2 (rowOf t r) i) = soft (padded 14 (score (ques η (s t) (k t)) η.Mk)) i)
  (hE : ∀ t j, E (ix2 (rowOf t r) j) = erase η (s t) (v t) j)
  (hA : ∀ t j, A (ix2 (rowOf t r) j) = add η (s t) (v t) j)
  (hM : ∀ i j, M0 (ix3 r (i.castAdd 14) j) = η.Mv i j)
  (hs : ∀ t j, Re (s t j)) (hk : ∀ t j, Re (k t j)) (hK : ∀ i j, Re (η.Mk i j)) (hMv : ∀ i j, Re (η.Mv i j))

include hs hk hK hMv in
/-- The model's memory stays finite. -/
theorem memory_re (t : ℕ) (i : Fin 50) (j : Fin 128) : Re (memory η s k v t i j) :=
  mem_re (fun t => addr_re η (hs t) (hk t) hK) (fun _ _ => Re.logistic _) (fun _ _ => Re.tanh _) hMv t i j

include hW hE hA hM hs hk hK hMv in
/-- The memory held before a step. -/
theorem memAt_memory (i : Fin 50) (j : Fin 128) :
    ∀ t, memAt W E A M0 t (ix3 r (i.castAdd 14) j) = memory η s k v t i j
  | 0 => hM i j
  | t + 1 => by
    rw [memAt_succ, memAt_memory i j t, hW, hE, hA, soft_padded]
    exact erase_eq (memory_re η s k v hs hk hK hMv t i j) (addr_re η (hs t) (hk t) hK i) (Re.logistic _)

include hW hE hA hM hs hk hK hMv in
/-- What a step reads: the masked rows weigh nothing. -/
theorem readAll_read (t : ℕ) (ht : t < 200) (j : Fin 128) : readAll W E A M0 (ix2 (rowOf t r) j)
    = read (addr η (s t) (k t)) (memory η s k v t) j := by
  rw [readAll_row W E A M0 t ht]
  refine (Fin.sum_univ_add (a := 50) (b := 14) _).trans ?_
  rw [Finset.sum_eq_zero (s := (Finset.univ : Finset (Fin 14))), add_zero]
  · refine Finset.sum_congr rfl fun i _ => ?_
    rw [hW, soft_padded, memAt_memory η s k v r hW hE hA hM hs hk hK hMv i j t]
    rfl
  · intro i _
    rw [hW, soft_masked 14 (by decide) (show ∀ i, Re (score (ques η (s t) (k t)) η.Mk i) from score_re (mix_re _ _ (hs t) (hk t)) hK), zero_mul]

end

/-- The body's result at a step of a batch row: the network's prediction for the skill one step on. -/
theorem outA_predict (r : Fin 32) (t : ℕ) (ht : t < 200) (n : Fin 200)
    (hn : x0 (ix3 0 ⟨(rowOf t r).val + 32, by omega⟩ 0) = BitVec.ofNat 32 n.val)
    (hs : ∀ t j, Re (studR x2 x3 (rowOf t r) j)) (hk : ∀ t j, Re (skilR x0 x4 (rowOf t r) j))
    (hK : ∀ i j, Re ((par x6 x7 x8 x9 x10 x11 x12 x13 x14 x15 x16 x17 x18 x19).Mk i j))
    (hMv : ∀ i j, Re ((par x6 x7 x8 x9 x10 x11 x12 x13 x14 x15 x16 x17 x18 x19).Mv i j)) :
    outA x0 x1 x2 x3 x4 x5 x6 x7 x8 x9 x10 x11 x12 x13 x14 x15 x16 x17 x18 x19 (ix3 0 (rowOf t r) 0)
      = predict (par x6 x7 x8 x9 x10 x11 x12 x13 x14 x15 x16 x17 x18 x19) (fun t => studR x2 x3 (rowOf t r))
          (fun t => skilR x0 x4 (rowOf t r)) (fun t => respR x0 x1 x5 (rowOf t r)) t n := by
  refine (out_row x0 x16 x17 x18 x19 _ _ (rowOf t r) n hn).trans ?_
  have hr : ∀ j, readA x0 x1 x2 x3 x4 x5 x6 x7 x8 x9 x10 x11 x12 x13 x14 x15 (ix2 (rowOf t r) j) = _ := fun j =>
    readAll_read (par x6 x7 x8 x9 x10 x11 x12 x13 x14 x15 x16 x17 x18 x19) (fun t => studR x2 x3 (rowOf t r))
      (fun t => skilR x0 x4 (rowOf t r)) (fun t => respR x0 x1 x5 (rowOf t r)) r
      (fun t i => addrA_row x0 x2 x3 x4 x6 x8 x9 (rowOf t r) i)
      (fun t j => eraseA_row x0 x1 x2 x3 x5 x10 x11 x12 x13 (rowOf t r) j)
      (fun t j => addA_row x0 x1 x2 x3 x5 x10 x11 x14 x15 (rowOf t r) j)
      (fun i j => start_row x7 r (i.castAdd 14) j)
      hs hk hK hMv t ht j
  rw [funext hr, funext fun j => quesA_row x0 x2 x3 x4 x8 x9 (rowOf t r) j]
  rfl
end

end Cert.KernelIdeal.Body

end
-- ==== Proof.KernelIdeal.Lookups.lean ====
module

public import proofs.«01_k».proof.Proof.KernelIdeal.Rows

/-! # The lookups of the third body

A row of ones and zeros times a table is the row of the table that it marks. -/

@[expose] public section

noncomputable section

namespace Cert.KernelIdeal.Body

open Idealize.ShloMosaic Idealize.ShloMosaic.TcCoe Idealize.SL.Sem
open Cert.KernelIdeal Cert.KernelIdeal.Gen Cert.Model

/-- Half a chunk of students: the rows they name. -/
theorem pickStud_row (ix : IVec S400x1 32) (tab : Vec Ideal S4000x128 .f32) (r : Fin 400) (j : Fin 128) (n : Fin 4000)
    (h : ix (ix2 r 0) = BitVec.ofNat 32 n.val) : pickStud ix tab (ix2 r j) = tab (ix2 n j) := by
  pointwise [pickStud]
  rw [h]
  exact pick (fun i => tab (ix2 i j)) n (by decide)

/-- A student's embedding: the row before the one it counts. -/
theorem studR_row (x2 : Vec Ideal S1x6400x1 .i32) (x3 : Vec Ideal S4000x128 .f32) (ρ : Fin 6400) (n : Fin 4000)
    (h : x2 (ix3 0 ρ 0) - 1#32 = BitVec.ofNat 32 n.val) : studR x2 x3 ρ = fun j => x3 (ix2 n j) := by
  funext j
  have hρ : ∀ hh, (⟨800 * (chunkOf ρ).val + (placeOf ρ).val, hh⟩ : Fin 6400) = ρ :=
    fun _ => Fin.ext (by show 800 * (ρ.val / 800) + ρ.val % 800 = ρ.val; omega)
  pointwise [studR, stud, studC, studIx]
  have hx : x2 (ix3 0 ⟨800 * (chunkOf ρ).val + (placeOf ρ).val, by
      show 800 * (ρ.val / 800) + ρ.val % 800 < 6400; omega⟩ 0) - 1#32 = BitVec.ofNat 32 n.val := by rw [hρ, h]
  split
  · refine (pickStud_row _ _ _ j n ?_).trans (by pointwise)
    pointwise
    exact hx
  · rename_i hlt
    have hlt' : ¬ ρ.val % 800 < 400 := hlt
    refine (pickStud_row _ _ _ j n ?_).trans (by pointwise)
    pointwise
    refine Eq.trans ?_ hx
    congr 3
    exact Fin.ext (by show 800 * (ρ.val / 800) + (400 + (ρ.val % 800 - 400)) = 800 * (ρ.val / 800) + ρ.val % 800; omega)

/-- A skill's embedding. -/
theorem skilR_row (x0 : Vec Ideal S1x6432x1 .i32) (x4 : Vec Ideal S208x128 .f32) (ρ : Fin 6400) (n : Fin 208)
    (h : x0 (ix3 0 ⟨ρ.val, by omega⟩ 0) = BitVec.ofNat 32 n.val) : skilR x0 x4 ρ = fun j => x4 (ix2 n j) := by
  funext j
  have hρ : ∀ hh, (⟨800 * (chunkOf ρ).val + (placeOf ρ).val, hh⟩ : Fin 6432) = ⟨ρ.val, by omega⟩ :=
    fun _ => Fin.ext (by show 800 * (ρ.val / 800) + ρ.val % 800 = ρ.val; omega)
  pointwise [skilR, skil, skillC]
  rw [hρ, h]
  exact pick (fun i => x4 (ix2 i j)) n (by decide)

/-- A response's embedding. -/
theorem respR_row (x0 : Vec Ideal S1x6432x1 .i32) (x1 : Vec Ideal S1x6400x1 .i32) (x5 : Vec Ideal S408x128 .f32)
    (ρ : Fin 6400) (n : Fin 408)
    (h : x0 (ix3 0 ⟨ρ.val, by omega⟩ 0) + 200#32 * Scalar.select (IntOp.cmpi .eq (x1 (ix3 0 ρ 0)) 2#32) 1#32 (x1 (ix3 0 ρ 0))
      = BitVec.ofNat 32 n.val) : respR x0 x1 x5 ρ = fun j => x5 (ix2 n j) := by
  funext j
  have hρ : ∀ hh, (⟨800 * (chunkOf ρ).val + (placeOf ρ).val, hh⟩ : Fin 6432) = ⟨ρ.val, by omega⟩ :=
    fun _ => Fin.ext (by show 800 * (ρ.val / 800) + ρ.val % 800 = ρ.val; omega)
  have hρ' : ∀ hh, (⟨800 * (chunkOf ρ).val + (placeOf ρ).val, hh⟩ : Fin 6400) = ρ :=
    fun _ => Fin.ext (by show 800 * (ρ.val / 800) + ρ.val % 800 = ρ.val; omega)
  pointwise [respR, resp, respC, respIx]
  rw [hρ, hρ']
  refine Eq.trans (Finset.sum_congr rfl fun i _ => ?_) (pick (fun i => x5 (ix2 i j)) n (by decide))
  rw [← h]
  rfl

end Cert.KernelIdeal.Body

end
-- ==== Proof.KernelIdeal.Values.lean ====
module

public import proofs.«01_k».proof.Proof.KernelIdeal.Run
public import proofs.«01_k».proof.Proof.KernelIdeal.Lookups
public import Idealize.ShloMosaic.Lib.Pipeline.ValueKit
public import Idealize.ShloMosaic.Lib.Pointwise

/-! # What the regions leave, element by element -/

@[expose] public section

set_option maxRecDepth 16384

noncomputable section

namespace Cert.KernelIdeal.Body

open Idealize.ShloMosaic Idealize.ShloMosaic.TcCoe Idealize.SL.Sem
open Idealize.ShloMosaic.Pipeline (Dat)
open Cert.KernelIdeal Cert.KernelIdeal.Gen Cert.Model

/-- A graph layer: the graph times the features' linear layer. -/
def conv (G : Vec Ideal S4000x4000 .f32) (x : Vec Ideal S4000x128 .f32) (w : Vec Ideal S128x128 .f32)
    (b : Vec Ideal S1x128 .f32) (i : Fin 4000) (j : Fin 128) : EReal :=
  ∑ k : Fin 4000, G (ix2 i k) * lin (fun l => x (ix2 k l)) (fun l j => w (ix2 l j)) (fun j => b (ix2 0 j)) j

/-- A block of the first layer, entry by entry, -/
theorem layer0_at (x0 : Vec Ideal S400x4000 .f32) (x1 : Vec Ideal S4000x128 .f32) (x2 : Vec Ideal S128x128 .f32)
    (x3 : Vec Ideal S1x128 .f32) (r : Fin 400) (j : Fin 128) : layer0 x0 x1 x2 x3 (ix2 r j)
      = max (∑ k : Fin 4000, x0 (ix2 r k) * lin (fun l => x1 (ix2 k l)) (fun l j => x2 (ix2 l j)) (fun j => x3 (ix2 0 j)) j) 0 := by
  unfold layer0 lin
  frame_out
  pointwise [k0_pay1]

/-- and of the second. -/
theorem layer1_at (x0 : Vec Ideal S400x4000 .f32) (x1 : Vec Ideal S4000x128 .f32) (x2 : Vec Ideal S128x128 .f32)
    (x3 : Vec Ideal S1x128 .f32) (r : Fin 400) (j : Fin 128) : layer1 x0 x1 x2 x3 (ix2 r j)
      = ∑ k : Fin 4000, x0 (ix2 r k) * lin (fun l => x1 (ix2 k l)) (fun l j => x2 (ix2 l j)) (fun j => x3 (ix2 0 j)) j := by
  unfold layer1 lin
  frame_out
  pointwise [k1_pay1]

/-- A block of the first layer holds the layer's rows, where its rows of the graph matrix are the matrix's, -/
theorem layer0_conv (g : Vec Ideal S400x4000 .f32) (G : Vec Ideal S4000x4000 .f32) (x : Vec Ideal S4000x128 .f32)
    (w : Vec Ideal S128x128 .f32) (b : Vec Ideal S1x128 .f32) (r : Fin 400) (j : Fin 128) (i : Fin 4000)
    (h : ∀ k, g (ix2 r k) = G (ix2 i k)) : layer0 g x w b (ix2 r j) = max (conv G x w b i j) 0 := by
  rw [layer0_at]
  unfold conv
  simp only [h]

/-- and so does a block of the second. -/
theorem layer1_conv (g : Vec Ideal S400x4000 .f32) (G : Vec Ideal S4000x4000 .f32) (x : Vec Ideal S4000x128 .f32)
    (w : Vec Ideal S128x128 .f32) (b : Vec Ideal S1x128 .f32) (r : Fin 400) (j : Fin 128) (i : Fin 4000)
    (h : ∀ k, g (ix2 r k) = G (ix2 i k)) : layer1 g x w b (ix2 r j) = conv G x w b i j := by
  rw [layer1_at]
  unfold conv
  simp only [h]

/-- Which block each window of the first layer shows at each point of the grid. -/
theorem idx0 : ∀ t : Fin cfg0.N, win0_0.index t = ![t.val, 0] ∧ win0_1.index t = ![0, 0] ∧ win0_2.index t = ![0, 0]
    ∧ win0_3.index t = ![0, 0] ∧ win0_4.index t = ![t.val, 0] := (by decide +kernel : ∀ t : Fin grid0.N, _)

/-- Which block each window of the second layer shows at each point of the grid. -/
theorem idx1 : ∀ t : Fin cfg1.N, win1_0.index t = ![t.val, 0] ∧ win1_1.index t = ![0, 0] ∧ win1_2.index t = ![0, 0]
    ∧ win1_3.index t = ![0, 0] ∧ win1_4.index t = ![t.val, 0] := (by decide +kernel : ∀ t : Fin grid1.N, _)

section
variable (V : (c : Dev nD) → (b : Ref sig .tc) → Buf (Elt Ideal) ((c : Thread nD τ).loc b))

/-- Window 1 of the first graph layer shows the whole array, the features. -/
theorem blk0_1 (c : Dev nD) (t : Fin cfg0.N) : blk0 V c 1 t = V c main_arg4 := by blk_ext! [blk0, idx0 t]
/-- Window 2 of the first graph layer shows the whole array, the weights. -/
theorem blk0_2 (c : Dev nD) (t : Fin cfg0.N) : blk0 V c 2 t = V c main_arg5 := by blk_ext! [blk0, idx0 t]
/-- Window 3 of the first graph layer shows the whole array, the bias. -/
theorem blk0_3 (c : Dev nD) (t : Fin cfg0.N) : blk0 V c 3 t = V c main_v0 := by blk_ext! [blk0, idx0 t]

/-- Layer 1: its result array. -/
theorem final0 (c : Dev nD) : (dat0 V c).arrAt 4 cfg0.N
    = fun i : S4000x128.Idx => max (conv (V c main_arg3) (V c main_arg4) (V c main_arg5) (V c main_v0) (i 0) (i 1)) 0 := by
  refine (dat0 V c).arrAt_eq_of_covers 4 _ (by decide +kernel) fun t _ y => ?_
  have h1 : ∀ (y0 : Fin 400) (y1 : Fin 128), (((cfg0.win 4).blk t).view.emb (ix2 y0 y1 : S400x128.Idx)) 1 = y1 := by
    intro y0 y1
    refine Fin.ext ?_
    blk_simp [idx0 t]
  blk_simp
  rw [after0_4]
  idx_vars y
  rw [blk0_1, blk0_2, blk0_3, h1]
  refine layer0_conv _ _ _ _ _ _ _ _ fun k => ?_
  blk_ext [blk0, idx0 t]

/-- Window 1 of the second graph layer shows the whole array, the features. -/
theorem blk1_1 (c : Dev nD) (t : Fin cfg1.N) : blk1 V c 1 t = V c main_v1 := by blk_ext! [blk1, idx1 t]
/-- Window 2 of the second graph layer shows the whole array, the weights. -/
theorem blk1_2 (c : Dev nD) (t : Fin cfg1.N) : blk1 V c 2 t = V c main_arg7 := by blk_ext! [blk1, idx1 t]
/-- Window 3 of the second graph layer shows the whole array, the bias. -/
theorem blk1_3 (c : Dev nD) (t : Fin cfg1.N) : blk1 V c 3 t = V c main_v2 := by blk_ext! [blk1, idx1 t]

/-- Layer 2: its result array. -/
theorem final1 (c : Dev nD) : (dat1 V c).arrAt 4 cfg1.N
    = fun i : S4000x128.Idx => conv (V c main_arg3) (V c main_v1) (V c main_arg7) (V c main_v2) (i 0) (i 1) := by
  refine (dat1 V c).arrAt_eq_of_covers 4 _ (by decide +kernel) fun t _ y => ?_
  have h1 : ∀ (y0 : Fin 400) (y1 : Fin 128), (((cfg1.win 4).blk t).view.emb (ix2 y0 y1 : S400x128.Idx)) 1 = y1 := by
    intro y0 y1
    refine Fin.ext ?_
    blk_simp [idx1 t]
  blk_simp
  rw [after1_4]
  idx_vars y
  rw [blk1_1, blk1_2, blk1_3, h1]
  refine layer1_conv _ _ _ _ _ _ _ _ fun k => ?_
  blk_ext [blk1, idx1 t]

/-! ## The third region -/

/-- Which block each window of the main call shows at each point of the grid. -/
theorem idx2 : ∀ t : Fin cfg2.N, win2_0.index t = ![t.val, 0, 0] ∧ win2_1.index t = ![t.val, 0, 0]
    ∧ win2_2.index t = ![t.val, 0, 0] ∧ win2_3.index t = ![0, 0] ∧ win2_4.index t = ![0, 0]
    ∧ win2_5.index t = ![0, 0] ∧ win2_6.index t = ![0, 0] ∧ win2_7.index t = ![0, 0] ∧ win2_8.index t = ![0, 0]
    ∧ win2_9.index t = ![0, 0] ∧ win2_10.index t = ![0, 0] ∧ win2_11.index t = ![0, 0] ∧ win2_12.index t = ![0, 0]
    ∧ win2_13.index t = ![0, 0] ∧ win2_14.index t = ![0, 0] ∧ win2_15.index t = ![0, 0] ∧ win2_16.index t = ![0, 0]
    ∧ win2_17.index t = ![0, 0] ∧ win2_18.index t = ![0, 0] ∧ win2_19.index t = ![0, 0]
    ∧ win2_20.index t = ![t.val, 0, 0] := (by decide +kernel : ∀ t : Fin grid2.N, _)

/-- Half of an array, by its leading index. -/
def half {n : ℕ} {e : EltTy} (X : Vec Ideal (⟨3, ![2, n, 1]⟩ : Shape) e) (p : Fin 2) : Vec Ideal (⟨3, ![1, n, 1]⟩ : Shape) e :=
  fun y => X (ix3 p (y 1) (y 2))

/-- The main call's grid has two points. -/
theorem lt2 (t : Fin cfg2.N) : t.val < 2 := t.isLt.trans_le (le_of_eq (by decide))

/-- Window 0 of the main call shows one half of the skills' numbers. -/
theorem blk2_0 (c : Dev nD) (t : Fin cfg2.N) : blk2 V c 0 t = half (n := 6432) (V c main_v8) ⟨t.val, lt2 t⟩ := by
  unfold half
  blk_ext! [blk2, idx2 t]
/-- Window 1 of the main call shows one half of the answers. -/
theorem blk2_1 (c : Dev nD) (t : Fin cfg2.N) : blk2 V c 1 t = half (n := 6400) (V c main_v13) ⟨t.val, lt2 t⟩ := by
  unfold half
  blk_ext! [blk2, idx2 t]
/-- Window 2 of the main call shows one half of the students' numbers. -/
theorem blk2_2 (c : Dev nD) (t : Fin cfg2.N) : blk2 V c 2 t = half (n := 6400) (V c main_v18) ⟨t.val, lt2 t⟩ := by
  unfold half
  blk_ext! [blk2, idx2 t]
/-- Window 3 of the main call shows the whole array, the students' embeddings. -/
theorem blk2_3 (c : Dev nD) (t : Fin cfg2.N) : blk2 V c 3 t = V c main_v3 := by blk_ext! [blk2, idx2 t]
/-- Window 4 of the main call shows the whole array, the skills' table. -/
theorem blk2_4 (c : Dev nD) (t : Fin cfg2.N) : blk2 V c 4 t = V c main_v19 := by blk_ext! [blk2, idx2 t]
/-- Window 5 of the main call shows the whole array, the responses' table. -/
theorem blk2_5 (c : Dev nD) (t : Fin cfg2.N) : blk2 V c 5 t = V c main_v20 := by blk_ext! [blk2, idx2 t]
/-- Window 6 of the main call shows the whole array, the transposed keys. -/
theorem blk2_6 (c : Dev nD) (t : Fin cfg2.N) : blk2 V c 6 t = V c main_v22 := by blk_ext! [blk2, idx2 t]
/-- Window 7 of the main call shows the whole array, the memory's start. -/
theorem blk2_7 (c : Dev nD) (t : Fin cfg2.N) : blk2 V c 7 t = V c main_v23 := by blk_ext! [blk2, idx2 t]
/-- Window 8 of the main call shows the whole array, the question gate's weights. -/
theorem blk2_8 (c : Dev nD) (t : Fin cfg2.N) : blk2 V c 8 t = V c main_arg13 := by blk_ext! [blk2, idx2 t]
/-- Window 9 of the main call shows the whole array, the question gate's bias. -/
theorem blk2_9 (c : Dev nD) (t : Fin cfg2.N) : blk2 V c 9 t = V c main_v24 := by blk_ext! [blk2, idx2 t]
/-- Window 10 of the main call shows the whole array, the response gate's weights. -/
theorem blk2_10 (c : Dev nD) (t : Fin cfg2.N) : blk2 V c 10 t = V c main_arg15 := by blk_ext! [blk2, idx2 t]
/-- Window 11 of the main call shows the whole array, the response gate's bias. -/
theorem blk2_11 (c : Dev nD) (t : Fin cfg2.N) : blk2 V c 11 t = V c main_v25 := by blk_ext! [blk2, idx2 t]
/-- Window 12 of the main call shows the whole array, the erase weights. -/
theorem blk2_12 (c : Dev nD) (t : Fin cfg2.N) : blk2 V c 12 t = V c main_arg17 := by blk_ext! [blk2, idx2 t]
/-- Window 13 of the main call shows the whole array, the erase bias. -/
theorem blk2_13 (c : Dev nD) (t : Fin cfg2.N) : blk2 V c 13 t = V c main_v26 := by blk_ext! [blk2, idx2 t]
/-- Window 14 of the main call shows the whole array, the add weights. -/
theorem blk2_14 (c : Dev nD) (t : Fin cfg2.N) : blk2 V c 14 t = V c main_arg19 := by blk_ext! [blk2, idx2 t]
/-- Window 15 of the main call shows the whole array, the add bias. -/
theorem blk2_15 (c : Dev nD) (t : Fin cfg2.N) : blk2 V c 15 t = V c main_v27 := by blk_ext! [blk2, idx2 t]
/-- Window 16 of the main call shows the whole array, the read-out weights. -/
theorem blk2_16 (c : Dev nD) (t : Fin cfg2.N) : blk2 V c 16 t = V c main_arg21 := by blk_ext! [blk2, idx2 t]
/-- Window 17 of the main call shows the whole array, the read-out bias. -/
theorem blk2_17 (c : Dev nD) (t : Fin cfg2.N) : blk2 V c 17 t = V c main_v28 := by blk_ext! [blk2, idx2 t]
/-- Window 18 of the main call shows the whole array, the prediction weights. -/
theorem blk2_18 (c : Dev nD) (t : Fin cfg2.N) : blk2 V c 18 t = V c main_arg23 := by blk_ext! [blk2, idx2 t]
/-- Window 19 of the main call shows the whole array, the prediction bias. -/
theorem blk2_19 (c : Dev nD) (t : Fin cfg2.N) : blk2 V c 19 t = V c main_v29 := by blk_ext! [blk2, idx2 t]

/-- What the main call leaves in its result's window, from the arrays it reads. -/
theorem after2_out (c : Dev nD) (t : Fin cfg2.N) : (dat2 V c).after 20 t
    = outA (half (n := 6432) (V c main_v8) ⟨t.val, lt2 t⟩) (half (n := 6400) (V c main_v13) ⟨t.val, lt2 t⟩)
        (half (n := 6400) (V c main_v18) ⟨t.val, lt2 t⟩) (V c main_v3) (V c main_v19) (V c main_v20) (V c main_v22) (V c main_v23) (V c main_arg13) (V c main_v24) (V c main_arg15) (V c main_v25) (V c main_arg17) (V c main_v26) (V c main_arg19) (V c main_v27) (V c main_arg21) (V c main_v28) (V c main_arg23) (V c main_v29) := by
  refine (after2_20 V c t).trans ?_
  congr 1
  · exact blk2_0 V c t
  · exact blk2_1 V c t
  · exact blk2_2 V c t
  · exact blk2_3 V c t
  · exact blk2_4 V c t
  · exact blk2_5 V c t
  · exact blk2_6 V c t
  · exact blk2_7 V c t
  · exact blk2_8 V c t
  · exact blk2_9 V c t
  · exact blk2_10 V c t
  · exact blk2_11 V c t
  · exact blk2_12 V c t
  · exact blk2_13 V c t
  · exact blk2_14 V c t
  · exact blk2_15 V c t
  · exact blk2_16 V c t
  · exact blk2_17 V c t
  · exact blk2_18 V c t
  · exact blk2_19 V c t

/-- The third region's result array: the body's, half by half. -/
def out2 (c : Dev nD) : Vec Ideal S2x6400x1 .f32 := fun i =>
  outA (half (n := 6432) (V c main_v8) (i 0)) (half (n := 6400) (V c main_v13) (i 0)) (half (n := 6400) (V c main_v18) (i 0))
    (V c main_v3) (V c main_v19) (V c main_v20) (V c main_v22) (V c main_v23) (V c main_arg13) (V c main_v24) (V c main_arg15) (V c main_v25) (V c main_arg17) (V c main_v26) (V c main_arg19) (V c main_v27) (V c main_arg21) (V c main_v28) (V c main_arg23) (V c main_v29) (ix3 0 (i 1) 0)

/-- The same, entry by entry. -/
theorem after2_at (c : Dev nD) (t : Fin cfg2.N) (y : Fin 6400) :
    (dat2 V c).after 20 t (ix3 0 y 0 : S1x6400x1.Idx) = out2 V c (ix3 ⟨t.val, lt2 t⟩ y 0) := by
  rw [after2_out]
  rfl

/-- After the main call its result's array holds both halves' predictions. -/
theorem final2 (c : Dev nD) : (dat2 V c).arrAt 20 cfg2.N = out2 V c := by
  refine (dat2 V c).arrAt_eq_of_covers 20 _ (by decide +kernel) fun t _ y => ?_
  blk_simp
  idx_vars y
  obtain rfl := Fin.fin_one_eq_zero y0
  obtain rfl := Fin.fin_one_eq_zero y2
  refine (after2_at V c t y1).trans ?_
  blk_ext [idx2 t]
end

end Cert.KernelIdeal.Body

end
-- ==== Proof.Model.Whole.lean ====
module

public import proofs.«01_k».proof.Proof.Model.Net

/-! # The whole model, as functions of numbers

The students' embeddings by two graph layers, every step's embeddings looked up, and the prediction of every step but
the last for the skill one step on. -/

@[expose] public section

noncomputable section

namespace Cert.Model

open Idealize.ShloMosaic

/-- The inputs. -/
structure Inp where
  /-- the student at a place and a step, counted from one -/
  stud : Fin 64 → Fin 200 → BitVec 32
  /-- the skill there -/
  skill : Fin 64 → Fin 200 → BitVec 32
  /-- and the answer -/
  ans : Fin 64 → Fin 200 → BitVec 32
  /-- the graph -/
  G : Fin 4000 → Fin 4000 → EReal
  /-- the students' features -/
  table : Fin 4000 → Row
  /-- the first graph layer's weights -/
  W1 : Fin 128 → Row
  /-- and bias -/
  b1 : Row
  /-- the second's weights -/
  W2 : Fin 128 → Row
  /-- and bias -/
  b2 : Row
  /-- the skills' embeddings -/
  kE : Fin 201 → Row
  /-- the responses' embeddings -/
  vE : Fin 401 → Row
  /-- the network's parameters -/
  θ : Par

/-- A graph layer. -/
def graph (G : Fin 4000 → Fin 4000 → EReal) (x : Fin 4000 → Row) (W : Fin 128 → Row) (b : Row) (i : Fin 4000) : Row :=
  fun j => ∑ k, G i k * lin (x k) W b j

/-- A row of a table named by a word; nothing outside the table. -/
def rowAt {N : ℕ} (T : Fin N → Row) (w : BitVec 32) : Row := if h : w.toNat < N then T ⟨w.toNat, h⟩ else fun _ => 0

/-- The step a number counts, round and round. -/
def stepOf (t : ℕ) : Fin 200 := ⟨t % 200, Nat.mod_lt _ (by decide)⟩

/-- The response's number: the skill, plus 200 where the answer counts as right. -/
def respNo (sk an : BitVec 32) : BitVec 32 := sk + 200#32 * (if an = 2#32 then 1#32 else an)

variable (x : Inp)

/-- The students' embeddings after the first graph layer -/
def emb1 : Fin 4000 → Row := fun i j => max (graph x.G x.table x.W1 x.b1 i j) 0
/-- and after the second. -/
def emb : Fin 4000 → Row := graph x.G (emb1 x) x.W2 x.b2

/-- The student's embedding at a step, -/
def sAt (b : Fin 64) (t : ℕ) : Row := rowAt (emb x) (x.stud b (stepOf t) - 1#32)
/-- the skill's -/
def kAt (b : Fin 64) (t : ℕ) : Row := rowAt x.kE (x.skill b (stepOf t))
/-- and the response's. -/
def vAt (b : Fin 64) (t : ℕ) : Row := rowAt x.vE (respNo (x.skill b (stepOf t)) (x.ans b (stepOf t)))

/-- The skill one step on. -/
def nextSkill (b : Fin 64) (t : Fin 199) : Fin 200 :=
  ⟨(x.skill b ⟨t.val + 1, by omega⟩).toNat % 200, Nat.mod_lt _ (by decide)⟩

/-- The model's result. -/
def result (b : Fin 64) (t : Fin 199) : EReal :=
  predict x.θ (sAt x b) (kAt x b) (vAt x b) t.val (nextSkill x b t)

/-- The integers are in range and what decides the addressing and the memory's start is finite. -/
structure Valid : Prop where
  stud : ∀ b t, (x.stud b t - 1#32).toNat < 4000
  skill : ∀ b t, (x.skill b t).toNat < 200
  resp : ∀ b t, (respNo (x.skill b t) (x.ans b t)).toNat < 401
  G : ∀ i j, Re (x.G i j)
  table : ∀ i j, Re (x.table i j)
  W1 : ∀ i j, Re (x.W1 i j)
  b1 : ∀ j, Re (x.b1 j)
  W2 : ∀ i j, Re (x.W2 i j)
  b2 : ∀ j, Re (x.b2 j)
  kE : ∀ i j, Re (x.kE i j)
  Mk : ∀ i j, Re (x.θ.Mk i j)
  Mv : ∀ i j, Re (x.θ.Mv i j)

/-- A graph layer of finite entries is finite. -/
theorem graph_re {G : Fin 4000 → Fin 4000 → EReal} {f : Fin 4000 → Row} {W : Fin 128 → Row} {b : Row}
    (hG : ∀ i j, Re (G i j)) (hf : ∀ i j, Re (f i j)) (hW : ∀ i j, Re (W i j)) (hb : ∀ j, Re (b j)) (i : Fin 4000)
    (j : Fin 128) : Re (graph G f W b i j) :=
  Re.sum _ fun k => (hG i k).mul ((Re.sum _ fun l => (hf k l).mul (hW l j)).add (hb j))

variable {x}

/-- The students' embeddings are finite. -/
theorem emb_re (h : Valid x) (i : Fin 4000) (j : Fin 128) : Re (emb x i j) :=
  graph_re h.G (fun i j => (graph_re h.G h.table h.W1 h.b1 i j).max Re.zero) h.W2 h.b2 i j

/-- A row looked up in a finite table is finite. -/
theorem rowAt_re {N : ℕ} {T : Fin N → Row} (h : ∀ i j, Re (T i j)) (w : BitVec 32) (j : Fin 128) : Re (rowAt T w j) := by
  unfold rowAt
  split
  · exact h _ _
  · exact Re.zero

/-- A number inside the table looks up its row. -/
theorem rowAt_of {N : ℕ} (T : Fin N → Row) {w : BitVec 32} (h : w.toNat < N) : rowAt T w = T ⟨w.toNat, h⟩ := dif_pos h

/-- The student's embedding at a step is finite, -/
theorem sAt_re (h : Valid x) (b : Fin 64) (t : ℕ) (j : Fin 128) : Re (sAt x b t j) := rowAt_re (emb_re h) _ j
/-- and so is the skill's. -/
theorem kAt_re (h : Valid x) (b : Fin 64) (t : ℕ) (j : Fin 128) : Re (kAt x b t j) := rowAt_re h.kE _ j

/-- The inputs as arrays hold them. -/
def inpOf (a0 a1 a2 : Vec Ideal (⟨2, ![64, 200]⟩ : Shape) .i32) (a3 : Vec Ideal (⟨2, ![4000, 4000]⟩ : Shape) .f32)
    (a4 : Vec Ideal (⟨2, ![4000, 128]⟩ : Shape) .f32) (a5 : Vec Ideal (⟨2, ![128, 128]⟩ : Shape) .f32)
    (a6 : Vec Ideal (⟨1, ![128]⟩ : Shape) .f32) (a7 : Vec Ideal (⟨2, ![128, 128]⟩ : Shape) .f32)
    (a8 : Vec Ideal (⟨1, ![128]⟩ : Shape) .f32) (a9 : Vec Ideal (⟨2, ![201, 128]⟩ : Shape) .f32)
    (a10 : Vec Ideal (⟨2, ![401, 128]⟩ : Shape) .f32) (a11 a12 : Vec Ideal (⟨2, ![50, 128]⟩ : Shape) .f32)
    (a13 : Vec Ideal (⟨2, ![256, 1]⟩ : Shape) .f32) (a14 : Vec Ideal (⟨1, ![1]⟩ : Shape) .f32)
    (a15 : Vec Ideal (⟨2, ![256, 1]⟩ : Shape) .f32) (a16 : Vec Ideal (⟨1, ![1]⟩ : Shape) .f32)
    (a17 : Vec Ideal (⟨2, ![128, 128]⟩ : Shape) .f32) (a18 : Vec Ideal (⟨1, ![128]⟩ : Shape) .f32)
    (a19 : Vec Ideal (⟨2, ![128, 128]⟩ : Shape) .f32) (a20 : Vec Ideal (⟨1, ![128]⟩ : Shape) .f32)
    (a21 : Vec Ideal (⟨2, ![256, 128]⟩ : Shape) .f32) (a22 : Vec Ideal (⟨1, ![128]⟩ : Shape) .f32)
    (a23 : Vec Ideal (⟨2, ![128, 200]⟩ : Shape) .f32) (a24 : Vec Ideal (⟨1, ![200]⟩ : Shape) .f32) : Inp where
  stud b t := a0 (ix2 b t)
  skill b t := a1 (ix2 b t)
  ans b t := a2 (ix2 b t)
  G i j := a3 (ix2 i j)
  table i j := a4 (ix2 i j)
  W1 i j := a5 (ix2 i j)
  b1 j := a6 (ix1 j)
  W2 i j := a7 (ix2 i j)
  b2 j := a8 (ix1 j)
  kE i j := a9 (ix2 i j)
  vE i j := a10 (ix2 i j)
  θ :=
    { Wgk := fun i => a13 (ix2 i 0)
      bgk := a14 (ix1 0)
      Wgv := fun i => a15 (ix2 i 0)
      bgv := a16 (ix1 0)
      Mk := fun i j => a11 (ix2 i j)
      Mv := fun i j => a12 (ix2 i j)
      We := fun i j => a17 (ix2 i j)
      be := fun j => a18 (ix1 j)
      Wa := fun i j => a19 (ix2 i j)
      ba := fun j => a20 (ix1 j)
      Wf := fun i j => a21 (ix2 i j)
      bf := fun j => a22 (ix1 j)
      Wp := fun j n => a23 (ix2 j n)
      bp := fun n => a24 (ix1 n) }

end Cert.Model

end
-- ==== Proof.KernelIdeal.Host.lean ====
module

public import proofs.«01_k».proof.Proof.KernelIdeal.Values
public import proofs.«01_k».proof.Proof.Model.Whole
public import Idealize.ShloMosaic.Lib.StableHlo.ReadAt

/-! # The kernel's result is the model's

What the host operations hand the third region, element by element, and the result they make of what it leaves. -/

@[expose] public section

set_option maxRecDepth 16384

noncomputable section

namespace Cert.KernelIdeal.Body

open Idealize.ShloMosaic Idealize.ShloMosaic.TcCoe Idealize.SL.Sem
open Cert.KernelIdeal Cert.KernelIdeal.Gen Cert.Model

variable (m : (ℓ : Loc nD τ sig) → Buf (Elt Ideal) ℓ) (c : Dev nD)

/-- The inputs as the launch finds them. -/
def inp : Inp :=
  inpOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24))

/-- The valuation the third region is entered with. -/
abbrev Vin : Valuation τ sig (Elt Ideal) := V19 m (outs m) c

/-- What no operation before a region writes is as at the launch. -/
theorem at4 (b : Ref sig .tc) (h4 : b ∉ ([main_v3] : List (Ref sig .tc))) (h3 : b ∉ hostOps1_W)
    (h2 : b ∉ ([main_v1] : List (Ref sig .tc))) (h1 : b ∉ hostOps0_W) : V4 m (outs m) c b = m ((c : Thread nD τ).loc b) :=
  (V4_of m (outs m) c b h4).trans ((V3_of m (outs m) c b h3).trans ((V2_of m (outs m) c b h2).trans (V1_of m c b h1)))

/-- The main call's skills: row `ρ` of half `p` is student `32 p + ρ mod 32` at step `ρ / 32`. -/
theorem in_main_v8 (p : Fin 2) (ρ : Fin 6432) (h : ρ.val < 6400) : Vin m c main_v8 (ix3 p ρ 0)
    = m ((c : Thread nD τ).loc main_arg1) (ix2 ⟨p.val * 32 + ρ.val % 32, by omega⟩ ⟨ρ.val / 32, by omega⟩) := by
  rw [← at4 m c main_arg1 (by decide) (by decide) (by decide) (by decide)]
  unfold Vin V19 V18 V17 V16 V15 V14 V13 V12 V11 V10 V9 V8 V7 V6 V5
  after_reads_at
  rw [dif_pos h]

/-- The answers, in the same order, -/
theorem in_main_v13 (p : Fin 2) (ρ : Fin 6400) : Vin m c main_v13 (ix3 p ρ 0)
    = m ((c : Thread nD τ).loc main_arg2) (ix2 ⟨p.val * 32 + ρ.val % 32, by omega⟩ ⟨ρ.val / 32, by omega⟩) := by
  rw [← at4 m c main_arg2 (by decide) (by decide) (by decide) (by decide)]
  unfold Vin V19 V18 V17 V16 V15 V14 V13 V12 V11 V10 V9 V8 V7 V6 V5
  after_reads_at

/-- and the students' numbers. -/
theorem in_main_v18 (p : Fin 2) (ρ : Fin 6400) : Vin m c main_v18 (ix3 p ρ 0)
    = m ((c : Thread nD τ).loc main_arg0) (ix2 ⟨p.val * 32 + ρ.val % 32, by omega⟩ ⟨ρ.val / 32, by omega⟩) := by
  rw [← at4 m c main_arg0 (by decide) (by decide) (by decide) (by decide)]
  unfold Vin V19 V18 V17 V16 V15 V14 V13 V12 V11 V10 V9 V8 V7 V6 V5
  after_reads_at

/-- The skills' table, up to its padding, -/
theorem in_main_v19 (i : Fin 208) (j : Fin 128) (h : i.val < 201) : Vin m c main_v19 (ix2 i j)
    = m ((c : Thread nD τ).loc main_arg9) (ix2 ⟨i.val, h⟩ j) := by
  rw [← at4 m c main_arg9 (by decide) (by decide) (by decide) (by decide)]
  unfold Vin V19 V18 V17 V16 V15 V14 V13 V12 V11 V10 V9 V8 V7 V6 V5
  after_reads_at
  rw [dif_pos h]

/-- the responses' table, -/
theorem in_main_v20 (i : Fin 408) (j : Fin 128) (h : i.val < 401) : Vin m c main_v20 (ix2 i j)
    = m ((c : Thread nD τ).loc main_arg10) (ix2 ⟨i.val, h⟩ j) := by
  rw [← at4 m c main_arg10 (by decide) (by decide) (by decide) (by decide)]
  unfold Vin V19 V18 V17 V16 V15 V14 V13 V12 V11 V10 V9 V8 V7 V6 V5
  after_reads_at
  rw [dif_pos h]

/-- the memory's start -/
theorem in_main_v23 (i : Fin 64) (j : Fin 128) (h : i.val < 50) : Vin m c main_v23 (ix2 i j)
    = m ((c : Thread nD τ).loc main_arg12) (ix2 ⟨i.val, h⟩ j) := by
  rw [← at4 m c main_arg12 (by decide) (by decide) (by decide) (by decide)]
  unfold Vin V19 V18 V17 V16 V15 V14 V13 V12 V11 V10 V9 V8 V7 V6 V5
  after_reads_at
  rw [dif_pos h]

/-- and the keys, which come transposed. -/
theorem in_main_v22 (j : Fin 128) (i : Fin 64) (h : i.val < 50) : Vin m c main_v22 (ix2 j i)
    = m ((c : Thread nD τ).loc main_arg11) (ix2 ⟨i.val, h⟩ j) := by
  rw [← at4 m c main_arg11 (by decide) (by decide) (by decide) (by decide)]
  unfold Vin V19 V18 V17 V16 V15 V14 V13 V12 V11 V10 V9 V8 V7 V6 V5
  after_reads_at
  rw [dif_pos h]

/-- The question gate's bias, as a row, -/
theorem in_main_v24 (j : Fin 1) : Vin m c main_v24 (ix2 0 j) = m ((c : Thread nD τ).loc main_arg14) (ix1 j) := by
  obtain rfl := Fin.fin_one_eq_zero j
  rw [← at4 m c main_arg14 (by decide) (by decide) (by decide) (by decide)]
  unfold Vin V19 V18 V17 V16 V15 V14 V13 V12 V11 V10 V9 V8 V7 V6 V5
  after_reads_at

/-- the response gate's, -/
theorem in_main_v25 (j : Fin 1) : Vin m c main_v25 (ix2 0 j) = m ((c : Thread nD τ).loc main_arg16) (ix1 j) := by
  obtain rfl := Fin.fin_one_eq_zero j
  rw [← at4 m c main_arg16 (by decide) (by decide) (by decide) (by decide)]
  unfold Vin V19 V18 V17 V16 V15 V14 V13 V12 V11 V10 V9 V8 V7 V6 V5
  after_reads_at

/-- the erase bias, -/
theorem in_main_v26 (j : Fin 128) : Vin m c main_v26 (ix2 0 j) = m ((c : Thread nD τ).loc main_arg18) (ix1 j) := by
  rw [← at4 m c main_arg18 (by decide) (by decide) (by decide) (by decide)]
  unfold Vin V19 V18 V17 V16 V15 V14 V13 V12 V11 V10 V9 V8 V7 V6 V5
  after_reads_at

/-- the add bias, -/
theorem in_main_v27 (j : Fin 128) : Vin m c main_v27 (ix2 0 j) = m ((c : Thread nD τ).loc main_arg20) (ix1 j) := by
  rw [← at4 m c main_arg20 (by decide) (by decide) (by decide) (by decide)]
  unfold Vin V19 V18 V17 V16 V15 V14 V13 V12 V11 V10 V9 V8 V7 V6 V5
  after_reads_at

/-- the read-out bias -/
theorem in_main_v28 (j : Fin 128) : Vin m c main_v28 (ix2 0 j) = m ((c : Thread nD τ).loc main_arg22) (ix1 j) := by
  rw [← at4 m c main_arg22 (by decide) (by decide) (by decide) (by decide)]
  unfold Vin V19 V18 V17 V16 V15 V14 V13 V12 V11 V10 V9 V8 V7 V6 V5
  after_reads_at

/-- and the prediction bias. -/
theorem in_main_v29 (j : Fin 200) : Vin m c main_v29 (ix2 0 j) = m ((c : Thread nD τ).loc main_arg24) (ix1 j) := by
  rw [← at4 m c main_arg24 (by decide) (by decide) (by decide) (by decide)]
  unfold Vin V19 V18 V17 V16 V15 V14 V13 V12 V11 V10 V9 V8 V7 V6 V5
  after_reads_at

/-- What no operation between the second and the third region writes is as the second leaves it. -/
theorem at19 (b : Ref sig .tc) (h : b ∉ hostOps2_W ∧ b ∉ hostOps2_1_W ∧ b ∉ hostOps2_2_W ∧ b ∉ hostOps2_3_W ∧ b ∉ hostOps2_4_W ∧ b ∉ hostOps2_5_W ∧ b ∉ hostOps2_6_W ∧ b ∉ hostOps2_7_W ∧ b ∉ hostOps2_8_W ∧ b ∉ hostOps2_9_W ∧ b ∉ hostOps2_10_W ∧ b ∉ hostOps2_11_W ∧ b ∉ hostOps2_12_W ∧ b ∉ hostOps2_13_W ∧ b ∉ hostOps2_14_W) :
    Vin m c b = V4 m (outs m) c b := by
  obtain ⟨h5, h6, h7, h8, h9, h10, h11, h12, h13, h14, h15, h16, h17, h18, h19⟩ := h
  exact (V19_of m (outs m) c b h19).trans <| (V18_of m (outs m) c b h18).trans <| (V17_of m (outs m) c b h17).trans <| (V16_of m (outs m) c b h16).trans <| (V15_of m (outs m) c b h15).trans <| (V14_of m (outs m) c b h14).trans <| (V13_of m (outs m) c b h13).trans <| (V12_of m (outs m) c b h12).trans <| (V11_of m (outs m) c b h11).trans <| (V10_of m (outs m) c b h10).trans <| (V9_of m (outs m) c b h9).trans <| (V8_of m (outs m) c b h8).trans <| (V7_of m (outs m) c b h7).trans <| (V6_of m (outs m) c b h6).trans <| (V5_of m (outs m) c b h5)

/-- An argument that no host operation writes is handed to the main call as it was at the launch. -/
theorem in_arg (b : Ref sig .tc) (h : b ∉ hostOps2_W ∧ b ∉ hostOps2_1_W ∧ b ∉ hostOps2_2_W ∧ b ∉ hostOps2_3_W ∧ b ∉ hostOps2_4_W ∧ b ∉ hostOps2_5_W ∧ b ∉ hostOps2_6_W ∧ b ∉ hostOps2_7_W ∧ b ∉ hostOps2_8_W ∧ b ∉ hostOps2_9_W ∧ b ∉ hostOps2_10_W ∧ b ∉ hostOps2_11_W ∧ b ∉ hostOps2_12_W ∧ b ∉ hostOps2_13_W ∧ b ∉ hostOps2_14_W)
    (h4 : b ∉ ([main_v3] : List (Ref sig .tc))) (h3 : b ∉ hostOps1_W)
    (h2 : b ∉ ([main_v1] : List (Ref sig .tc))) (h1 : b ∉ hostOps0_W) : Vin m c b = m ((c : Thread nD τ).loc b) :=
  (at19 m c b h).trans (at4 m c b h4 h3 h2 h1)

/-! ## The students' embeddings -/

/-- A graph layer read from arrays is the model's, where the arrays hold the model's entries. -/
theorem conv_graph {G : Vec Ideal S4000x4000 .f32} {x : Vec Ideal S4000x128 .f32} {w : Vec Ideal S128x128 .f32}
    {b : Vec Ideal S1x128 .f32} {G' : Fin 4000 → Fin 4000 → EReal} {x' : Fin 4000 → Row} {w' : Fin 128 → Row} {b' : Row}
    (hG : ∀ i j, G (ix2 i j) = G' i j) (hx : ∀ i j, x (ix2 i j) = x' i j) (hw : ∀ i j, w (ix2 i j) = w' i j)
    (hb : ∀ j, b (ix2 0 j) = b' j) (i : Fin 4000) (j : Fin 128) : conv G x w b i j = graph G' x' w' b' i j := by
  obtain rfl : (fun i j => G (ix2 i j)) = G' := funext fun i => funext fun j => hG i j
  obtain rfl : (fun i j => x (ix2 i j)) = x' := funext fun i => funext fun j => hx i j
  obtain rfl : (fun i j => w (ix2 i j)) = w' := funext fun i => funext fun j => hw i j
  obtain rfl : (fun j => b (ix2 0 j)) = b' := funext hb
  rfl

/-- The first layer's bias, as a row. -/
theorem b1_at (j : Fin 128) : V1v m c main_v0 (ix2 0 j) = m ((c : Thread nD τ).loc main_arg6) (ix1 j) := by
  unfold V1v V1
  after_reads_at

/-- The second layer's bias, as a row. -/
theorem b2_at (j : Fin 128) : V3v m c main_v2 (ix2 0 j) = m ((c : Thread nD τ).loc main_arg8) (ix1 j) := by
  rw [← V3_eq]
  refine Eq.trans ?_ (congrFun ((V2_of m (outs m) c main_arg8 (by decide)).trans (V1_of m c main_arg8 (by decide))) (ix1 j))
  unfold V3
  after_reads_at

/-- What the first region leaves: the first graph layer. -/
theorem layer1_left (i : Fin 4000) (j : Fin 128) : V3v m c main_v1 (ix2 i j) = emb1 (inp m c) i j := by
  rw [← V3_eq, V3_of m (outs m) c main_v1 (by decide)]
  refine (congrFun (left0 m c 4) (ix2 i j)).symm.trans ((congrFun (final0 (V1r m) c) (ix2 i j)).trans ?_)
  show max (conv (V1v m c main_arg3) (V1v m c main_arg4) (V1v m c main_arg5) (V1v m c main_v0) i j) 0 = _
  refine congrArg (max · 0) (conv_graph (fun i j => ?_) (fun i j => ?_) (fun i j => ?_) (b1_at m c) i j)
  · exact congrFun (V1_of m c main_arg3 (by decide)) (ix2 i j)
  · exact congrFun (V1_of m c main_arg4 (by decide)) (ix2 i j)
  · exact congrFun (V1_of m c main_arg5 (by decide)) (ix2 i j)

/-- What is not written before the second call is as at the launch when that call is entered. -/
theorem at3 (b : Ref sig .tc) (h3 : b ∉ hostOps1_W) (h2 : b ∉ ([main_v1] : List (Ref sig .tc))) (h1 : b ∉ hostOps0_W) :
    V3v m c b = m ((c : Thread nD τ).loc b) :=
  (congrFun (V3_eq m c) _).symm.trans ((V3_of m (outs m) c b h3).trans ((V2_of m (outs m) c b h2).trans (V1_of m c b h1)))

/-- What the second region leaves: the students' embeddings. -/
theorem in_main_v3 (i : Fin 4000) (j : Fin 128) : Vin m c main_v3 (ix2 i j) = emb (inp m c) i j := by
  rw [at19 m c main_v3 (by decide)]
  refine (congrFun (left1 m c 4) (ix2 i j)).symm.trans ((congrFun (final1 (V3r m) c) (ix2 i j)).trans ?_)
  show conv (V3v m c main_arg3) (V3v m c main_v1) (V3v m c main_arg7) (V3v m c main_v2) i j = _
  refine conv_graph (fun i j => ?_) (layer1_left m c) (fun i j => ?_) (b2_at m c) i j
  · exact congrFun (at3 m c main_arg3 (by decide) (by decide) (by decide)) (ix2 i j)
  · exact congrFun (at3 m c main_arg7 (by decide) (by decide) (by decide)) (ix2 i j)

/-! ## The third region's parameters and embeddings -/

/-- The main call gets the question gate's weights as they were at the launch. -/
theorem in_main_arg13 : Vin m c main_arg13 = m ((c : Thread nD τ).loc main_arg13) :=
  in_arg m c _ (by decide) (by decide) (by decide) (by decide) (by decide)
/-- The main call gets the response gate's weights as they were at the launch. -/
theorem in_main_arg15 : Vin m c main_arg15 = m ((c : Thread nD τ).loc main_arg15) :=
  in_arg m c _ (by decide) (by decide) (by decide) (by decide) (by decide)
/-- The main call gets the erase weights as they were at the launch. -/
theorem in_main_arg17 : Vin m c main_arg17 = m ((c : Thread nD τ).loc main_arg17) :=
  in_arg m c _ (by decide) (by decide) (by decide) (by decide) (by decide)
/-- The main call gets the add weights as they were at the launch. -/
theorem in_main_arg19 : Vin m c main_arg19 = m ((c : Thread nD τ).loc main_arg19) :=
  in_arg m c _ (by decide) (by decide) (by decide) (by decide) (by decide)
/-- The main call gets the read-out weights as they were at the launch. -/
theorem in_main_arg21 : Vin m c main_arg21 = m ((c : Thread nD τ).loc main_arg21) :=
  in_arg m c _ (by decide) (by decide) (by decide) (by decide) (by decide)
/-- The main call gets the prediction weights as they were at the launch. -/
theorem in_main_arg23 : Vin m c main_arg23 = m ((c : Thread nD τ).loc main_arg23) :=
  in_arg m c _ (by decide) (by decide) (by decide) (by decide) (by decide)

/-- The parameters read from the main call's arrays are the model's, where the arrays hold the model's entries. -/
theorem par_of {x6 : Vec Ideal S128x64 .f32} {x7 : Vec Ideal S64x128 .f32} {x8 : Vec Ideal S256x1 .f32}
    {x9 : Vec Ideal S1x1 .f32} {x10 : Vec Ideal S256x1 .f32} {x11 : Vec Ideal S1x1 .f32} {x12 : Vec Ideal S128x128 .f32}
    {x13 : Vec Ideal S1x128 .f32} {x14 : Vec Ideal S128x128 .f32} {x15 : Vec Ideal S1x128 .f32}
    {x16 : Vec Ideal S256x128 .f32} {x17 : Vec Ideal S1x128 .f32} {x18 : Vec Ideal S128x200 .f32}
    {x19 : Vec Ideal S1x200 .f32} (η : Par)
    (h8 : ∀ i, x8 (ix2 i 0) = η.Wgk i) (h9 : x9 (ix2 0 0) = η.bgk) (h10 : ∀ i, x10 (ix2 i 0) = η.Wgv i)
    (h11 : x11 (ix2 0 0) = η.bgv) (h6 : ∀ (i : Fin 50) j, x6 (ix2 j (i.castAdd 14)) = η.Mk i j)
    (h7 : ∀ (i : Fin 50) j, x7 (ix2 (i.castAdd 14) j) = η.Mv i j) (h12 : ∀ i j, x12 (ix2 i j) = η.We i j)
    (h13 : ∀ j, x13 (ix2 0 j) = η.be j) (h14 : ∀ i j, x14 (ix2 i j) = η.Wa i j) (h15 : ∀ j, x15 (ix2 0 j) = η.ba j)
    (h16 : ∀ i j, x16 (ix2 i j) = η.Wf i j) (h17 : ∀ j, x17 (ix2 0 j) = η.bf j)
    (h18 : ∀ j n, x18 (ix2 j n) = η.Wp j n) (h19 : ∀ n, x19 (ix2 0 n) = η.bp n) :
    par x6 x7 x8 x9 x10 x11 x12 x13 x14 x15 x16 x17 x18 x19 = η := by
  obtain ⟨Wgk, bgk, Wgv, bgv, Mk, Mv, We, be, Wa, ba, Wf, bf, Wp, bp⟩ := η
  unfold par
  congr 1
  · exact funext h8
  · exact funext h10
  · exact funext fun i => funext (h6 i)
  · exact funext fun i => funext (h7 i)
  · exact funext fun i => funext (h12 i)
  · exact funext h13
  · exact funext fun i => funext (h14 i)
  · exact funext h15
  · exact funext fun i => funext (h16 i)
  · exact funext h17
  · exact funext fun i => funext (h18 i)
  · exact funext h19

/-- The parameters the main call reads are the model's. -/
theorem par_eq : par (Vin m c main_v22) (Vin m c main_v23) (Vin m c main_arg13) (Vin m c main_v24) (Vin m c main_arg15)
    (Vin m c main_v25) (Vin m c main_arg17) (Vin m c main_v26) (Vin m c main_arg19) (Vin m c main_v27) (Vin m c main_arg21)
    (Vin m c main_v28) (Vin m c main_arg23) (Vin m c main_v29) = (inp m c).θ :=
  par_of _ (fun i => congrFun (in_main_arg13 m c) (ix2 i 0)) (in_main_v24 m c 0)
    (fun i => congrFun (in_main_arg15 m c) (ix2 i 0)) (in_main_v25 m c 0)
    (fun i j => in_main_v22 m c j (i.castAdd 14) i.isLt) (fun i j => in_main_v23 m c (i.castAdd 14) j i.isLt)
    (fun i j => congrFun (in_main_arg17 m c) (ix2 i j)) (in_main_v26 m c)
    (fun i j => congrFun (in_main_arg19 m c) (ix2 i j)) (in_main_v27 m c)
    (fun i j => congrFun (in_main_arg21 m c) (ix2 i j)) (in_main_v28 m c)
    (fun i j => congrFun (in_main_arg23 m c) (ix2 i j)) (in_main_v29 m c)

variable {m c}

/-- A word is the word of its number. -/
theorem word_eq (w : BitVec 32) : BitVec.ofNat 32 w.toNat = w := by simp

/-- Batch row `r` of half `p` is place `32 p + r`. -/
def place (p : Fin 2) (r : Fin 32) : Fin 64 := ⟨p.val * 32 + r.val, by omega⟩

/-- An entry at a row's place in the batch and in the sequence is the entry of its student at its step. -/
theorem place_at {α : Type} (f : Fin 64 → Fin 200 → α) (p : Fin 2) (r : Fin 32) (t : ℕ) (h1 h2) :
    f ⟨p.val * 32 + (rowOf t r).val % 32, h1⟩ ⟨(rowOf t r).val / 32, h2⟩ = f (place p r) (stepOf t) := by
  congr 1
  · refine Fin.ext ?_
    show p.val * 32 + (32 * (t % 200) + r.val) % 32 = p.val * 32 + r.val
    omega
  · refine Fin.ext ?_
    show (32 * (t % 200) + r.val) / 32 = t % 200
    omega

/-- The student's embedding the main call looks up for a row is the model's, -/
theorem stud_row (h : Valid (inp m c)) (p : Fin 2) (r : Fin 32) (t : ℕ) :
    studR (half (n := 6400) (Vin m c main_v18) p) (Vin m c main_v3) (rowOf t r) = sAt (inp m c) (place p r) t := by
  have hx : half (n := 6400) (Vin m c main_v18) p (ix3 0 (rowOf t r) 0) = (inp m c).stud (place p r) (stepOf t) :=
    (in_main_v18 m c p (rowOf t r)).trans (place_at (inp m c).stud p r t _ _)
  refine (studR_row _ _ _ ⟨((inp m c).stud (place p r) (stepOf t) - 1#32).toNat, h.stud _ _⟩ ?_).trans ?_
  · rw [hx]; exact (word_eq _).symm
  · unfold sAt
    rw [rowAt_of _ (h.stud _ _)]
    exact funext fun j => in_main_v3 m c _ j

/-- The skill's number in a row, -/
theorem skill_word (p : Fin 2) (r : Fin 32) (t : ℕ) (hh) :
    half (n := 6432) (Vin m c main_v8) p (ix3 0 ⟨(rowOf t r).val, hh⟩ 0) = (inp m c).skill (place p r) (stepOf t) :=
  (in_main_v8 m c p ⟨(rowOf t r).val, hh⟩ (rowOf t r).isLt).trans (place_at (inp m c).skill p r t _ _)

/-- and the answer's. -/
theorem ans_word (p : Fin 2) (r : Fin 32) (t : ℕ) :
    half (n := 6400) (Vin m c main_v13) p (ix3 0 (rowOf t r) 0) = (inp m c).ans (place p r) (stepOf t) :=
  (in_main_v13 m c p (rowOf t r)).trans (place_at (inp m c).ans p r t _ _)

/-- so is the skill's -/
theorem skil_row (h : Valid (inp m c)) (p : Fin 2) (r : Fin 32) (t : ℕ) :
    skilR (half (n := 6432) (Vin m c main_v8) p) (Vin m c main_v19) (rowOf t r) = kAt (inp m c) (place p r) t := by
  have hlt := h.skill (place p r) (stepOf t)
  refine (skilR_row _ _ _ ⟨((inp m c).skill (place p r) (stepOf t)).toNat, by omega⟩ ?_).trans ?_
  · rw [skill_word]; exact (word_eq _).symm
  · unfold kAt
    rw [rowAt_of _ (hlt.trans (by decide))]
    exact funext fun j => in_main_v19 m c _ j (hlt.trans (by decide))

/-- and so is the response's. -/
theorem resp_row (h : Valid (inp m c)) (p : Fin 2) (r : Fin 32) (t : ℕ) :
    respR (half (n := 6432) (Vin m c main_v8) p) (half (n := 6400) (Vin m c main_v13) p) (Vin m c main_v20) (rowOf t r)
      = vAt (inp m c) (place p r) t := by
  have hlt := h.resp (place p r) (stepOf t)
  refine (respR_row _ _ _ _ ⟨(respNo ((inp m c).skill (place p r) (stepOf t)) ((inp m c).ans (place p r) (stepOf t))).toNat,
    by omega⟩ ?_).trans ?_
  · rw [skill_word, ans_word, word_eq]
    unfold respNo Scalar.select IntOp.cmpi
    by_cases e : (inp m c).ans (place p r) (stepOf t) = 2#32
    · simp [e]
    · have e' : ((inp m c).ans (place p r) (stepOf t) == 2#32) = false := by simpa using e
      simp [e, e']
  · unfold vAt
    rw [rowAt_of _ hlt]
    exact funext fun j => in_main_v20 m c _ j hlt

/-- The kernel's result, element by element: the model's. -/
theorem kernel_result (h : Valid (inp m c)) (b : Fin 64) (t : Fin 199) :
    V21 m (outs m) c main_v35 (ix2 b t) = result (inp m c) b t := by
  have hb : b = place ⟨b.val / 32, by omega⟩ ⟨b.val % 32, by omega⟩ :=
    Fin.ext (by show b.val = b.val / 32 * 32 + b.val % 32; omega)
  generalize (⟨b.val / 32, by omega⟩ : Fin 2) = p at hb
  generalize (⟨b.val % 32, by omega⟩ : Fin 32) = r at hb
  subst hb
  have hv : V21 m (outs m) c main_v35 (ix2 (place p r) t) = V20 m (outs m) c main_v30 (ix3 p (rowOf t.val r) 0) := by
    unfold V21
    after_reads_at
    have e1 : (place p r).val / 32 = p.val := by show (p.val * 32 + r.val) / 32 = _; omega
    have e2 : t.val * 32 + (place p r).val % 32 = (rowOf t.val r).val := by
      show t.val * 32 + (p.val * 32 + r.val) % 32 = 32 * (t.val % 200) + r.val
      omega
    exact congrArg₂ (fun (i : Fin 2) (j : Fin 6400) => V20 m (outs m) c main_v30 (ix3 i j 0)) (Fin.ext e1) (Fin.ext e2)
  rw [hv]
  have hV : V19r m = fun c (b : Ref sig .tc) => Vin m c b := funext fun c => funext fun b => congrFun (V19_eq m c).symm _
  refine (congrFun (left2 m c 20) (ix3 p (rowOf t.val r) 0)).symm.trans
    ((congrFun (final2 (V19r m) c) (ix3 p (rowOf t.val r) 0)).trans ?_)
  rw [hV]
  have hn : half (n := 6432) (Vin m c main_v8) p (ix3 0 ⟨(rowOf t.val r).val + 32, by have := (rowOf t.val r).isLt; omega⟩ 0)
      = BitVec.ofNat 32 (nextSkill (inp m c) (place p r) t).val := by
    have e : (rowOf t.val r).val + 32 = (rowOf (t.val + 1) r).val := by
      show 32 * (t.val % 200) + r.val + 32 = 32 * ((t.val + 1) % 200) + r.val
      omega
    have e' : stepOf (t.val + 1) = ⟨t.val + 1, by omega⟩ := Fin.ext (Nat.mod_eq_of_lt (by omega))
    have hw := skill_word (m := m) (c := c) p r (t.val + 1) (by have := (rowOf (t.val + 1) r).isLt; omega)
    have hlt := h.skill (place p r) ⟨t.val + 1, by omega⟩
    rw [e'] at hw
    refine Eq.trans ?_ (hw.trans ((word_eq _).symm.trans ?_))
    · exact congrArg (fun i : Fin 6432 => half (n := 6432) (Vin m c main_v8) p (ix3 0 i 0)) (Fin.ext e)
    · exact congrArg (BitVec.ofNat 32) (Nat.mod_eq_of_lt hlt).symm
  refine (outA_predict (half (n := 6432) (Vin m c main_v8) p) (half (n := 6400) (Vin m c main_v13) p)
    (half (n := 6400) (Vin m c main_v18) p)
    (Vin m c main_v3)
    (Vin m c main_v19)
    (Vin m c main_v20)
    (Vin m c main_v22)
    (Vin m c main_v23)
    (Vin m c main_arg13)
    (Vin m c main_v24)
    (Vin m c main_arg15)
    (Vin m c main_v25)
    (Vin m c main_arg17)
    (Vin m c main_v26)
    (Vin m c main_arg19)
    (Vin m c main_v27)
    (Vin m c main_arg21)
    (Vin m c main_v28)
    (Vin m c main_arg23)
    (Vin m c main_v29)
    r t.val (by omega) (nextSkill (inp m c) (place p r) t) hn
    (fun t j => by rw [stud_row h]; exact sAt_re h _ _ _) (fun t j => by rw [skil_row h]; exact kAt_re h _ _ _)
    (by rw [par_eq]; exact h.Mk) (by rw [par_eq]; exact h.Mv)).trans ?_
  rw [par_eq, funext (stud_row h p r), funext (skil_row h p r), funext (resp_row h p r)]
  rfl

end Cert.KernelIdeal.Body

end
-- ==== Proof.KernelIdeal.Drawn.lean ====
module

public import proofs.«01_k».proof.Defs
public import proofs.«01_k».proof.Proof.Gen.Pre_inputs_drawn
public import proofs.«01_k».proof.Proof.KernelIdeal.Host

/-! # What the precondition says of the inputs

The precondition is a chain of comparisons, true at every element. Read back, it says that the students' numbers, the
skills and the answers lie in the ranges they are drawn from and that the entries of the float arrays are finite. -/

@[expose] public section

noncomputable section

namespace Cert.KernelIdeal.Drawn

open Idealize.ShloMosaic Idealize.SL.Sem Cert.Model

/-- Two truth values whose conjunction is one are both true. -/
theorem both {p q : Bool} (h : BitVec.ofBool p &&& BitVec.ofBool q = 1#1) : p = true ∧ q = true := by
  revert h; cases p <;> cases q <;> decide

/-- A truth value that is one is true. -/
theorem one {p : Bool} (h : BitVec.ofBool p = 1#1) : p = true := by
  revert h; cases p <;> decide

/-- An array every entry of which has an absolute value below infinity has finite entries. -/
theorem finite {s : Shape} {a : FVec Ideal s .f32} {h : (⟨0, ![]⟩ : Shape).BroadcastsInDim s (![] : Fin 0 → Fin s.rank)}
    (e : cmpf .olt (Host.absf a) (broadcastInDim s ![] h (constant (⟨0, ![]⟩ : Shape) .f32 0x7F800000#32))
      = fun _ => 1#1) (j : s.Idx) : Re (a j) := by
  have e := one (congrFun e j)
  exact Re.of_abs_lt (of_decide_eq_true e)

/-- A word no less than `l` and less than `u` at every entry. -/
theorem between {s : Shape} {a : IVec s 32} {l u : BitVec 32}
    {h h' : (⟨0, ![]⟩ : Shape).BroadcastsInDim s (![] : Fin 0 → Fin s.rank)}
    (e : andi (cmpi .sge a (broadcastInDim s ![] h (constantI (⟨0, ![]⟩ : Shape) 32 l)))
      (cmpi .slt a (broadcastInDim s ![] h' (constantI (⟨0, ![]⟩ : Shape) 32 u))) = fun _ => 1#1) (j : s.Idx) :
    l.sle (a j) = true ∧ (a j).slt u = true := both (congrFun e j)

/-- A word no less than `l` and no greater than `u` at every entry. -/
theorem within {s : Shape} {a : IVec s 32} {l u : BitVec 32}
    {h h' : (⟨0, ![]⟩ : Shape).BroadcastsInDim s (![] : Fin 0 → Fin s.rank)}
    (e : andi (cmpi .sge a (broadcastInDim s ![] h (constantI (⟨0, ![]⟩ : Shape) 32 l)))
      (cmpi .sle a (broadcastInDim s ![] h' (constantI (⟨0, ![]⟩ : Shape) 32 u))) = fun _ => 1#1) (j : s.Idx) :
    l.sle (a j) = true ∧ (a j).sle u = true := both (congrFun e j)

/-- A signed word from zero up to a small bound is its number, below the bound. -/
theorem number_lt {w u : BitVec 32} (hu : u.toNat < 2 ^ 31) (h : (0#32).sle w = true ∧ w.slt u = true) :
    w.toNat < u.toNat := by
  obtain ⟨h0, h1⟩ := h
  rw [BitVec.sle, decide_eq_true_eq] at h0
  rw [BitVec.slt, decide_eq_true_eq] at h1
  rw [BitVec.toInt_eq_toNat_cond, BitVec.toInt_eq_toNat_cond] at h0 h1
  have := w.isLt
  simp only [BitVec.toNat_ofNat] at h0
  split at h1 <;> split at h1 <;> split at h0 <;> omega

/-- A student's number, counted from one, is a row below 4000 counted from zero. -/
theorem student_row {w : BitVec 32} (h : (1#32).sle w = true ∧ w.sle 4000#32 = true) : (w - 1#32).toNat < 4000 := by
  obtain ⟨h0, h1⟩ := h
  rw [BitVec.sle, decide_eq_true_eq] at h0 h1
  rw [BitVec.toInt_eq_toNat_cond, BitVec.toInt_eq_toNat_cond] at h0 h1
  have := w.isLt
  simp only [BitVec.toNat_ofNat] at h0 h1
  rw [BitVec.toNat_sub, BitVec.toNat_ofNat]
  split at h1 <;> omega

/-- The response's number stays below 401: the skill is below 200 and the answer counts as zero or one. -/
theorem response_lt {sk an : BitVec 32} (hs : sk.toNat < 200) (ha : an.toNat < 3) : (respNo sk an).toNat < 401 := by
  have h1 : (if an = 2#32 then 1#32 else an).toNat ≤ 1 := by
    split
    · decide
    · rename_i h
      have : an.toNat ≠ 2 := fun e => h (BitVec.eq_of_toNat_eq e)
      omega
  unfold respNo
  generalize (if an = 2#32 then 1#32 else an) = r at h1
  rw [BitVec.toNat_add, BitVec.toNat_mul, BitVec.toNat_ofNat]
  obtain h | h : r.toNat = 0 ∨ r.toNat = 1 := by omega
  all_goals rw [h]; omega

/-- Inputs the precondition admits are inputs the two programs agree on. -/
theorem valid {m : (ℓ : Loc Cert.KernelIdeal.nD Cert.KernelIdeal.τ Cert.KernelIdeal.sig) → Buf (Elt Ideal) ℓ}
    (h : Cert.Pre_KernelIdeal_inputs_drawn m) (c : Dev Cert.KernelIdeal.nD) : Valid (Body.inp m c) := by
  obtain ⟨h0, h1, h2, h3, h4, h5, h6, h7, h8, h9, h11, h12⟩ := h c
  have sk (b t) := number_lt (by decide) (between h1 (ix2 b t))
  exact
    { stud := fun b t => student_row (within h0 (ix2 b t))
      skill := sk
      resp := fun b t => response_lt (sk b t) (number_lt (by decide) (between h2 (ix2 b t)))
      G := fun i j => finite h3 (ix2 i j)
      table := fun i j => finite h4 (ix2 i j)
      W1 := fun i j => finite h5 (ix2 i j)
      b1 := fun j => finite h6 (ix1 j)
      W2 := fun i j => finite h7 (ix2 i j)
      b2 := fun j => finite h8 (ix1 j)
      kE := fun i j => finite h9 (ix2 i j)
      Mk := fun i j => finite h11 (ix2 i j)
      Mv := fun i j => finite h12 (ix2 i j) }

end Cert.KernelIdeal.Drawn

end
-- ==== Proof.Reference.Frame.lean ====
module

public import proofs.«01_k».proof.Proof.Gen.ReferenceIdeal.Run

/-! The reference program leaves its arguments as they were: none of its host operations, in the stretches before the
    scan, in the scan's body or after it, writes one. -/

@[expose] public section

set_option maxRecDepth 4000

noncomputable section

namespace Cert.ReferenceIdeal.Whole

open Idealize.ShloMosaic Idealize.ShloMosaic.TcCoe Idealize.ShloMosaic.StableHlo
open Idealize.SL Idealize.SL.Sem
open Cert.ReferenceIdeal Cert.ReferenceIdeal.Gen Cert.ReferenceIdeal.Value

variable {F : FTy → Type} [FloatOps F]

/-- What `hostOps0_5` writes, in order. -/
abbrev hostOps0_5_w : List (Ref sig .tc) := [main_v111, main_v112, main_v113, main_v114, main_v115, main_v116, main_v117, main_v118, main_v119, main_v120, main_v121, main_v122, main_v123, main_cst_21, main_v124, main_v125, main_cst_22, main_v126, main_v127, main_v128, main_v129, main_c_23, main_c_24]
/-- What `hostOps0_6` writes, in order. -/
abbrev hostOps0_6_w : List (Ref sig .tc) := [main_call6_v0, main_call6_v1, main_call6_v2, main_call6_v3, main_call6_v4, main_v130]
/-- What `hostOps0_7` writes, in order. -/
abbrev hostOps0_7_w : List (Ref sig .tc) := [main_v131]
/-- What `hostOps0_8` writes, in order. -/
abbrev hostOps0_8_w : List (Ref sig .tc) := [main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_cst, main_call7_v14, main_v132]
/-- What `hostOps0_9` writes, in order. -/
abbrev hostOps0_9_w : List (Ref sig .tc) := [main_v133, main_c_25, main_v134, main_v135, main_cst_26]
/-- What `hostOps0_10` writes, in order. -/
abbrev hostOps0_10_w : List (Ref sig .tc) := [main_call8_v0, main_call8_v1, main_v136]

/-- No stretch before the scan writes the buffer. -/
abbrev preW (b : Ref sig .tc) : Prop := b ∉ hostOps0_W ∧ b ∉ hostOps0_1_W ∧ b ∉ hostOps0_2_W ∧ b ∉ hostOps0_3_W ∧ b ∉ hostOps0_4_W
/-- No operation of a trip of the scan, its condition's included, writes the buffer. -/
abbrev tripW (b : Ref sig .tc) : Prop := b ∉ condOps_W ∧ b ∉ while0Ops0_W ∧ b ∉ while0Ops0_1_W ∧ b ∉ while0Ops0_2_W ∧ b ∉ while0Ops0_3_W ∧ b ∉ while0Ops0_4_W ∧ b ∉ while0Ops0_5_W
/-- No stretch after the scan writes the buffer. -/
abbrev postW (b : Ref sig .tc) : Prop := b ∉ hostOps0_5_w ∧ b ∉ hostOps0_6_w ∧ b ∉ hostOps0_7_w ∧ b ∉ hostOps0_8_w ∧ b ∉ hostOps0_9_w ∧ b ∉ hostOps0_10_w

/-- A buffer no stretch before the scan writes is as at the launch when the scan starts. -/
theorem pre_unwritten (V : Valuation τ sig (Elt F)) {b : Ref sig .tc} (h : preW b) :
    afterL (preI (F := F)) V (Proc.devRef .tc b) = V (Proc.devRef .tc b) := by
  unfold preW at h
  simp only [preI, afterL_cons, afterL_nil]
  rw [after_of_writes_sub hostOps0_4 _ hostOps0_4_writes (by tauto),
    after_of_writes_sub hostOps0_3 _ hostOps0_3_writes (by tauto),
    after_of_writes_sub hostOps0_2 _ hostOps0_2_writes (by tauto),
    after_of_writes_sub hostOps0_1 _ hostOps0_1_writes (by tauto),
    after_of_writes_sub hostOps0 _ hostOps0_writes (by tauto)]

/-- A buffer no operation of a trip writes comes through the trip. -/
theorem trip_unwritten (V : Valuation τ sig (Elt F)) {b : Ref sig .tc} (h : tripW b) :
    afterL (bodyI (F := F)) (after condOps V) (Proc.devRef .tc b) = V (Proc.devRef .tc b) := by
  unfold tripW at h
  simp only [bodyI, afterL_cons, afterL_nil]
  rw [after_of_writes_sub while0Ops0_5 _ while0Ops0_5_writes (by tauto),
    after_of_writes_sub while0Ops0_4 _ while0Ops0_4_writes (by tauto),
    after_of_writes_sub while0Ops0_3 _ while0Ops0_3_writes (by tauto),
    after_of_writes_sub while0Ops0_2 _ while0Ops0_2_writes (by tauto),
    after_of_writes_sub while0Ops0_1 _ while0Ops0_1_writes (by tauto),
    after_of_writes_sub while0Ops0 _ while0Ops0_writes (by tauto),
    after_of_writes_sub condOps _ condOps_writes (by tauto)]

/-- A buffer no stretch after the scan writes is at the end as the scan left it. -/
theorem post_unwritten (V : Valuation τ sig (Elt F)) {b : Ref sig .tc} (h : postW b) :
    afterL (postI (F := F)) V (Proc.devRef .tc b) = V (Proc.devRef .tc b) := by
  unfold postW at h
  simp only [postI, afterL_cons, afterL_nil]
  rw [after_unwritten hostOps0_10_w (ops := hostOps0_10) rfl (by tauto),
    after_unwritten hostOps0_9_w (ops := hostOps0_9) rfl (by tauto),
    after_unwritten hostOps0_8_w (ops := hostOps0_8) rfl (by tauto),
    after_unwritten hostOps0_7_w (ops := hostOps0_7) rfl (by tauto),
    after_unwritten hostOps0_6_w (ops := hostOps0_6) rfl (by tauto),
    after_unwritten hostOps0_5_w (ops := hostOps0_5) rfl (by tauto)]

variable (m : (ℓ : Loc nD τ sig) → Buf (Elt F) ℓ) (ρ : Dev nD → PrngReg)

/-- A buffer no trip writes is, before every trip, as at the scan's entry. -/
theorem atK_unwritten (c : Dev nD) {b : Ref sig .tc} (h : tripW b) :
    ∀ k, atK m k c (Proc.devRef .tc b) = entryContents preI m c (Proc.devRef .tc b)
  | 0 => rfl
  | k + 1 => (trip_unwritten (atK m k c) h).trans (atK_unwritten c h k)

/-- A buffer no operation at all writes ends as it was launched. -/
theorem final_unwritten (c : Dev nD) {b : Ref sig .tc} (h₀ : preW b) (h₁ : tripW b) (h₂ : postW b) :
    finalContents condOps preI bodyI postI 200 m c (Proc.devRef .tc b) = m ((c.tc : Thread nD τ).loc b) := by
  have h₁' : b ∉ condOps_W := h₁.1
  rw [finalContents, post_unwritten _ h₂, after_of_writes_sub condOps _ condOps_writes h₁']
  exact (atK_unwritten m c h₁ 200).trans (pre_unwritten _ h₀)

/-- A state that holds every unscoped buffer's final contents holds each argument as launched. -/
theorem args_kept {s : (ℓ : Loc nD τ sig) → Buf (Elt F) ℓ} (c : Dev nD)
    (h : ∀ b : Ref sig .tc, (Proc.devRef .tc b : DevRef τ sig).isScoped = false →
      s ((c.tc : Thread nD τ).loc b) = finalContents condOps preI bodyI postI 200 m c (Proc.devRef .tc b)) :
    s ((c.tc : Thread nD τ).loc main_arg0) = m ((c.tc : Thread nD τ).loc main_arg0)
      ∧ s ((c.tc : Thread nD τ).loc main_arg1) = m ((c.tc : Thread nD τ).loc main_arg1)
      ∧ s ((c.tc : Thread nD τ).loc main_arg2) = m ((c.tc : Thread nD τ).loc main_arg2)
      ∧ s ((c.tc : Thread nD τ).loc main_arg3) = m ((c.tc : Thread nD τ).loc main_arg3)
      ∧ s ((c.tc : Thread nD τ).loc main_arg4) = m ((c.tc : Thread nD τ).loc main_arg4)
      ∧ s ((c.tc : Thread nD τ).loc main_arg5) = m ((c.tc : Thread nD τ).loc main_arg5)
      ∧ s ((c.tc : Thread nD τ).loc main_arg6) = m ((c.tc : Thread nD τ).loc main_arg6)
      ∧ s ((c.tc : Thread nD τ).loc main_arg7) = m ((c.tc : Thread nD τ).loc main_arg7)
      ∧ s ((c.tc : Thread nD τ).loc main_arg8) = m ((c.tc : Thread nD τ).loc main_arg8)
      ∧ s ((c.tc : Thread nD τ).loc main_arg9) = m ((c.tc : Thread nD τ).loc main_arg9)
      ∧ s ((c.tc : Thread nD τ).loc main_arg10) = m ((c.tc : Thread nD τ).loc main_arg10)
      ∧ s ((c.tc : Thread nD τ).loc main_arg11) = m ((c.tc : Thread nD τ).loc main_arg11)
      ∧ s ((c.tc : Thread nD τ).loc main_arg12) = m ((c.tc : Thread nD τ).loc main_arg12)
      ∧ s ((c.tc : Thread nD τ).loc main_arg13) = m ((c.tc : Thread nD τ).loc main_arg13)
      ∧ s ((c.tc : Thread nD τ).loc main_arg14) = m ((c.tc : Thread nD τ).loc main_arg14)
      ∧ s ((c.tc : Thread nD τ).loc main_arg15) = m ((c.tc : Thread nD τ).loc main_arg15)
      ∧ s ((c.tc : Thread nD τ).loc main_arg16) = m ((c.tc : Thread nD τ).loc main_arg16)
      ∧ s ((c.tc : Thread nD τ).loc main_arg17) = m ((c.tc : Thread nD τ).loc main_arg17)
      ∧ s ((c.tc : Thread nD τ).loc main_arg18) = m ((c.tc : Thread nD τ).loc main_arg18)
      ∧ s ((c.tc : Thread nD τ).loc main_arg19) = m ((c.tc : Thread nD τ).loc main_arg19)
      ∧ s ((c.tc : Thread nD τ).loc main_arg20) = m ((c.tc : Thread nD τ).loc main_arg20)
      ∧ s ((c.tc : Thread nD τ).loc main_arg21) = m ((c.tc : Thread nD τ).loc main_arg21)
      ∧ s ((c.tc : Thread nD τ).loc main_arg22) = m ((c.tc : Thread nD τ).loc main_arg22)
      ∧ s ((c.tc : Thread nD τ).loc main_arg23) = m ((c.tc : Thread nD τ).loc main_arg23)
      ∧ s ((c.tc : Thread nD τ).loc main_arg24) = m ((c.tc : Thread nD τ).loc main_arg24) :=
  ⟨(h main_arg0 (by decide)).trans (final_unwritten m c (by refine ⟨?_, ?_, ?_, ?_, ?_⟩ <;> decide +kernel) (by refine ⟨?_, ?_, ?_, ?_, ?_, ?_, ?_⟩ <;> decide +kernel) (by refine ⟨?_, ?_, ?_, ?_, ?_, ?_⟩ <;> decide +kernel)),
    (h main_arg1 (by decide)).trans (final_unwritten m c (by refine ⟨?_, ?_, ?_, ?_, ?_⟩ <;> decide +kernel) (by refine ⟨?_, ?_, ?_, ?_, ?_, ?_, ?_⟩ <;> decide +kernel) (by refine ⟨?_, ?_, ?_, ?_, ?_, ?_⟩ <;> decide +kernel)),
    (h main_arg2 (by decide)).trans (final_unwritten m c (by refine ⟨?_, ?_, ?_, ?_, ?_⟩ <;> decide +kernel) (by refine ⟨?_, ?_, ?_, ?_, ?_, ?_, ?_⟩ <;> decide +kernel) (by refine ⟨?_, ?_, ?_, ?_, ?_, ?_⟩ <;> decide +kernel)),
    (h main_arg3 (by decide)).trans (final_unwritten m c (by refine ⟨?_, ?_, ?_, ?_, ?_⟩ <;> decide +kernel) (by refine ⟨?_, ?_, ?_, ?_, ?_, ?_, ?_⟩ <;> decide +kernel) (by refine ⟨?_, ?_, ?_, ?_, ?_, ?_⟩ <;> decide +kernel)),
    (h main_arg4 (by decide)).trans (final_unwritten m c (by refine ⟨?_, ?_, ?_, ?_, ?_⟩ <;> decide +kernel) (by refine ⟨?_, ?_, ?_, ?_, ?_, ?_, ?_⟩ <;> decide +kernel) (by refine ⟨?_, ?_, ?_, ?_, ?_, ?_⟩ <;> decide +kernel)),
    (h main_arg5 (by decide)).trans (final_unwritten m c (by refine ⟨?_, ?_, ?_, ?_, ?_⟩ <;> decide +kernel) (by refine ⟨?_, ?_, ?_, ?_, ?_, ?_, ?_⟩ <;> decide +kernel) (by refine ⟨?_, ?_, ?_, ?_, ?_, ?_⟩ <;> decide +kernel)),
    (h main_arg6 (by decide)).trans (final_unwritten m c (by refine ⟨?_, ?_, ?_, ?_, ?_⟩ <;> decide +kernel) (by refine ⟨?_, ?_, ?_, ?_, ?_, ?_, ?_⟩ <;> decide +kernel) (by refine ⟨?_, ?_, ?_, ?_, ?_, ?_⟩ <;> decide +kernel)),
    (h main_arg7 (by decide)).trans (final_unwritten m c (by refine ⟨?_, ?_, ?_, ?_, ?_⟩ <;> decide +kernel) (by refine ⟨?_, ?_, ?_, ?_, ?_, ?_, ?_⟩ <;> decide +kernel) (by refine ⟨?_, ?_, ?_, ?_, ?_, ?_⟩ <;> decide +kernel)),
    (h main_arg8 (by decide)).trans (final_unwritten m c (by refine ⟨?_, ?_, ?_, ?_, ?_⟩ <;> decide +kernel) (by refine ⟨?_, ?_, ?_, ?_, ?_, ?_, ?_⟩ <;> decide +kernel) (by refine ⟨?_, ?_, ?_, ?_, ?_, ?_⟩ <;> decide +kernel)),
    (h main_arg9 (by decide)).trans (final_unwritten m c (by refine ⟨?_, ?_, ?_, ?_, ?_⟩ <;> decide +kernel) (by refine ⟨?_, ?_, ?_, ?_, ?_, ?_, ?_⟩ <;> decide +kernel) (by refine ⟨?_, ?_, ?_, ?_, ?_, ?_⟩ <;> decide +kernel)),
    (h main_arg10 (by decide)).trans (final_unwritten m c (by refine ⟨?_, ?_, ?_, ?_, ?_⟩ <;> decide +kernel) (by refine ⟨?_, ?_, ?_, ?_, ?_, ?_, ?_⟩ <;> decide +kernel) (by refine ⟨?_, ?_, ?_, ?_, ?_, ?_⟩ <;> decide +kernel)),
    (h main_arg11 (by decide)).trans (final_unwritten m c (by refine ⟨?_, ?_, ?_, ?_, ?_⟩ <;> decide +kernel) (by refine ⟨?_, ?_, ?_, ?_, ?_, ?_, ?_⟩ <;> decide +kernel) (by refine ⟨?_, ?_, ?_, ?_, ?_, ?_⟩ <;> decide +kernel)),
    (h main_arg12 (by decide)).trans (final_unwritten m c (by refine ⟨?_, ?_, ?_, ?_, ?_⟩ <;> decide +kernel) (by refine ⟨?_, ?_, ?_, ?_, ?_, ?_, ?_⟩ <;> decide +kernel) (by refine ⟨?_, ?_, ?_, ?_, ?_, ?_⟩ <;> decide +kernel)),
    (h main_arg13 (by decide)).trans (final_unwritten m c (by refine ⟨?_, ?_, ?_, ?_, ?_⟩ <;> decide +kernel) (by refine ⟨?_, ?_, ?_, ?_, ?_, ?_, ?_⟩ <;> decide +kernel) (by refine ⟨?_, ?_, ?_, ?_, ?_, ?_⟩ <;> decide +kernel)),
    (h main_arg14 (by decide)).trans (final_unwritten m c (by refine ⟨?_, ?_, ?_, ?_, ?_⟩ <;> decide +kernel) (by refine ⟨?_, ?_, ?_, ?_, ?_, ?_, ?_⟩ <;> decide +kernel) (by refine ⟨?_, ?_, ?_, ?_, ?_, ?_⟩ <;> decide +kernel)),
    (h main_arg15 (by decide)).trans (final_unwritten m c (by refine ⟨?_, ?_, ?_, ?_, ?_⟩ <;> decide +kernel) (by refine ⟨?_, ?_, ?_, ?_, ?_, ?_, ?_⟩ <;> decide +kernel) (by refine ⟨?_, ?_, ?_, ?_, ?_, ?_⟩ <;> decide +kernel)),
    (h main_arg16 (by decide)).trans (final_unwritten m c (by refine ⟨?_, ?_, ?_, ?_, ?_⟩ <;> decide +kernel) (by refine ⟨?_, ?_, ?_, ?_, ?_, ?_, ?_⟩ <;> decide +kernel) (by refine ⟨?_, ?_, ?_, ?_, ?_, ?_⟩ <;> decide +kernel)),
    (h main_arg17 (by decide)).trans (final_unwritten m c (by refine ⟨?_, ?_, ?_, ?_, ?_⟩ <;> decide +kernel) (by refine ⟨?_, ?_, ?_, ?_, ?_, ?_, ?_⟩ <;> decide +kernel) (by refine ⟨?_, ?_, ?_, ?_, ?_, ?_⟩ <;> decide +kernel)),
    (h main_arg18 (by decide)).trans (final_unwritten m c (by refine ⟨?_, ?_, ?_, ?_, ?_⟩ <;> decide +kernel) (by refine ⟨?_, ?_, ?_, ?_, ?_, ?_, ?_⟩ <;> decide +kernel) (by refine ⟨?_, ?_, ?_, ?_, ?_, ?_⟩ <;> decide +kernel)),
    (h main_arg19 (by decide)).trans (final_unwritten m c (by refine ⟨?_, ?_, ?_, ?_, ?_⟩ <;> decide +kernel) (by refine ⟨?_, ?_, ?_, ?_, ?_, ?_, ?_⟩ <;> decide +kernel) (by refine ⟨?_, ?_, ?_, ?_, ?_, ?_⟩ <;> decide +kernel)),
    (h main_arg20 (by decide)).trans (final_unwritten m c (by refine ⟨?_, ?_, ?_, ?_, ?_⟩ <;> decide +kernel) (by refine ⟨?_, ?_, ?_, ?_, ?_, ?_, ?_⟩ <;> decide +kernel) (by refine ⟨?_, ?_, ?_, ?_, ?_, ?_⟩ <;> decide +kernel)),
    (h main_arg21 (by decide)).trans (final_unwritten m c (by refine ⟨?_, ?_, ?_, ?_, ?_⟩ <;> decide +kernel) (by refine ⟨?_, ?_, ?_, ?_, ?_, ?_, ?_⟩ <;> decide +kernel) (by refine ⟨?_, ?_, ?_, ?_, ?_, ?_⟩ <;> decide +kernel)),
    (h main_arg22 (by decide)).trans (final_unwritten m c (by refine ⟨?_, ?_, ?_, ?_, ?_⟩ <;> decide +kernel) (by refine ⟨?_, ?_, ?_, ?_, ?_, ?_, ?_⟩ <;> decide +kernel) (by refine ⟨?_, ?_, ?_, ?_, ?_, ?_⟩ <;> decide +kernel)),
    (h main_arg23 (by decide)).trans (final_unwritten m c (by refine ⟨?_, ?_, ?_, ?_, ?_⟩ <;> decide +kernel) (by refine ⟨?_, ?_, ?_, ?_, ?_, ?_, ?_⟩ <;> decide +kernel) (by refine ⟨?_, ?_, ?_, ?_, ?_, ?_⟩ <;> decide +kernel)),
    (h main_arg24 (by decide)).trans (final_unwritten m c (by refine ⟨?_, ?_, ?_, ?_, ?_⟩ <;> decide +kernel) (by refine ⟨?_, ?_, ?_, ?_, ?_, ?_, ?_⟩ <;> decide +kernel) (by refine ⟨?_, ?_, ?_, ?_, ?_, ?_⟩ <;> decide +kernel))⟩

end Cert.ReferenceIdeal.Whole

end
-- ==== Proof.Reference.Gather.lean ====
module

public import proofs.«01_k».proof.Proof.Model.Whole
public import Idealize.ShloMosaic.Lib.DynamicIndex

/-! # Gathers at an index

What a gather of whole rows holds, and one of one element at every place. -/

@[expose] public section

noncomputable section

namespace Cert.ReferenceIdeal.Lookup

open Idealize.ShloMosaic

variable {α : Type}

/-- The dimensions of a gather of whole rows, named by a word at every place. -/
abbrev rowDims (N D A B : ℕ)
    (wf : GatherDims.WF ⟨2, ![N, D]⟩ ⟨3, ![A, B, 1]⟩ ⟨3, ![A, B, D]⟩ [2] [0] [] [0] [] 2 ![1, D]) :
    GatherDims ⟨2, ![N, D]⟩ ⟨3, ![A, B, 1]⟩ ⟨3, ![A, B, D]⟩ where
  offsetDims := [2]
  collapsedSliceDims := [0]
  operandBatchingDims := []
  startIndicesBatchingDims := []
  startIndexMap := [0]
  indexVectorDim := 2
  sliceSizes := ![1, D]
  wf := wf

/-- A gather of whole rows holds at a place the row that the word there names, held inside the table. -/
theorem rows_at {N D A B w : ℕ} (hN : 0 < N) (wf) (x : (⟨2, ![N, D]⟩ : Shape).Idx → α)
    (idx : IVec ⟨3, ![A, B, 1]⟩ w) (a : Fin A) (b : Fin B) (j : Fin D) :
    Host.gather (rowDims N D A B wf) x idx (ix3 a b j)
      = x (ix2 ⟨min (idx (ix3 a b 0)).toInt.toNat (N - 1), by omega⟩ j) := by
  unfold Host.gather
  congr 1
  funext i
  refine Fin.ext ?_
  show (rowDims N D A B wf).start (ix3 a b j) idx i + (rowDims N D A B wf).batchCoord (ix3 a b j) i
      + (rowDims N D A B wf).offCoord (ix3 a b j) i = _
  rw [GatherDims.batchCoord_eq_zero _ _ _ List.not_mem_nil]
  have h01 : i = 0 ∨ i = 1 := by
    match i with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D A B wf).startIndexMap from List.mem_singleton.mpr rfl)]
    have hsi : (rowDims N D A B wf).siIdx (ix3 a b j) ⟨List.idxOf (0 : Fin 2) (rowDims N D A B wf).startIndexMap,
        List.idxOf_lt_length_iff.2 (List.mem_singleton.mpr rfl)⟩ = ix3 a b 0 := by
      funext k; refine Fin.ext ?_
      match k with
      | ⟨0, _⟩ => rfl
      | ⟨1, _⟩ => rfl
      | ⟨2, _⟩ => rfl
    rw [hsi]
    rfl
  · unfold GatherDims.start GatherDims.offCoord
    rw [dif_neg (show ¬ (1 : Fin 2) ∈ (rowDims N D A B wf).startIndexMap from by simp),
      dif_pos (show (1 : Fin 2) ∈ (rowDims N D A B wf).sKept from (GatherDims.mem_sKept _ _).mpr ⟨by simp, by simp⟩)]
    simp only [Nat.zero_add]
    rfl

/-- The dimensions of a gather of one element at every place, named by a word there. -/
abbrev pickDims (A B C : ℕ)
    (wf : GatherDims.WF ⟨3, ![A, B, C]⟩ ⟨4, ![A, B, 1, 1]⟩ ⟨3, ![A, B, 1]⟩ [] [2] [0, 1] [2] [0, 1] 3 ![1, 1, 1]) :
    GatherDims ⟨3, ![A, B, C]⟩ ⟨4, ![A, B, 1, 1]⟩ ⟨3, ![A, B, 1]⟩ where
  offsetDims := []
  collapsedSliceDims := [2]
  operandBatchingDims := [0, 1]
  startIndicesBatchingDims := [0, 1]
  startIndexMap := [2]
  indexVectorDim := 3
  sliceSizes := ![1, 1, 1]
  wf := wf

/-- A gather of one element at every place holds the one that the word there names, held inside the axis. -/
theorem pick_at {A B C w : ℕ} (hC : 0 < C) (wf) (x : (⟨3, ![A, B, C]⟩ : Shape).Idx → α)
    (idx : IVec ⟨4, ![A, B, 1, 1]⟩ w) (a : Fin A) (b : Fin B) (k : Fin 1) :
    Host.gather (pickDims A B C wf) x idx (ix3 a b k)
      = x (ix3 a b ⟨min (idx (ix4 a b 0 0)).toInt.toNat (C - 1), by omega⟩) := by
  obtain rfl := Fin.fin_one_eq_zero k
  unfold Host.gather
  congr 1
  funext i
  refine Fin.ext ?_
  show (pickDims A B C wf).start (ix3 a b 0) idx i + (pickDims A B C wf).batchCoord (ix3 a b 0) i
      + (pickDims A B C wf).offCoord (ix3 a b 0) i = _
  have hb : ∀ i : Fin 3, i ∈ (pickDims A B C wf).operandBatchingDims →
      (pickDims A B C wf).start (ix3 a b 0) idx i = 0 ∧ (pickDims A B C wf).offCoord (ix3 a b 0) i = 0 := fun i h =>
    ⟨GatherDims.start_batching _ _ _ _ h, GatherDims.offCoord_eq_zero _ _ _ fun h' => ((GatherDims.mem_sKept _ _).mp h').2 h⟩
  have h012 : i = 0 ∨ i = 1 ∨ i = 2 := by
    match i with
    | ⟨0, _⟩ => exact Or.inl rfl
    | ⟨1, _⟩ => exact Or.inr (Or.inl rfl)
    | ⟨2, _⟩ => exact Or.inr (Or.inr rfl)
  rcases h012 with rfl | rfl | rfl
  · rw [(hb 0 (by simp)).1, (hb 0 (by simp)).2]
    simp only [Nat.zero_add, Nat.add_zero]
    unfold GatherDims.batchCoord
    rw [dif_pos (by simp)]
    rfl
  · rw [(hb 1 (by simp)).1, (hb 1 (by simp)).2]
    simp only [Nat.zero_add, Nat.add_zero]
    unfold GatherDims.batchCoord
    rw [dif_pos (by simp)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (2 : Fin 3) ∈ (pickDims A B C wf).startIndexMap from List.mem_singleton.mpr rfl)]
    have hsi : (pickDims A B C wf).siIdx (ix3 a b 0) ⟨List.idxOf (2 : Fin 3) (pickDims A B C wf).startIndexMap,
        List.idxOf_lt_length_iff.2 (List.mem_singleton.mpr rfl)⟩ = ix4 a b 0 0 := by
      funext k; refine Fin.ext ?_
      match k with
      | ⟨0, _⟩ => rfl
      | ⟨1, _⟩ => rfl
      | ⟨2, _⟩ => rfl
      | ⟨3, _⟩ => rfl
    rw [hsi]
    rfl

/-- A word below half the words' number, read signed and held inside a table that it lies in, is itself. -/
theorem word_in {N : ℕ} {w : BitVec 32} (h : w.toNat < N) (hN : N ≤ 2 ^ 31) : min w.toInt.toNat (N - 1) = w.toNat := by
  have : w.toInt = w.toNat := BitVec.toInt_eq_toNat_of_lt (by omega)
  rw [this]
  omega

/-- Such a word is not negative. -/
theorem word_nonneg {N : ℕ} {w : BitVec 32} (h : w.toNat < N) (hN : N ≤ 2 ^ 31) : IntOp.cmpi .slt w 0#32 = 0#1 := by
  have : w.toInt = w.toNat := BitVec.toInt_eq_toNat_of_lt (by omega)
  have h0 : ¬ ((w.toNat : ℤ) < 0) := by omega
  simp [IntOp.cmpi, BitVec.slt, this, h0]

/-- A slab of a stack, read at an index. -/
theorem slab_at {A B C k : ℕ} (hk : k < A) (x : (⟨3, ![A, B, C]⟩ : Shape).Idx → α) (start : Fin 3 → ℤ) (h)
    (h0 : start 0 = k) (h1 : start 1 = 0) (h2 : start 2 = 0) (b : Fin B) (c : Fin C) :
    Host.dynamicSlice ⟨3, ![1, B, C]⟩ x start h (ix3 0 b c) = x (ix3 ⟨k, hk⟩ b c) := by
  have hoff : (⟨3, ![A, B, C]⟩ : Shape).Slices ![k, 0, 0] ⟨3, ![1, B, C]⟩ := ⟨rfl, fun a => by
    match a with
    | ⟨0, _⟩ => show k + 1 ≤ A; omega
    | ⟨1, _⟩ => show 0 + B ≤ B; omega
    | ⟨2, _⟩ => show 0 + C ≤ C; omega⟩
  rw [Host.dynamicSlice_eq_extractStridedSlice _ x start ![k, 0, 0] h hoff (fun a => by
    match a with
    | ⟨0, _⟩ => exact h0
    | ⟨1, _⟩ => exact h1
    | ⟨2, _⟩ => exact h2)]
  refine congrArg x (funext fun a => Fin.ext ?_)
  match a with
  | ⟨0, _⟩ => exact Nat.add_zero k
  | ⟨1, _⟩ => exact Nat.zero_add _
  | ⟨2, _⟩ => exact Nat.zero_add _

/-- A stack with one slab replaced, read at an index. -/
theorem slab_put {A B C D k : ℕ} (hk : k < A) (x : (⟨4, ![A, B, C, D]⟩ : Shape).Idx → α)
    (y : (⟨4, ![1, B, C, D]⟩ : Shape).Idx → α) (start : Fin 4 → ℤ) (h)
    (h0 : start 0 = k) (h1 : start 1 = 0) (h2 : start 2 = 0) (h3 : start 3 = 0) (a : Fin A) (b : Fin B) (c : Fin C)
    (d : Fin D) :
    Host.dynamicUpdateSlice x y start h (ix4 a b c d) = if a.val = k then y (ix4 0 b c d) else x (ix4 a b c d) := by
  have e0 : Host.clampedStart ⟨4, ![A, B, C, D]⟩ ⟨4, ![1, B, C, D]⟩ h.1 start 0 = k :=
    Host.clampedStart_of_le _ _ _ _ h0 hk
  have e1 : Host.clampedStart ⟨4, ![A, B, C, D]⟩ ⟨4, ![1, B, C, D]⟩ h.1 start 1 = 0 :=
    Host.clampedStart_of_le _ _ _ _ h1 (Nat.zero_add B).le
  have e2 : Host.clampedStart ⟨4, ![A, B, C, D]⟩ ⟨4, ![1, B, C, D]⟩ h.1 start 2 = 0 :=
    Host.clampedStart_of_le _ _ _ _ h2 (Nat.zero_add C).le
  have e3 : Host.clampedStart ⟨4, ![A, B, C, D]⟩ ⟨4, ![1, B, C, D]⟩ h.1 start 3 = 0 :=
    Host.clampedStart_of_le _ _ _ _ h3 (Nat.zero_add D).le
  rw [Host.dynamicUpdateSlice_apply]
  by_cases e : a.val = k
  · rw [if_pos e, dif_pos (fun i => by
      match i with
      | ⟨0, _⟩ =>
        show Host.clampedStart _ _ h.1 start 0 ≤ a.val ∧ a.val < Host.clampedStart _ _ h.1 start 0 + 1
        omega
      | ⟨1, _⟩ =>
        show Host.clampedStart _ _ h.1 start 1 ≤ b.val ∧ b.val < Host.clampedStart _ _ h.1 start 1 + B
        omega
      | ⟨2, _⟩ =>
        show Host.clampedStart _ _ h.1 start 2 ≤ c.val ∧ c.val < Host.clampedStart _ _ h.1 start 2 + C
        omega
      | ⟨3, _⟩ =>
        show Host.clampedStart _ _ h.1 start 3 ≤ d.val ∧ d.val < Host.clampedStart _ _ h.1 start 3 + D
        omega)]
    refine congrArg y (funext fun i => Fin.ext ?_)
    match i with
    | ⟨0, _⟩ => show a.val - Host.clampedStart _ _ h.1 start 0 = 0; omega
    | ⟨1, _⟩ => show b.val - Host.clampedStart _ _ h.1 start 1 = b.val; omega
    | ⟨2, _⟩ => show c.val - Host.clampedStart _ _ h.1 start 2 = c.val; omega
    | ⟨3, _⟩ => show d.val - Host.clampedStart _ _ h.1 start 3 = d.val; omega
  · rw [if_neg e, dif_neg (fun hin => e (by
      have h' := hin 0
      have h'' : Host.clampedStart ⟨4, ![A, B, C, D]⟩ ⟨4, ![1, B, C, D]⟩ h.1 start 0 ≤ a.val
        ∧ a.val < Host.clampedStart ⟨4, ![A, B, C, D]⟩ ⟨4, ![1, B, C, D]⟩ h.1 start 0 + 1 := h'
      omega))]

end Cert.ReferenceIdeal.Lookup

end
-- ==== Proof.Reference.Stages.lean ====
module

public import proofs.«01_k».proof.Proof.Gen.ReferenceIdeal.Run
public import proofs.«01_k».proof.Proof.Reference.Gather
public import Idealize.ShloMosaic.Lib.StableHlo.ReadAt

/-! # The reference before its loop, a stretch at a time

`V` is what the buffers hold at the start. Each stretch is read off the one before it, element by element, down to the
model's functions. -/

@[expose] public section

noncomputable section

namespace Cert.ReferenceIdeal.Whole

open Idealize.ShloMosaic Idealize.ShloMosaic.TcCoe Idealize.ShloMosaic.StableHlo
open Cert.Model Cert.ReferenceIdeal Cert.ReferenceIdeal.Gen Cert.ReferenceIdeal.Value Cert.ReferenceIdeal.Lookup

/-- `n` operations of the stretch before the loop, from the `i`-th on. -/
abbrev seg (i n : ℕ) : List (HloOp τ sig (Elt Ideal)) := (hostOps0_4.drop i).take n

variable (V : Valuation τ sig (Elt Ideal))

/-- The inputs, as the reference is given them. -/
def inpV : Inp :=
  inpOf (V main_arg0) (V main_arg1) (V main_arg2) (V main_arg3) (V main_arg4) (V main_arg5) (V main_arg6) (V main_arg7)
    (V main_arg8) (V main_arg9) (V main_arg10) (V main_arg11) (V main_arg12) (V main_arg13) (V main_arg14) (V main_arg15)
    (V main_arg16) (V main_arg17) (V main_arg18) (V main_arg19) (V main_arg20) (V main_arg21) (V main_arg22)
    (V main_arg23) (V main_arg24)

/-! ## The stretches -/

/-- The buffers before the students are looked up, -/
def upA : Valuation τ sig (Elt Ideal) := after (hostOps0_2.take 16) (after hostOps0_1 (after hostOps0 V))
/-- with the students looked up, -/
def upB : Valuation τ sig (Elt Ideal) := after ((hostOps0_2.drop 16).take 1) (upA V)
/-- before the skills are looked up, -/
def upC : Valuation τ sig (Elt Ideal) := after (seg 0 12) (after hostOps0_3 (after (hostOps0_2.drop 17) (upB V)))
/-- with the skills looked up, -/
def upD : Valuation τ sig (Elt Ideal) := after (seg 12 1) (upC V)
/-- with the questions, -/
def upE : Valuation τ sig (Elt Ideal) := after (seg 13 21) (upD V)
/-- before the responses are looked up, -/
def upF : Valuation τ sig (Elt Ideal) := after (seg 34 8) (upE V)
/-- with the responses looked up, -/
def upG : Valuation τ sig (Elt Ideal) := after (seg 42 1) (upF V)
/-- with the mixed responses, -/
def upH : Valuation τ sig (Elt Ideal) := after (seg 43 21) (upG V)
/-- with the addresses, -/
def upI : Valuation τ sig (Elt Ideal) := after (seg 64 16) (upH V)
/-- and before the loop. -/
def upJ : Valuation τ sig (Elt Ideal) := after (hostOps0_4.drop 80) (upI V)

/-- The question gate's operations mix the student's embedding with the skill's. -/
theorem mix50 (b : Fin 64) (t : Fin 200) (j : Fin 128) :
    after (seg 13 21) V main_v50 (ix3 b t j) = mix (fun j => V main_v19 (ix3 b t j)) (fun j => V main_v32 (ix3 b t j))
      (fun i => V main_arg13 (ix2 i 0)) (V main_arg14 (ix1 0)) j := by
  after_reads_at
  rfl

/-- The response gate's operations mix the student's embedding with the response's. -/
theorem mix75 (b : Fin 64) (t : Fin 200) (j : Fin 128) :
    after (seg 43 21) V main_v75 (ix3 b t j) = mix (fun j => V main_v19 (ix3 b t j)) (fun j => V main_v57 (ix3 b t j))
      (fun i => V main_arg15 (ix2 i 0)) (V main_arg16 (ix1 0)) j := by
  after_reads_at
  rfl

/-- The word of minus infinity. -/
theorem ninf : Ideal.ofBits .f32 0xFF800000#32 = ⊥ := rfl

/-- The softmax's operations weigh the 50 slots by their scores. -/
theorem soft88 (b : Fin 64) (t : Fin 200) (i : Fin 50) :
    after (seg 64 16) V main_v88 (ix3 b t i)
      = soft (score (fun j => V main_v50 (ix3 b t j)) (fun i j => V main_arg11 (ix2 i j))) i := by
  after_reads_at
  rw [ninf, max_eq_right bot_le]
  rfl

/-- The scan's erasures, step first: a sigmoid of an affine map of the responses. -/
theorem erase107 (t : Fin 200) (b : Fin 64) (j : Fin 128) :
    after (hostOps0_4.drop 80) V main_v110_1 (ix3 t b j)
      = Ideal.logistic (lin (fun j => V main_v75 (ix3 b t j)) (fun i j => V main_arg17 (ix2 i j))
          (fun j => V main_arg18 (ix1 j)) j) := by
  after_reads_at
  simp only [id_eq]
  pointwise
  rfl

/-- The scan's additions: a hyperbolic tangent of one. -/
theorem add108 (t : Fin 200) (b : Fin 64) (j : Fin 128) :
    after (hostOps0_4.drop 80) V main_v110_2 (ix3 t b j)
      = Ideal.tanh (lin (fun j => V main_v75 (ix3 b t j)) (fun i j => V main_arg19 (ix2 i j))
          (fun j => V main_arg20 (ix1 j)) j) := by
  after_reads_at
  simp only [id_eq]
  pointwise
  rfl

/-- The scan's weights are the softmax's, step first. -/
theorem addr106 (t : Fin 200) (b : Fin 64) (i : Fin 50) :
    after (hostOps0_4.drop 80) V main_v110_0 (ix3 t b i) = V main_v88 (ix3 b t i) := by
  after_reads_at
  simp only [id_eq]
  pointwise

/-- The scan's memory starts with the given one for every student. -/
theorem start105 (b : Fin 64) (i : Fin 50) (j : Fin 128) :
    after (hostOps0_4.drop 80) V main_v110_4 (ix3 b i j) = V main_arg12 (ix2 i j) := by
  after_reads_at
  simp only [id_eq]
  pointwise

/-- The students' embeddings. -/
theorem emb10 (i : Fin 4000) (j : Fin 128) : upA V main_v10 (ix2 i j) = emb (inpV V) i j := by
  unfold upA
  after_reads_at
  rfl

/-- A word that is not negative is looked up as it is. -/
theorem wrap {N : ℕ} {w : BitVec 32} (h : w.toNat < N) (hN : N ≤ 2 ^ 31) (v : BitVec 32) :
    Scalar.select (IntOp.cmpi .slt w 0#32) v w = w := by
  rw [word_nonneg h hN]; rfl

variable {V}

/-- The index of the student's look-up is the student's number less one. -/
theorem word18 (h : Valid (inpV V)) (b : Fin 64) (t : Fin 200) :
    upA V main_v18 (ix3 b t 0) = (inpV V).stud b t - 1#32 := by
  unfold upA
  after_reads_at
  exact wrap (h.stud b t) (by decide) _

/-- A step's number below 200 is its own. -/
theorem step_self (t : Fin 200) : stepOf t.val = t := Fin.ext (Nat.mod_eq_of_lt t.isLt)

/-- An index inside the table is not clamped. -/
theorem rowAt_min {N : ℕ} (T : Fin N → Row) {w : BitVec 32} (h : w.toNat < N) (hN : N ≤ 2 ^ 31) (hh) :
    T ⟨min w.toInt.toNat (N - 1), hh⟩ = rowAt T w := by
  rw [rowAt_of T h]
  exact congrArg T (Fin.ext (word_in h hN))

/-- The students looked up. -/
theorem stud19 (h : Valid (inpV V)) (b : Fin 64) (t : Fin 200) (j : Fin 128) :
    upB V main_v19 (ix3 b t j) = sAt (inpV V) b t.val j := by
  have e : upB V main_v19 = Host.gather gather_S4000x128_S64x200x1_S64x200x128_2_0_n_n_0_2_1128 (upA V main_v10) (upA V main_v18) := by
    unfold upB
    after_reads_simp
  rw [e]
  refine (rows_at (N := 4000) (by decide) _ (upA V main_v10) (upA V main_v18) b t j).trans ?_
  rw [emb10]
  have hh := rowAt_min (emb (inpV V)) (h.stud b t) (by decide)
  simp only [word18 h]
  unfold sAt
  rw [step_self, ← hh]

end Cert.ReferenceIdeal.Whole

end
-- ==== Proof.Reference.Entry.lean ====
module

public import proofs.«01_k».proof.Proof.Reference.Stages

/-! # What the reference's loop starts from

The questions, the addresses, what is erased and added at every step, and the memory's start: the model's. -/

@[expose] public section

noncomputable section

namespace Cert.ReferenceIdeal.Whole

open Idealize.ShloMosaic Idealize.ShloMosaic.TcCoe Idealize.ShloMosaic.StableHlo
open Cert.Model Cert.ReferenceIdeal Cert.ReferenceIdeal.Gen Cert.ReferenceIdeal.Value Cert.ReferenceIdeal.Lookup

variable {V : Valuation τ sig (Elt Ideal)}

/-! ## Equal arguments -/

/-- Equal rows and weights give equal mixes, -/
theorem mix_of {s s' k k' : Row} {W W' : Fin 256 → EReal} {b b' : EReal} (hs : ∀ j, s j = s' j) (hk : ∀ j, k j = k' j)
    (hW : ∀ i, W i = W' i) (hb : b = b') (j : Fin 128) : mix s k W b j = mix s' k' W' b' j := by
  rw [funext hs, funext hk, funext hW, hb]

/-- equal scores -/
theorem score_of {q q' : Row} {K K' : Fin 50 → Row} (hq : ∀ j, q j = q' j) (hK : ∀ i j, K i j = K' i j) :
    score q K = score q' K' := by
  rw [funext hq, funext fun i => funext (hK i)]

/-- and equal affine maps. -/
theorem lin_of {v v' : Row} {W W' : Fin 128 → Row} {b b' : Row} (hv : ∀ j, v j = v' j) (hW : ∀ i j, W i j = W' i j)
    (hb : ∀ j, b j = b' j) (j : Fin 128) : lin v W b j = lin v' W' b' j := by
  rw [funext hv, funext fun i => funext (hW i), funext hb]

/-! ## The stretches' values -/

/-- The index of the skill's look-up is the skill. -/
theorem word31 (h : Valid (inpV V)) (b : Fin 64) (t : Fin 200) :
    upC V main_v31 (ix3 b t 0) = (inpV V).skill b t := by
  unfold upC upB upA
  after_reads_at
  exact wrap ((h.skill b t).trans (by decide : 200 < 201)) (by decide) _

/-- The skills looked up. -/
theorem skill32 (h : Valid (inpV V)) (b : Fin 64) (t : Fin 200) (j : Fin 128) :
    upD V main_v32 (ix3 b t j) = kAt (inpV V) b t.val j := by
  have e : upD V main_v32 = Host.gather gather_S201x128_S64x200x1_S64x200x128_2_0_n_n_0_2_1128 (V main_arg9) (upC V main_v31) := by
    have e9 : upC V main_arg9 = V main_arg9 := by
      unfold upC upB upA
      after_reads_simp
    rw [← e9]
    unfold upD
    after_reads_simp
  rw [e]
  refine (rows_at (N := 201) (by decide) _ (V main_arg9) (upC V main_v31) b t j).trans ?_
  have hh := rowAt_min (inpV V).kE ((h.skill b t).trans (by decide : 200 < 201)) (by decide)
  simp only [word31 h]
  unfold kAt
  rw [step_self, ← hh]
  rfl

/-- The students' embeddings are kept until the question gate, -/
theorem up19D : upD V main_v19 = upB V main_v19 := by
  unfold upD upC
  after_reads_simp

/-- as are the gate's weights -/
theorem arg13D : upD V main_arg13 = V main_arg13 := by
  unfold upD upC upB upA
  after_reads_simp

/-- and its bias. -/
theorem arg14D : upD V main_arg14 = V main_arg14 := by
  unfold upD upC upB upA
  after_reads_simp

/-- The questions. -/
theorem ques50 (h : Valid (inpV V)) (b : Fin 64) (t : Fin 200) (j : Fin 128) :
    upE V main_v50 (ix3 b t j) = ques (inpV V).θ (sAt (inpV V) b t.val) (kAt (inpV V) b t.val) j := by
  unfold upE
  exact (mix50 _ b t j).trans (mix_of (fun j => (congrFun up19D _).trans (stud19 h b t j)) (fun j => skill32 h b t j)
    (fun i => congrFun arg13D _) (congrFun arg14D _) j)

/-- The response's number, as computed, -/
theorem word25 (b : Fin 64) (t : Fin 200) :
    upE V main_v25 (ix2 b t) = respNo ((inpV V).skill b t) ((inpV V).ans b t) := by
  unfold upE upD upC upB upA
  after_reads_at
  simp only [id_eq]
  pointwise
  show (inpV V).skill b t + 200#32 * (Scalar.select (IntOp.cmpi .eq ((inpV V).ans b t) 2#32) 1#32 ((inpV V).ans b t)) = _
  unfold respNo Scalar.select IntOp.cmpi
  by_cases e : (inpV V).ans b t = 2#32
  · simp [e]
  · have e' : ((inpV V).ans b t == 2#32) = false := by simpa using e
    simp [e, e']

/-- and as the index of its look-up. -/
theorem word56 (h : Valid (inpV V)) (b : Fin 64) (t : Fin 200) :
    upF V main_v56 (ix3 b t 0) = respNo ((inpV V).skill b t) ((inpV V).ans b t) := by
  unfold upF
  after_reads_at
  rw [word25]
  exact wrap (h.resp b t) (by decide) _

/-- The responses looked up. -/
theorem resp57 (h : Valid (inpV V)) (b : Fin 64) (t : Fin 200) (j : Fin 128) :
    upG V main_v57 (ix3 b t j) = vAt (inpV V) b t.val j := by
  have e : upG V main_v57 = Host.gather gather_S401x128_S64x200x1_S64x200x128_2_0_n_n_0_2_1128 (V main_arg10) (upF V main_v56) := by
    have e9 : upF V main_arg10 = V main_arg10 := by
      unfold upF upE upD upC upB upA
      after_reads_simp
    rw [← e9]
    unfold upG
    after_reads_simp
  rw [e]
  refine (rows_at (N := 401) (by decide) _ (V main_arg10) (upF V main_v56) b t j).trans ?_
  have hh := rowAt_min (inpV V).vE (h.resp b t) (by decide)
  simp only [word56 h]
  unfold vAt
  rw [step_self, ← hh]
  rfl

/-- The students' embeddings are kept until the response gate, -/
theorem up19G : upG V main_v19 = upB V main_v19 := by
  unfold upG upF upE upD upC
  after_reads_simp

/-- as are the gate's weights -/
theorem arg15G : upG V main_arg15 = V main_arg15 := by
  unfold upG upF upE upD upC upB upA
  after_reads_simp

/-- and its bias. -/
theorem arg16G : upG V main_arg16 = V main_arg16 := by
  unfold upG upF upE upD upC upB upA
  after_reads_simp

/-- The mixed responses. -/
theorem resp75 (h : Valid (inpV V)) (b : Fin 64) (t : Fin 200) (j : Fin 128) :
    upH V main_v75 (ix3 b t j) = resp (inpV V).θ (sAt (inpV V) b t.val) (vAt (inpV V) b t.val) j := by
  unfold upH
  exact (mix75 _ b t j).trans (mix_of (fun j => (congrFun up19G _).trans (stud19 h b t j)) (fun j => resp57 h b t j)
    (fun i => congrFun arg15G _) (congrFun arg16G _) j)

/-- The questions are kept until the softmax, -/
theorem up50H : upH V main_v50 = upE V main_v50 := by
  unfold upH upG upF
  after_reads_simp

/-- as are the keys. -/
theorem arg11H : upH V main_arg11 = V main_arg11 := by
  unfold upH upG upF upE upD upC upB upA
  after_reads_simp

/-- The addresses. -/
theorem addr88 (h : Valid (inpV V)) (b : Fin 64) (t : Fin 200) (i : Fin 50) :
    upI V main_v88 (ix3 b t i) = addr (inpV V).θ (sAt (inpV V) b t.val) (kAt (inpV V) b t.val) i := by
  unfold upI
  exact (soft88 _ b t i).trans (congrFun (congrArg soft (score_of
    (fun j => (congrFun up50H _).trans (ques50 h b t j)) (fun i j => congrFun arg11H _))) i)

/-- The responses are kept until the scan's inputs are made, -/
theorem up75I : upI V main_v75 = upH V main_v75 := by
  unfold upI
  after_reads_simp

/-- as are the arguments that these are made from. -/
theorem argI {r : Ref sig .tc} (h : r ∈ [main_arg12, main_arg17, main_arg18, main_arg19, main_arg20]) :
    upI V r = V r := by
  simp only [List.mem_cons, List.not_mem_nil, or_false] at h
  rcases h with rfl | rfl | rfl | rfl | rfl <;>
  · unfold upI upH upG upF upE upD upC upB upA
    after_reads_simp

/-! ## What the loop carries, and what is used after it -/

/-- The scan is handed the model's addressing weights, -/
theorem start_addr (h : Valid (inpV V)) (t : Fin 200) (b : Fin 64) (i : Fin 50) :
    upJ V main_v110_0 (ix3 t b i) = addr (inpV V).θ (sAt (inpV V) b t.val) (kAt (inpV V) b t.val) i := by
  unfold upJ
  rw [addr106, addr88 h]

/-- its erasures, -/
theorem start_erase (h : Valid (inpV V)) (t : Fin 200) (b : Fin 64) (j : Fin 128) :
    upJ V main_v110_1 (ix3 t b j) = erase (inpV V).θ (sAt (inpV V) b t.val) (vAt (inpV V) b t.val) j := by
  unfold upJ
  exact (erase107 _ t b j).trans (congrArg Ideal.logistic (lin_of (fun j => (congrFun up75I _).trans (resp75 h b t j))
    (fun i j => congrFun (argI (by simp)) _) (fun j => congrFun (argI (by simp)) _) j))

/-- its additions -/
theorem start_add (h : Valid (inpV V)) (t : Fin 200) (b : Fin 64) (j : Fin 128) :
    upJ V main_v110_2 (ix3 t b j) = add (inpV V).θ (sAt (inpV V) b t.val) (vAt (inpV V) b t.val) j := by
  unfold upJ
  exact (add108 _ t b j).trans (congrArg Ideal.tanh (lin_of (fun j => (congrFun up75I _).trans (resp75 h b t j))
    (fun i j => congrFun (argI (by simp)) _) (fun j => congrFun (argI (by simp)) _) j))

/-- and its memory's start. -/
theorem start_mem (b : Fin 64) (i : Fin 50) (j : Fin 128) : upJ V main_v110_4 (ix3 b i j) = (inpV V).θ.Mv i j := by
  unfold upJ
  rw [start105, argI (by simp)]
  rfl

/-- The weights are kept for the read-out, -/
theorem kept_addr (h : Valid (inpV V)) (b : Fin 64) (t : Fin 200) (i : Fin 50) :
    upJ V main_v88 (ix3 b t i) = addr (inpV V).θ (sAt (inpV V) b t.val) (kAt (inpV V) b t.val) i := by
  have e : upJ V main_v88 = upI V main_v88 := by
    unfold upJ
    after_reads_simp
  rw [e, addr88 h]

/-- and so are the questions. -/
theorem kept_ques (h : Valid (inpV V)) (b : Fin 64) (t : Fin 200) (j : Fin 128) :
    upJ V main_v50 (ix3 b t j) = ques (inpV V).θ (sAt (inpV V) b t.val) (kAt (inpV V) b t.val) j := by
  have e : upJ V main_v50 = upE V main_v50 := by
    unfold upJ upI upH upG upF
    after_reads_simp
  rw [e, ques50 h]

/-- The stretches are the reference's, in order. -/
theorem upJ_eq (m : (ℓ : Loc nD τ sig) → Buf (Elt Ideal) ℓ) (c : Dev nD) :
    entryContents preI m c = upJ fun b => m (c, b) := rfl

end Cert.ReferenceIdeal.Whole

end
-- ==== Proof.Reference.Loop.lean ====
module

public import proofs.«01_k».proof.Proof.Reference.Entry
public import proofs.«01_k».proof.Proof.Reference.Frame

/-! # The reference's loop

Before its `k`-th trip the memory is the model's at step `k`, and the memories of the steps before are stacked. -/

@[expose] public section

noncomputable section

namespace Cert.ReferenceIdeal.Whole

open Idealize.ShloMosaic Idealize.ShloMosaic.TcCoe Idealize.ShloMosaic.StableHlo
open Cert.Model Cert.ReferenceIdeal Cert.ReferenceIdeal.Gen Cert.ReferenceIdeal.Value Cert.ReferenceIdeal.Lookup

/-- One place of the memory after a step, of what was there, its address, and what is erased and added. -/
def stepped (m w e a : EReal) : EReal := m * (1 - w * e) + w * a

section Trip

variable {V : Valuation τ sig (Elt Ideal)} {k : ℕ} (hk : k < 200)
  (hc : V main_v110_3 = fun _ => BitVec.ofNat 32 k)

/-- Where a trip's slab begins. -/
abbrev start3 (V : Valuation τ sig (Elt Ideal)) : Fin 3 → ℤ := fun k =>
  ((![V main_v110_3, constantI S_ 32 0#32, constantI S_ 32 0#32] : Fin 3 → (⟨S_, .i32⟩ : BufTy).Contents (Elt Ideal)) k
    (Shape.Idx.first h_S_)).toInt

include hk hc in
/-- The word the loop's counter holds is the trip's number. -/
theorem start3_at : start3 V 0 = k := by
  show BitVec.toInt (V main_v110_3 (Shape.Idx.first h_S_)) = k
  rw [hc]
  exact toInt_ofNat_of_lt (by omega)

include hk hc in
/-- A trip's slab of one of the three stacks that the loop reads. -/
theorem cut {n : ℕ} (x : (⟨3, ![200, 64, n]⟩ : Shape).Idx → EReal) (h) :
    Host.dynamicSlice ⟨3, ![1, 64, n]⟩ x (start3 V) h = fun i => x (ix3 ⟨k, hk⟩ (i 1) (i 2)) := by
  funext i
  have hi : i = ix3 0 (i 1) (i 2) := by
    funext a
    match a with
    | ⟨0, _⟩ => exact Fin.fin_one_eq_zero _
    | ⟨1, _⟩ => rfl
    | ⟨2, _⟩ => rfl
  conv_lhs => rw [hi]
  exact slab_at hk x (start3 V) h (start3_at hk hc) rfl rfl (i 1) (i 2)

include hk hc in
/-- A trip's step of the memory. -/
theorem trip_mem (b : Fin 64) (i : Fin 50) (j : Fin 128) :
    afterL bodyI V main_v110_4 (ix3 b i j)
      = stepped (V main_v110_4 (ix3 b i j)) (V main_v110_0 (ix3 ⟨k, hk⟩ b i)) (V main_v110_1 (ix3 ⟨k, hk⟩ b j))
          (V main_v110_2 (ix3 ⟨k, hk⟩ b j)) := by
  unfold stepped
  rw [congrFun (trip_main_v110_4 V) _]
  simp only [id_eq]
  unfold res_main_while0b_v137
  have h0 := cut hk hc (n := 50) (V main_v110_0) sliceFits_S200x64x50_S1x64x50
  have h1 := cut hk hc (n := 128) (V main_v110_1) sliceFits_S200x64x128_S1x64x128
  have h2 := cut hk hc (n := 128) (V main_v110_2) sliceFits_S200x64x128_S1x64x128
  erw [h0, h1, h2]
  pointwise

include hk hc in
/-- A trip stacks the memory it starts from. -/
theorem trip_stack (t : Fin 200) (b : Fin 64) (i : Fin 50) (j : Fin 128) :
    afterL bodyI V main_v110_5 (ix4 t b i j)
      = if t.val = k then V main_v110_4 (ix3 b i j) else V main_v110_5 (ix4 t b i j) := by
  rw [congrFun (trip_main_v110_5 V) _]
  simp only [id_eq]
  refine (slab_put hk (V main_v110_5) _ _ _ ?_ rfl rfl rfl t b i j).trans ?_
  · show BitVec.toInt (V main_v110_3 (Shape.Idx.first h_S_)) = k
    rw [hc]
    exact toInt_ofNat_of_lt (by omega)
  · pointwise

end Trip

variable (m : (ℓ : Loc nD τ sig) → Buf (Elt Ideal) ℓ) (c : Dev nD)

/-- What the reference is given. -/
abbrev inpR : Inp := inpV fun b => m (c, b)

/-- The memory's place in the model: the student's at `b`. -/
abbrev memR (b : Fin 64) (k : ℕ) : Fin 50 → Row :=
  memory (inpR m c).θ (sAt (inpR m c) b) (kAt (inpR m c) b) (vAt (inpR m c) b) k

/-- Before the `k`-th trip. -/
abbrev before (k : ℕ) : Valuation τ sig (Elt Ideal) := after condOps (atK m k c)

/-- The loop's condition leaves everything else as it is. -/
theorem before_keeps (k : ℕ) {r : Ref sig .tc} (h : r ∉ condOps_W) : before m c k r = atK m k c r :=
  StableHlo.after_of_writes_sub condOps _ condOps_writes h

/-- Before the `k`-th trip the counter holds `k`. -/
theorem before_ctr (k : ℕ) : before m c k main_v110_3 = fun _ => BitVec.ofNat 32 k := by
  rw [before_keeps m c k (by decide), atK_ctr]
  funext _
  unfold Scf.iv
  simp

/-- What the loop doesn't write is before every trip as the loop was entered with it. -/
theorem before_given (k : ℕ) {r : Ref sig .tc} (h : tripW r) : before m c k r = upJ (fun b => m (c, b)) r :=
  (before_keeps m c k h.1).trans ((atK_unwritten m c h k).trans (by rw [upJ_eq]))

variable {m c}

/-- Before the `k`-th trip the memory is the model's after `k` steps. -/
theorem atK_mem (h : Valid (inpR m c)) (b : Fin 64) (i : Fin 50) (j : Fin 128) :
    ∀ k ≤ 200, atK m k c main_v110_4 (ix3 b i j) = memR m c b k i j
  | 0, _ => start_mem b i j
  | k + 1, hk => by
    show afterL bodyI (before m c k) main_v110_4 (ix3 b i j) = _
    rw [trip_mem hk (before_ctr m c k), before_given m c k (r := main_v110_0) (by decide +kernel),
      before_given m c k (r := main_v110_1) (by decide +kernel), before_given m c k (r := main_v110_2) (by decide +kernel),
      start_addr h, start_erase h, start_add h, before_keeps m c k (by decide), atK_mem h b i j k (by omega)]
    rfl

/-- Before the `k`-th trip the stack holds the model's memory of every step before `k`. -/
theorem atK_stack (h : Valid (inpR m c)) (t : Fin 200) (b : Fin 64) (i : Fin 50) (j : Fin 128) :
    ∀ k ≤ 200, t.val < k → atK m k c main_v110_5 (ix4 t b i j) = memR m c b t.val i j
  | 0, _, ht => absurd ht (by omega)
  | k + 1, hk, ht => by
    show afterL bodyI (before m c k) main_v110_5 (ix4 t b i j) = _
    rw [trip_stack hk (before_ctr m c k), before_keeps m c k (r := main_v110_4) (by decide),
      before_keeps m c k (r := main_v110_5) (by decide)]
    by_cases e : t.val = k
    · rw [if_pos e, atK_mem h b i j k (by omega), e]
    · rw [if_neg e]
      exact atK_stack h t b i j k (by omega) (by omega)

end Cert.ReferenceIdeal.Whole

end
-- ==== Proof.Reference.Post.lean ====
module

public import proofs.«01_k».proof.Proof.Reference.Loop

/-! # The reference after its loop -/

@[expose] public section

noncomputable section

namespace Cert.ReferenceIdeal.Whole

open Idealize.ShloMosaic Idealize.ShloMosaic.TcCoe Idealize.ShloMosaic.StableHlo
open Cert.Model Cert.ReferenceIdeal Cert.ReferenceIdeal.Gen Cert.ReferenceIdeal.Value Cert.ReferenceIdeal.Lookup

variable (V : Valuation τ sig (Elt Ideal))

/-! ## A skill in range -/

section Word

variable {w : BitVec 32} (h : w.toNat < 200)

include h in
/-- A small word is the same number signed and unsigned. -/
theorem word_int : w.toInt = w.toNat := BitVec.toInt_eq_toNat_of_lt (by omega)

include h in
/-- Held between 0 and 199 it is itself. -/
theorem clip : IntOp.minsi 199#32 (IntOp.maxsi 0#32 w) = w := by
  have e := word_int h
  have h1 : IntOp.maxsi 0#32 w = w := by
    unfold IntOp.maxsi
    simp [BitVec.sle, BitVec.slt, e]
  rw [h1]
  unfold IntOp.minsi
  simp [BitVec.sle, BitVec.slt, e]
  exact fun h' => absurd h' (by omega)

include h in
/-- It is between 0 and 199. -/
theorem inside : IntOp.andi (IntOp.cmpi .sge w 0#32) (IntOp.cmpi .sle w 199#32) = 1#1 := by
  have e := word_int h
  have h1 : w.toNat ≤ 199 := by omega
  simp [IntOp.andi, IntOp.cmpi, BitVec.sle, e, h1]

include h in
/-- It is not the padding's. -/
theorem not_padding : IntOp.cmpi .eq w 200#32 = 0#1 := by
  have e : (w == 200#32) = false := by
    simp only [beq_eq_false_iff_ne]
    intro e
    rw [e] at h
    exact absurd h (by decide)
  unfold IntOp.cmpi
  simp [e]

end Word

/-- With what is read from the memories, -/
def dnA : Valuation τ sig (Elt Ideal) := after (hostOps0_5.take 1) V
/-- with the probabilities, -/
def dnB : Valuation τ sig (Elt Ideal) := after (hostOps0_5.drop 1) (dnA V)
/-- with the next skills, -/
def dnC : Valuation τ sig (Elt Ideal) := after hostOps0_7 (after hostOps0_6 (dnB V))
/-- with the next skills as they are looked up, -/
def dnD : Valuation τ sig (Elt Ideal) := after (hostOps0_8.take 8) (dnC V)
/-- with their being in range, -/
def dnE : Valuation τ sig (Elt Ideal) := after ((hostOps0_8.drop 8).take 10) (dnD V)
/-- with their probabilities, -/
def dnF : Valuation τ sig (Elt Ideal) := after ((hostOps0_8.drop 18).take 1) (dnE V)
/-- with those that are in range, -/
def dnG : Valuation τ sig (Elt Ideal) := after (hostOps0_8.drop 19) (dnF V)
/-- and at the end. -/
def dnH : Valuation τ sig (Elt Ideal) := after hostOps0_10 (after hostOps0_9 (dnG V))

/-- The operations after the loop, all together. -/
theorem dnH_eq : afterL postI V = dnH V := rfl

/-- What every step reads. -/
theorem read111 (b : Fin 64) (t : Fin 200) (j : Fin 128) :
    dnA V main_v111 (ix3 b t j)
      = read (fun i => V main_v88 (ix3 b t i)) (fun i j => V main_v110_5 (ix4 t b i j)) j := by
  unfold dnA
  after_reads_at
  rfl

/-- The probabilities at every step, -/
theorem prob127 (b : Fin 64) (t : Fin 200) (n : Fin 200) :
    after (hostOps0_5.drop 1) V main_v127 (ix3 b t n)
      = prob (fun j => V main_v111 (ix3 b t j)) (fun j => V main_v50 (ix3 b t j)) (fun i j => V main_arg21 (ix2 i j))
          (fun j => V main_arg22 (ix1 j)) (fun i j => V main_arg23 (ix2 i j)) (fun j => V main_arg24 (ix1 j)) n := by
  after_reads_at
  rfl

/-- and at every step but the last. -/
theorem prob128 (b : Fin 64) (t : Fin 199) (n : Fin 200) :
    after (hostOps0_5.drop 1) V main_v128 (ix3 b t n)
      = prob (fun j => V main_v111 (ix3 b ⟨t.val, by omega⟩ j)) (fun j => V main_v50 (ix3 b ⟨t.val, by omega⟩ j))
          (fun i j => V main_arg21 (ix2 i j))
          (fun j => V main_arg22 (ix1 j)) (fun i j => V main_arg23 (ix2 i j)) (fun j => V main_arg24 (ix1 j)) n := by
  after_reads_at
  rfl

/-- The next step's skill, -/
theorem skill129 (b : Fin 64) (t : Fin 199) : dnB V main_v129 (ix2 b t) = V main_arg1 (ix2 b ⟨t.val + 1, by omega⟩) := by
  unfold dnB dnA
  after_reads_at
  exact congrArg (fun i : Fin 200 => V main_arg1 (ix2 b i)) (Fin.ext (Nat.add_comm _ _))

/-- clipped to the skills' range, which changes nothing, -/
theorem skill131 (b : Fin 64) (t : Fin 199)
    (h : (V main_arg1 (ix2 b ⟨t.val + 1, by omega⟩)).toNat < 200) : dnC V main_v131 (ix3 b t 0) = V main_arg1 (ix2 b ⟨t.val + 1, by omega⟩) := by
  unfold dnC dnB dnA
  after_reads_at
  simp only [id_eq]
  pointwise
  have e : (⟨1 + t.val, by omega⟩ : Fin 200) = ⟨t.val + 1, by omega⟩ := Fin.ext (Nat.add_comm _ _)
  exact (congrArg (fun i : Fin 200 => IntOp.minsi 199#32 (IntOp.maxsi 0#32 (V main_arg1 (ix2 b i)))) e).trans (clip h)

/-- and as the index of the look-up along the skills. -/
theorem word5 (b : Fin 64) (t : Fin 199)
    (h : (V main_arg1 (ix2 b ⟨t.val + 1, by omega⟩)).toNat < 200) : dnD V main_call7_v5 (ix4 b t 0 0) = V main_arg1 (ix2 b ⟨t.val + 1, by omega⟩) := by
  unfold dnD
  after_reads_at
  rw [skill131 V b t h]
  exact wrap (N := 200) h (by decide) _

/-- The index is inside the range, so the look-up is not replaced, -/
theorem in12 (b : Fin 64) (t : Fin 199)
    (h : (V main_arg1 (ix2 b ⟨t.val + 1, by omega⟩)).toNat < 200) : dnE V main_call7_v12 (ix3 b t 0) = 1#1 := by
  unfold dnE
  after_reads_at
  have e : ∀ x : Fin 1, IntOp.andi (IntOp.cmpi .sge (dnD V main_call7_v5 (ix4 b t 0 x)) 0#32)
      (IntOp.cmpi .sle (dnD V main_call7_v5 (ix4 b t 0 x)) 199#32) = 1#1 := fun x => by
    obtain rfl := Fin.fin_one_eq_zero x
    rw [word5 V b t h]
    exact inside h
  rw [funext e]
  rfl

/-- and its value is the value found there. -/
theorem pick132 (b : Fin 64) (t : Fin 199)
    (h : (V main_arg1 (ix2 b ⟨t.val + 1, by omega⟩)).toNat < 200) : dnG V main_v132 (ix3 b t 0) = dnF V main_call7_v13 (ix3 b t 0) := by
  unfold dnG
  after_reads_at
  have e : dnF V main_call7_v12 (ix3 b t 0) = 1#1 := by
    have e' : dnF V main_call7_v12 = dnE V main_call7_v12 := by
      unfold dnF
      after_reads_simp
    rw [e', in12 V b t h]
  rw [e]
  rfl

/-- The next skill is none that stands for padding, so the prediction is what was looked up. -/
theorem end136 (b : Fin 64) (t : Fin 199)
    (h : (V main_arg1 (ix2 b ⟨t.val + 1, by omega⟩)).toNat < 200) : dnH V main_v136 (ix2 b t) = dnG V main_v132 (ix3 b t 0) := by
  unfold dnH
  after_reads_at
  have e : dnG V main_v129 (ix2 b t) = V main_arg1 (ix2 b ⟨t.val + 1, by omega⟩) := by
    have e' : dnG V main_v129 = dnB V main_v129 := by
      unfold dnG dnF dnE dnD dnC
      after_reads_simp
    rw [e', skill129]
  rw [e, not_padding h]
  rfl

/-- The value found is the probability of the next skill. -/
theorem pick13 (b : Fin 64) (t : Fin 199)
    (h : (V main_arg1 (ix2 b ⟨t.val + 1, by omega⟩)).toNat < 200) :
    dnF V main_call7_v13 (ix3 b t 0)
      = dnB V main_v128 (ix3 b t ⟨(V main_arg1 (ix2 b ⟨t.val + 1, by omega⟩)).toNat % 200, Nat.mod_lt _ (by decide)⟩) := by
  have e : dnF V main_call7_v13 = Host.gather gather_S64x199x200_S64x199x1x1_S64x199x1_n_2_01_01_2_3_111
      (dnB V main_v128) (dnD V main_call7_v5) := by
    have e1 : dnE V main_v128 = dnB V main_v128 := by
      unfold dnE dnD dnC
      after_reads_simp
    have e2 : dnE V main_call7_v5 = dnD V main_call7_v5 := by
      unfold dnE
      after_reads_simp
    rw [← e1, ← e2]
    unfold dnF
    after_reads_simp
    rfl
  rw [e]
  refine (pick_at (C := 200) (by decide) _ (dnB V main_v128) (dnD V main_call7_v5) b t 0).trans ?_
  have e5 : dnD V main_call7_v5 (ix4 b t 0 0) = V main_arg1 (ix2 b ⟨t.val + 1, by omega⟩) := word5 V b t h
  refine congrArg (fun n : Fin 200 => dnB V main_v128 (ix3 b t n)) (Fin.ext ?_)
  show min (BitVec.toInt (dnD V main_call7_v5 (ix4 b t 0 0))).toNat (200 - 1) = _
  rw [e5, word_in h (by decide)]
  exact (Nat.mod_eq_of_lt h).symm

/-- Equal rows and weights give equal probabilities, -/
theorem prob_of {r r' q q' : Row} {Wf Wf' : Fin 256 → Row} {bf bf' : Row} {Wp Wp' : Fin 128 → Fin 200 → EReal}
    {bp bp' : Fin 200 → EReal} (hr : ∀ j, r j = r' j) (hq : ∀ j, q j = q' j) (hWf : ∀ i j, Wf i j = Wf' i j)
    (hbf : ∀ j, bf j = bf' j) (hWp : ∀ i j, Wp i j = Wp' i j) (hbp : ∀ j, bp j = bp' j) (n : Fin 200) :
    prob r q Wf bf Wp bp n = prob r' q' Wf' bf' Wp' bp' n := by
  rw [funext hr, funext hq, funext fun i => funext (hWf i), funext hbf, funext fun i => funext (hWp i), funext hbp]

/-- and equal weights and memories the same read-out. -/
theorem read_of {w w' : Fin 50 → EReal} {M M' : Fin 50 → Row} (hw : ∀ i, w i = w' i) (hM : ∀ i j, M i j = M' i j)
    (j : Fin 128) : Model.read w M j = Model.read w' M' j := by
  rw [funext hw, funext fun i => funext (hM i)]

/-- Reading the memories changes nothing else of what follows uses. -/
theorem dnA_keeps {r : Ref sig .tc} (h : r ∈ [main_v50, main_arg21, main_arg22, main_arg23, main_arg24]) :
    dnA V r = V r := by
  simp only [List.mem_cons, List.not_mem_nil, or_false] at h
  rcases h with rfl | rfl | rfl | rfl | rfl <;>
  · unfold dnA
    after_reads_simp

variable {m : (ℓ : Loc nD τ sig) → Buf (Elt Ideal) ℓ} {c : Dev nD}

/-- An argument that neither the loop nor what comes before writes is as at the launch. -/
theorem before_arg (k : ℕ) {r : Ref sig .tc} (h₀ : preW r) (h₁ : tripW r) : before m c k r = m (c, r) :=
  (before_keeps m c k h₁.1).trans ((atK_unwritten m c h₁ k).trans (pre_unwritten _ h₀))

/-- The reference's result, element by element: the model's. -/
theorem reference_result (h : Valid (inpR m c)) (b : Fin 64) (t : Fin 199) :
    finalContents condOps preI bodyI postI 200 m c main_v136 (ix2 b t) = result (inpR m c) b t := by
  show afterL postI (before m c 200) main_v136 (ix2 b t) = _
  rw [dnH_eq]
  have ht : t.val < 200 := by omega
  have e1 : before m c 200 main_arg1 (ix2 b ⟨t.val + 1, by omega⟩) = (inpR m c).skill b ⟨t.val + 1, by omega⟩ :=
    congrFun (before_arg 200 (by decide +kernel) (by decide +kernel)) _
  have hw : (before m c 200 main_arg1 (ix2 b ⟨t.val + 1, by omega⟩)).toNat < 200 := by
    rw [e1]; exact h.skill _ _
  rw [end136 _ b t hw, pick132 _ b t hw, pick13 _ b t hw]
  refine (prob128 (dnA (before m c 200)) b t _).trans ?_
  have hn : (⟨(before m c 200 main_arg1 (ix2 b ⟨t.val + 1, by omega⟩)).toNat % 200, Nat.mod_lt _ (by decide)⟩ : Fin 200)
      = nextSkill (inpR m c) b t := Fin.ext (by show _ % 200 = _ % 200; rw [e1])
  rw [hn]
  refine prob_of (fun j => ?_) (fun j => ?_) (fun i j => ?_) (fun j => ?_) (fun i j => ?_) (fun j => ?_) _
  · refine (read111 _ b ⟨t.val, ht⟩ j).trans (read_of (fun i => ?_) (fun i j => ?_) j)
    · exact (congrFun (before_given m c 200 (by decide +kernel)) _).trans (kept_addr h b ⟨t.val, ht⟩ i)
    · rw [before_keeps m c 200 (by decide)]
      exact atK_stack h ⟨t.val, ht⟩ b i j 200 le_rfl ht
  · exact (congrFun ((dnA_keeps _ (by simp)).trans (before_given m c 200 (by decide +kernel))) _).trans
      (kept_ques h b ⟨t.val, ht⟩ j)
  · exact congrFun ((dnA_keeps _ (by simp)).trans (before_arg 200 (by decide +kernel) (by decide +kernel))) _
  · exact congrFun ((dnA_keeps _ (by simp)).trans (before_arg 200 (by decide +kernel) (by decide +kernel))) _
  · exact congrFun ((dnA_keeps _ (by simp)).trans (before_arg 200 (by decide +kernel) (by decide +kernel))) _
  · exact congrFun ((dnA_keeps _ (by simp)).trans (before_arg 200 (by decide +kernel) (by decide +kernel))) _

end Cert.ReferenceIdeal.Whole

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_inputs_drawn
public import proofs.«01_k».proof.Proof.Kernel.Run
public import proofs.«01_k».proof.Proof.KernelIdeal.Run
public import proofs.«01_k».proof.Proof.KernelIdeal.Drawn
public import proofs.«01_k».proof.Proof.Reference.Frame
public import proofs.«01_k».proof.Proof.Reference.Post
public import Idealize.ShloMosaic.Adequacy
public import Idealize.ShloMosaic.Init

@[expose] public section

noncomputable section

namespace Cert.Proof

open Idealize.ShloMosaic Idealize.SL.Sem

/-- The kernel runs to the end, its arguments unchanged and every semaphore at zero. -/
theorem frame_kernel : Cert.quiescent_Kernel := fun m ρ _ =>
  (θ_run Cert.Kernel.defs _ _).mono (fun _ h => ⟨fun c => Cert.Kernel.Body.args_kept m c (h.1 c), h.2⟩)
    (Cert.Kernel.Body.run m ρ)

/-- So does the ideal kernel. -/
theorem frame_ideal : Cert.quiescent_KernelIdeal := fun m ρ _ =>
  (θ_run Cert.KernelIdeal.defs _ _).mono (fun _ h => ⟨fun c => Cert.KernelIdeal.Body.args_kept m c (h.1 c), h.2⟩)
    (Cert.KernelIdeal.Body.run m ρ)

/-- So does the reference. -/
theorem frame_reference : Cert.quiescent_ReferenceIdeal := fun m ρ _ =>
  (θ_run Cert.ReferenceIdeal.defs _ _).mono (fun r h => ⟨fun c => Cert.ReferenceIdeal.Whole.args_kept m c (h c),
      Idealize.ShloMosaic.sem_eq_zero_of_no_sems (by decide) r.2⟩)
    (Cert.ReferenceIdeal.Value.run_fold m ρ)

/-- The constant the ideal kernel names is the one the kernel prints; its name stands for `⊥`. -/
theorem preserves : Cert.preserves_Kernel_KernelIdeal :=
  IdealRules.named_const.statement Cert.KernelIdeal.κ "mask" .f32 0xF149F2CA#32 ⊥ rfl

/-- Launched on the same inputs, valid ones, the two programs leave the same result. -/
theorem results_agree {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ}
    (c : Dev Cert.KernelIdeal.nD) (h : Cert.ReferenceIdeal.Whole.inpR m' c = Cert.KernelIdeal.Body.inp m c)
    (hv : Cert.Model.Valid (Cert.KernelIdeal.Body.inp m c)) :
    StableHlo.finalContents Cert.ReferenceIdeal.Value.condOps Cert.ReferenceIdeal.Value.preI
        Cert.ReferenceIdeal.Value.bodyI Cert.ReferenceIdeal.Value.postI 200 m' c
        (Proc.devRef .tc Cert.ReferenceIdeal.main_v136)
      = Cert.KernelIdeal.Gen.V21 m (Cert.KernelIdeal.Body.outs m) c (Proc.devRef .tc Cert.KernelIdeal.main_v35) := by
  funext i
  obtain ⟨b, t, rfl⟩ : ∃ (b : Fin 64) (t : Fin 199), i = ix2 b t := ⟨i 0, i 1, eq_ix2 i⟩
  exact (Cert.ReferenceIdeal.Whole.reference_result (h ▸ hv) b t).trans
    ((congrArg (fun x => Cert.Model.result x b t) h).trans (Cert.KernelIdeal.Body.kernel_result hv b t).symm)

/-- On inputs the precondition admits, the ideal kernel and the reference run to the end, their arguments unchanged, with
    the same result. -/
theorem algebraic : Cert.algebraic_KernelIdeal_ReferenceIdeal_pre_inputs_drawn := by
  intro m ρ m' ρ' hpre hagree
  refine ⟨fun c => Cert.KernelIdeal.Gen.V21 m (Cert.KernelIdeal.Body.outs m) c
      (Proc.devRef .tc Cert.KernelIdeal.main_v35),
    (θ_run Cert.KernelIdeal.defs _ _).mono (fun _ h c =>
      ⟨h.1 c _ (Cert.KernelIdeal.Body.mem_uc _ (by decide)), Cert.KernelIdeal.Body.args_kept m c (h.1 c)⟩)
      (Cert.KernelIdeal.Body.run m ρ), ?_⟩
  refine (θ_run Cert.ReferenceIdeal.defs _ _).mono (fun r h c =>
      ⟨(h c _ (by decide)).trans (results_agree c ?_ (Cert.KernelIdeal.Drawn.valid hpre c)),
        Cert.ReferenceIdeal.Whole.args_kept m' c (h c)⟩)
    (Cert.ReferenceIdeal.Value.run_fold m' ρ')
  obtain ⟨h0, h1, h2, h3, h4, h5, h6, h7, h8, h9, h10, h11, h12, h13, h14, h15, h16, h17, h18, h19, h20, h21, h22, h23,
    h24⟩ := hagree c
  unfold Cert.ReferenceIdeal.Whole.inpR Cert.ReferenceIdeal.Whole.inpV Cert.KernelIdeal.Body.inp
  congr 1

/-- Everything the certificate claims. -/
theorem claim : Cert.Claim :=
  ⟨Cert.Kernel.Gen.facts, Cert.KernelIdeal.Gen.facts, Cert.ReferenceIdeal.Gen.facts, Cert.Pre_inputs_drawn.Gen.facts,
    frame_kernel, frame_ideal, fun m ρ _ => frame_ideal m ρ trivial, frame_reference,
    fun m ρ _ => frame_reference m ρ trivial, preserves, algebraic⟩

end Cert.Proof

end
